-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_and_distinct [hPre_finite_and_distinct : Cert.Pre_finite_and_distinct.Facts] (m : (ℓ : Loc Cert.KernelIdeal.nD Cert.KernelIdeal.τ Cert.KernelIdeal.sig) → Buf (Elt Ideal) ℓ) : Prop :=
  ∀ c : Dev Cert.KernelIdeal.nD,
    (Cert.Pre_finite_and_distinct.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_and_distinct [hPre_finite_and_distinct : Cert.Pre_finite_and_distinct.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_and_distinct.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ r.2.sem = fun _ => 0)

def quiescent_KernelIdeal_pre_finite_and_distinct [hKernelIdeal : Cert.KernelIdeal.Facts] [hPre_finite_and_distinct : Cert.Pre_finite_and_distinct.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_and_distinct m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))
      ∧ r.2.sem = fun _ => 0)

def quiescent_ReferenceIdeal_pre_finite_and_distinct [hReferenceIdeal : Cert.ReferenceIdeal.Facts] [hPre_finite_and_distinct : Cert.Pre_finite_and_distinct.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_and_distinct m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_and_distinct [hKernelIdeal : Cert.KernelIdeal.Facts] [hReferenceIdeal : Cert.ReferenceIdeal.Facts] [hPre_finite_and_distinct : Cert.Pre_finite_and_distinct.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_and_distinct m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v346) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_and_distinct : Cert.Pre_finite_and_distinct.Facts),
    quiescent_Kernel (hKernel := hKernel)
    ∧ quiescent_KernelIdeal (hKernelIdeal := hKernelIdeal)
    ∧ quiescent_KernelIdeal_pre_finite_and_distinct (hKernelIdeal := hKernelIdeal) (hPre_finite_and_distinct := hPre_finite_and_distinct)
    ∧ quiescent_ReferenceIdeal (hReferenceIdeal := hReferenceIdeal)
    ∧ quiescent_ReferenceIdeal_pre_finite_and_distinct (hReferenceIdeal := hReferenceIdeal) (hPre_finite_and_distinct := hPre_finite_and_distinct)
    ∧ preserves_Kernel_KernelIdeal
    ∧ algebraic_KernelIdeal_ReferenceIdeal_pre_finite_and_distinct (hKernelIdeal := hKernelIdeal) (hReferenceIdeal := hReferenceIdeal) (hPre_finite_and_distinct := hPre_finite_and_distinct)
-- ==== Pre_finite_and_distinct.lean ====
abbrev S1x4096x768 : Shape := ⟨3, ![1, 4096, 768]⟩
abbrev S768 : Shape := ⟨1, ![768]⟩
abbrev S1024x768 : Shape := ⟨2, ![1024, 768]⟩
abbrev S256x768 : Shape := ⟨2, ![256, 768]⟩
abbrev S1x1024x768 : Shape := ⟨3, ![1, 1024, 768]⟩
abbrev S1x256x768 : Shape := ⟨3, ![1, 256, 768]⟩
abbrev S9 : Shape := ⟨1, ![9]⟩
abbrev S_ : Shape := ⟨0, ![]⟩
abbrev S4096 : Shape := ⟨1, ![4096]⟩
abbrev S4096x1 : Shape := ⟨2, ![4096, 1]⟩
abbrev S1x9 : Shape := ⟨2, ![1, 9]⟩
abbrev S4096x9 : Shape := ⟨2, ![4096, 9]⟩
abbrev S4096x9x1 : Shape := ⟨3, ![4096, 9, 1]⟩
abbrev S1x4096x9x768 : Shape := ⟨4, ![1, 4096, 9, 768]⟩
abbrev S1x1x768 : Shape := ⟨3, ![1, 1, 768]⟩
abbrev S1x4096x9 : Shape := ⟨3, ![1, 4096, 9]⟩
abbrev S1x4096 : Shape := ⟨2, ![1, 4096]⟩
abbrev S1x4096x1 : Shape := ⟨3, ![1, 4096, 1]⟩
abbrev S1x1024x4096 : Shape := ⟨3, ![1, 1024, 4096]⟩
abbrev S1x1024x4 : Shape := ⟨3, ![1, 1024, 4]⟩
abbrev S1x1024 : Shape := ⟨2, ![1, 1024]⟩
abbrev S1x1024x1 : Shape := ⟨3, ![1, 1024, 1]⟩
abbrev S1x1024x4x1 : Shape := ⟨4, ![1, 1024, 4, 1]⟩
abbrev S1x1024x4x768 : Shape := ⟨4, ![1, 1024, 4, 768]⟩
abbrev S1x1024x1024 : Shape := ⟨3, ![1, 1024, 1024]⟩
abbrev S1x256x1024 : Shape := ⟨3, ![1, 256, 1024]⟩
abbrev S1x256x4 : Shape := ⟨3, ![1, 256, 4]⟩
abbrev S1x256 : Shape := ⟨2, ![1, 256]⟩
abbrev S1x256x1 : Shape := ⟨3, ![1, 256, 1]⟩
abbrev S1x256x4x1 : Shape := ⟨4, ![1, 256, 4, 1]⟩
abbrev S1x256x4x768 : Shape := ⟨4, ![1, 256, 4, 768]⟩
abbrev S1x256x256 : Shape := ⟨3, ![1, 256, 256]⟩
abbrev S1x1024x5 : Shape := ⟨3, ![1, 1024, 5]⟩
abbrev S1x256x5 : Shape := ⟨3, ![1, 256, 5]⟩
abbrev S1x4096x256 : Shape := ⟨3, ![1, 4096, 256]⟩
abbrev S1x4096x5 : Shape := ⟨3, ![1, 4096, 5]⟩
abbrev S1x4096x4 : Shape := ⟨3, ![1, 4096, 4]⟩

class Facts : Prop where
  bcast_S1024x768_S1x1024x768_1_2 : S1024x768.BroadcastsInDim S1x1024x768 (![1, 2] : Fin 2 → Fin S1x1024x768.rank)
  bcast_S256x768_S1x256x768_1_2 : S256x768.BroadcastsInDim S1x256x768 (![1, 2] : Fin 2 → Fin S1x256x768.rank)
  bcast_S_S9 : S_.BroadcastsInDim S9 (![] : Fin 0 → Fin S9.rank)
  bcast_S4096_S4096x1_0 : S4096.BroadcastsInDim S4096x1 (![0] : Fin 1 → Fin S4096x1.rank)
  bcast_S9_S1x9_1 : S9.BroadcastsInDim S1x9 (![1] : Fin 1 → Fin S1x9.rank)
  bcast_S4096x1_S4096x9_0_1 : S4096x1.BroadcastsInDim S4096x9 (![0, 1] : Fin 2 → Fin S4096x9.rank)
  bcast_S1x9_S4096x9_0_1 : S1x9.BroadcastsInDim S4096x9 (![0, 1] : Fin 2 → Fin S4096x9.rank)
  bcast_S_S4096x9 : S_.BroadcastsInDim S4096x9 (![] : Fin 0 → Fin S4096x9.rank)
  bcast_S4096x9_S4096x9x1_0_1 : S4096x9.BroadcastsInDim S4096x9x1 (![0, 1] : Fin 2 → Fin S4096x9x1.rank)
  bcast_S768_S1x1x768_2 : S768.BroadcastsInDim S1x1x768 (![2] : Fin 1 → Fin S1x1x768.rank)
  bcast_S1x1x768_S1x4096x768_0_1_2 : S1x1x768.BroadcastsInDim S1x4096x768 (![0, 1, 2] : Fin 3 → Fin S1x4096x768.rank)
  bcast_S4096x9_S1x4096x9_1_2 : S4096x9.BroadcastsInDim S1x4096x9 (![1, 2] : Fin 2 → Fin S1x4096x9.rank)
  bcast_S_S1x4096x9 : S_.BroadcastsInDim S1x4096x9 (![] : Fin 0 → Fin S1x4096x9.rank)
  reducesTo_S1x4096x9_S1x4096_d2 : S1x4096x9.ReducesTo [2] S1x4096
  h_S_ : 0 < S_.numel
  bcast_S_S1x4096 : S_.BroadcastsInDim S1x4096 (![] : Fin 0 → Fin S1x4096.rank)
  bcast_S1x4096_S1x4096x1_0_1 : S1x4096.BroadcastsInDim S1x4096x1 (![0, 1] : Fin 2 → Fin S1x4096x1.rank)
  bcast_S1x4096x1_S1x4096x9_0_1_2 : S1x4096x1.BroadcastsInDim S1x4096x9 (![0, 1, 2] : Fin 3 → Fin S1x4096x9.rank)
  bcast_S_S1x4096x768 : S_.BroadcastsInDim S1x4096x768 (![] : Fin 0 → Fin S1x4096x768.rank)
  bcast_S1x1x768_S1x1024x768_0_1_2 : S1x1x768.BroadcastsInDim S1x1024x768 (![0, 1, 2] : Fin 3 → Fin S1x1024x768.rank)
  sliceFits_S1x1024x4096_S1x1024x4 : S1x1024x4096.Slices (fun _ => 0) S1x1024x4
  reducesTo_S1x1024x4_S1x1024_d2 : S1x1024x4.ReducesTo [2] S1x1024
  bcast_S_S1x1024 : S_.BroadcastsInDim S1x1024 (![] : Fin 0 → Fin S1x1024.rank)
  bcast_S1x1024_S1x1024x1_0_1 : S1x1024.BroadcastsInDim S1x1024x1 (![0, 1] : Fin 2 → Fin S1x1024x1.rank)
  bcast_S1x1024x1_S1x1024x4_0_1_2 : S1x1024x1.BroadcastsInDim S1x1024x4 (![0, 1, 2] : Fin 3 → Fin S1x1024x4.rank)
  bcast_S_S1x1024x4 : S_.BroadcastsInDim S1x1024x4 (![] : Fin 0 → Fin S1x1024x4.rank)
  bcast_S1x1024x4_S1x1024x4x1_0_1_2 : S1x1024x4.BroadcastsInDim S1x1024x4x1 (![0, 1, 2] : Fin 3 → Fin S1x1024x4x1.rank)
  bcast_S1x1024x4x1_S1x1024x4x768_0_1_2_3 : S1x1024x4x1.BroadcastsInDim S1x1024x4x768 (![0, 1, 2, 3] : Fin 4 → Fin S1x1024x4x768.rank)
  reducesTo_S1x1024x4x768_S1x1024x768_d2 : S1x1024x4x768.ReducesTo [2] S1x1024x768
  bcast_S_S1x1024x768 : S_.BroadcastsInDim S1x1024x768 (![] : Fin 0 → Fin S1x1024x768.rank)
  sliceFits_S1x1024x1024_S1x1024x4 : S1x1024x1024.Slices (fun _ => 0) S1x1024x4
  bcast_S1x1x768_S1x256x768_0_1_2 : S1x1x768.BroadcastsInDim S1x256x768 (![0, 1, 2] : Fin 3 → Fin S1x256x768.rank)
  sliceFits_S1x256x1024_S1x256x4 : S1x256x1024.Slices (fun _ => 0) S1x256x4
  reducesTo_S1x256x4_S1x256_d2 : S1x256x4.ReducesTo [2] S1x256
  bcast_S_S1x256 : S_.BroadcastsInDim S1x256 (![] : Fin 0 → Fin S1x256.rank)
  bcast_S1x256_S1x256x1_0_1 : S1x256.BroadcastsInDim S1x256x1 (![0, 1] : Fin 2 → Fin S1x256x1.rank)
  bcast_S1x256x1_S1x256x4_0_1_2 : S1x256x1.BroadcastsInDim S1x256x4 (![0, 1, 2] : Fin 3 → Fin S1x256x4.rank)
  bcast_S_S1x256x4 : S_.BroadcastsInDim S1x256x4 (![] : Fin 0 → Fin S1x256x4.rank)
  bcast_S1x256x4_S1x256x4x1_0_1_2 : S1x256x4.BroadcastsInDim S1x256x4x1 (![0, 1, 2] : Fin 3 → Fin S1x256x4x1.rank)
  bcast_S1x256x4x1_S1x256x4x768_0_1_2_3 : S1x256x4x1.BroadcastsInDim S1x256x4x768 (![0, 1, 2, 3] : Fin 4 → Fin S1x256x4x768.rank)
  reducesTo_S1x256x4x768_S1x256x768_d2 : S1x256x4x768.ReducesTo [2] S1x256x768
  bcast_S_S1x256x768 : S_.BroadcastsInDim S1x256x768 (![] : Fin 0 → Fin S1x256x768.rank)
  sliceFits_S1x256x256_S1x256x4 : S1x256x256.Slices (fun _ => 0) S1x256x4
  reducesTo_S1x4096x768_S_d0_1_2 : S1x4096x768.ReducesTo [0, 1, 2] S_
  bcast_S_S768 : S_.BroadcastsInDim S768 (![] : Fin 0 → Fin S768.rank)
  reducesTo_S768_S_d0 : S768.ReducesTo [0] S_
  bcast_S_S1024x768 : S_.BroadcastsInDim S1024x768 (![] : Fin 0 → Fin S1024x768.rank)
  reducesTo_S1024x768_S_d0_1 : S1024x768.ReducesTo [0, 1] S_
  bcast_S_S256x768 : S_.BroadcastsInDim S256x768 (![] : Fin 0 → Fin S256x768.rank)
  reducesTo_S256x768_S_d0_1 : S256x768.ReducesTo [0, 1] S_
  sliceFits_S1x1024x4096_S1x1024x5 : S1x1024x4096.Slices (fun _ => 0) S1x1024x5
  slices_S1x1024x5_S1x1024x4_0_0_0 : S1x1024x5.Slices ![0, 0, 0] S1x1024x4
  slices_S1x1024x5_S1x1024x4_0_0_1 : S1x1024x5.Slices ![0, 0, 1] S1x1024x4
  reducesTo_S1x1024x4_S_d0_1_2 : S1x1024x4.ReducesTo [0, 1, 2] S_
  sliceFits_S1x1024x1024_S1x1024x5 : S1x1024x1024.Slices (fun _ => 0) S1x1024x5
  sliceFits_S1x256x1024_S1x256x5 : S1x256x1024.Slices (fun _ => 0) S1x256x5
  slices_S1x256x5_S1x256x4_0_0_0 : S1x256x5.Slices ![0, 0, 0] S1x256x4
  slices_S1x256x5_S1x256x4_0_0_1 : S1x256x5.Slices ![0, 0, 1] S1x256x4
  reducesTo_S1x256x4_S_d0_1_2 : S1x256x4.ReducesTo [0, 1, 2] S_
  sliceFits_S1x256x256_S1x256x5 : S1x256x256.Slices (fun _ => 0) S1x256x5
  sliceFits_S1x4096x256_S1x4096x5 : S1x4096x256.Slices (fun _ => 0) S1x4096x5
  slices_S1x4096x5_S1x4096x4_0_0_0 : S1x4096x5.Slices ![0, 0, 0] S1x4096x4
  slices_S1x4096x5_S1x4096x4_0_0_1 : S1x4096x5.Slices ![0, 0, 1] S1x4096x4
  reducesTo_S1x4096x4_S_d0_1_2 : S1x4096x4.ReducesTo [0, 1, 2] S_
  gather_S1x4096x768_S4096x9x1_S1x4096x9x768_03_1_n_n_1_2_11768_wf : GatherDims.WF S1x4096x768 S4096x9x1 S1x4096x9x768 [0, 3] [1] [] [1] [] 2 ![1, 1, 768]
  dot_S1x4096x768_S1x4096x9x768_S1x4096x9_2_3_n_2_01_01_wf : DotDims.WF S1x4096x768 S1x4096x9x768 S1x4096x9 [2] [3] [] [2] [0, 1] [0, 1]
  dot_S1x4096x9_S1x4096x9x768_S1x4096x768_2_2_n_3_01_01_wf : DotDims.WF S1x4096x9 S1x4096x9x768 S1x4096x768 [2] [2] [] [3] [0, 1] [0, 1]
  dot_S1x1024x768_S1x4096x768_S1x1024x4096_2_2_1_1_0_0_wf : DotDims.WF S1x1024x768 S1x4096x768 S1x1024x4096 [2] [2] [1] [1] [0] [0]
  gather_S1x4096x768_S1x1024x4x1_S1x1024x4x768_3_1_0_0_1_3_11768_wf : GatherDims.WF S1x4096x768 S1x1024x4x1 S1x1024x4x768 [3] [1] [0] [1] [0] 3 ![1, 1, 768]
  dot_S1x1024x768_S1x1024x768_S1x1024x1024_2_2_1_1_0_0_wf : DotDims.WF S1x1024x768 S1x1024x768 S1x1024x1024 [2] [2] [1] [1] [0] [0]
  gather_S1x1024x768_S1x1024x4x1_S1x1024x4x768_3_1_0_0_1_3_11768_wf : GatherDims.WF S1x1024x768 S1x1024x4x1 S1x1024x4x768 [3] [1] [0] [1] [0] 3 ![1, 1, 768]
  dot_S1x256x768_S1x1024x768_S1x256x1024_2_2_1_1_0_0_wf : DotDims.WF S1x256x768 S1x1024x768 S1x256x1024 [2] [2] [1] [1] [0] [0]
  gather_S1x1024x768_S1x256x4x1_S1x256x4x768_3_1_0_0_1_3_11768_wf : GatherDims.WF S1x1024x768 S1x256x4x1 S1x256x4x768 [3] [1] [0] [1] [0] 3 ![1, 1, 768]
  dot_S1x256x768_S1x256x768_S1x256x256_2_2_1_1_0_0_wf : DotDims.WF S1x256x768 S1x256x768 S1x256x256 [2] [2] [1] [1] [0] [0]
  gather_S1x256x768_S1x256x4x1_S1x256x4x768_3_1_0_0_1_3_11768_wf : GatherDims.WF S1x256x768 S1x256x4x1 S1x256x4x768 [3] [1] [0] [1] [0] 3 ![1, 1, 768]
  dot_S1x4096x768_S1x256x768_S1x4096x256_2_2_1_1_0_0_wf : DotDims.WF S1x4096x768 S1x256x768 S1x4096x256 [2] [2] [1] [1] [0] [0]

variable [Facts]

def gather_S1x4096x768_S4096x9x1_S1x4096x9x768_03_1_n_n_1_2_11768 : GatherDims S1x4096x768 S4096x9x1 S1x4096x9x768 where
  offsetDims := [0, 3]
  collapsedSliceDims := [1]
  operandBatchingDims := []
  startIndicesBatchingDims := []
  startIndexMap := [1]
  indexVectorDim := 2
  sliceSizes := ![1, 1, 768]
  wf := gather_S1x4096x768_S4096x9x1_S1x4096x9x768_03_1_n_n_1_2_11768_wf
def dot_S1x4096x768_S1x4096x9x768_S1x4096x9_2_3_n_2_01_01 : DotDims S1x4096x768 S1x4096x9x768 S1x4096x9 where
  lhsContracting := [2]
  rhsContracting := [3]
  lhsNonContracting := []
  rhsNonContracting := [2]
  lhsBatch := [0, 1]
  rhsBatch := [0, 1]
  wf := dot_S1x4096x768_S1x4096x9x768_S1x4096x9_2_3_n_2_01_01_wf
def dot_S1x4096x9_S1x4096x9x768_S1x4096x768_2_2_n_3_01_01 : DotDims S1x4096x9 S1x4096x9x768 S1x4096x768 where
  lhsContracting := [2]
  rhsContracting := [2]
  lhsNonContracting := []
  rhsNonContracting := [3]
  lhsBatch := [0, 1]
  rhsBatch := [0, 1]
  wf := dot_S1x4096x9_S1x4096x9x768_S1x4096x768_2_2_n_3_01_01_wf
def dot_S1x1024x768_S1x4096x768_S1x1024x4096_2_2_1_1_0_0 : DotDims S1x1024x768 S1x4096x768 S1x1024x4096 where
  lhsContracting := [2]
  rhsContracting := [2]
  lhsNonContracting := [1]
  rhsNonContracting := [1]
  lhsBatch := [0]
  rhsBatch := [0]
  wf := dot_S1x1024x768_S1x4096x768_S1x1024x4096_2_2_1_1_0_0_wf
def gather_S1x4096x768_S1x1024x4x1_S1x1024x4x768_3_1_0_0_1_3_11768 : GatherDims S1x4096x768 S1x1024x4x1 S1x1024x4x768 where
  offsetDims := [3]
  collapsedSliceDims := [1]
  operandBatchingDims := [0]
  startIndicesBatchingDims := [0]
  startIndexMap := [1]
  indexVectorDim := 3
  sliceSizes := ![1, 1, 768]
  wf := gather_S1x4096x768_S1x1024x4x1_S1x1024x4x768_3_1_0_0_1_3_11768_wf
def dot_S1x1024x768_S1x1024x768_S1x1024x1024_2_2_1_1_0_0 : DotDims S1x1024x768 S1x1024x768 S1x1024x1024 where
  lhsContracting := [2]
  rhsContracting := [2]
  lhsNonContracting := [1]
  rhsNonContracting := [1]
  lhsBatch := [0]
  rhsBatch := [0]
  wf := dot_S1x1024x768_S1x1024x768_S1x1024x1024_2_2_1_1_0_0_wf
def gather_S1x1024x768_S1x1024x4x1_S1x1024x4x768_3_1_0_0_1_3_11768 : GatherDims S1x1024x768 S1x1024x4x1 S1x1024x4x768 where
  offsetDims := [3]
  collapsedSliceDims := [1]
  operandBatchingDims := [0]
  startIndicesBatchingDims := [0]
  startIndexMap := [1]
  indexVectorDim := 3
  sliceSizes := ![1, 1, 768]
  wf := gather_S1x1024x768_S1x1024x4x1_S1x1024x4x768_3_1_0_0_1_3_11768_wf
def dot_S1x256x768_S1x1024x768_S1x256x1024_2_2_1_1_0_0 : DotDims S1x256x768 S1x1024x768 S1x256x1024 where
  lhsContracting := [2]
  rhsContracting := [2]
  lhsNonContracting := [1]
  rhsNonContracting := [1]
  lhsBatch := [0]
  rhsBatch := [0]
  wf := dot_S1x256x768_S1x1024x768_S1x256x1024_2_2_1_1_0_0_wf
def gather_S1x1024x768_S1x256x4x1_S1x256x4x768_3_1_0_0_1_3_11768 : GatherDims S1x1024x768 S1x256x4x1 S1x256x4x768 where
  offsetDims := [3]
  collapsedSliceDims := [1]
  operandBatchingDims := [0]
  startIndicesBatchingDims := [0]
  startIndexMap := [1]
  indexVectorDim := 3
  sliceSizes := ![1, 1, 768]
  wf := gather_S1x1024x768_S1x256x4x1_S1x256x4x768_3_1_0_0_1_3_11768_wf
def dot_S1x256x768_S1x256x768_S1x256x256_2_2_1_1_0_0 : DotDims S1x256x768 S1x256x768 S1x256x256 where
  lhsContracting := [2]
  rhsContracting := [2]
  lhsNonContracting := [1]
  rhsNonContracting := [1]
  lhsBatch := [0]
  rhsBatch := [0]
  wf := dot_S1x256x768_S1x256x768_S1x256x256_2_2_1_1_0_0_wf
def gather_S1x256x768_S1x256x4x1_S1x256x4x768_3_1_0_0_1_3_11768 : GatherDims S1x256x768 S1x256x4x1 S1x256x4x768 where
  offsetDims := [3]
  collapsedSliceDims := [1]
  operandBatchingDims := [0]
  startIndicesBatchingDims := [0]
  startIndexMap := [1]
  indexVectorDim := 3
  sliceSizes := ![1, 1, 768]
  wf := gather_S1x256x768_S1x256x4x1_S1x256x4x768_3_1_0_0_1_3_11768_wf
def dot_S1x4096x768_S1x256x768_S1x4096x256_2_2_1_1_0_0 : DotDims S1x4096x768 S1x256x768 S1x4096x256 where
  lhsContracting := [2]
  rhsContracting := [2]
  lhsNonContracting := [1]
  rhsNonContracting := [1]
  lhsBatch := [0]
  rhsBatch := [0]
  wf := dot_S1x4096x768_S1x256x768_S1x4096x256_2_2_1_1_0_0_wf
def fn_clip {F : FTy → Type} [FloatOps F] (arg0 : IVec S4096x9 32) (arg1 : IVec S_ 32) (arg2 : IVec S_ 32) : IVec S4096x9 32 :=
  let v0 : IVec S_ 32 := id arg1
  let v1 : IVec S4096x9 32 := broadcastInDim S4096x9 ![] bcast_S_S4096x9 v0
  let v2 : IVec S4096x9 32 := maxsi v1 arg0
  let v3 : IVec S_ 32 := id arg2
  let v4 : IVec S4096x9 32 := broadcastInDim S4096x9 ![] bcast_S_S4096x9 v3
  let v5 : IVec S4096x9 32 := minsi v4 v2
  v5

def fn_where {F : FTy → Type} [FloatOps F] (arg0 : IVec S1x4096x9 1) (arg1 : FVec F S1x4096x9 .f32) (arg2 : FVec F S_ .f32) : FVec F S1x4096x9 .f32 :=
  let v0 : FVec F S_ .f32 := id arg2
  let v1 : FVec F S1x4096x9 .f32 := broadcastInDim S1x4096x9 ![] bcast_S_S1x4096x9 v0
  let v2 : FVec F S1x4096x9 .f32 := select arg0 arg1 v1
  v2

def fn_part13 {F : FTy → Type} [FloatOps F] (main_arg7 : FVec F S768 .f32) (main_v44 : FVec F S1x4096x768 .f32) (main_v160 : FVec F S1x256x768 .f32) (main_v231 : IVec S_ 1) (main_v235 : FVec F S1x256x256 .f32) (main_values_71 : FVec F S1x256x5 .f32) : IVec S_ 1 :=
  let main_indices_72 : IVec S1x256x5 32 := (fun x => (Host.topK S1x256x5 2 (FloatOps.cmpfTotal .gt) x sliceFits_S1x256x256_S1x256x5).2) main_v235
  let main_v236 : FVec F S1x256x4 .f32 := (extractStridedSlice S1x256x4 ![0, 0, 0] · slices_S1x256x5_S1x256x4_0_0_0) main_values_71
  let main_v237 : FVec F S1x256x4 .f32 := (extractStridedSlice S1x256x4 ![0, 0, 1] · slices_S1x256x5_S1x256x4_0_0_1) main_values_71
  let main_v238 : IVec S1x256x4 1 := cmpf .ogt main_v236 main_v237
  let main_c_73 : IVec S_ 1 := constantI S_ 1 1#1
  let main_v239 : IVec S_ 1 := (fun x v => Host.reduce IntOp.andi x v reducesTo_S1x256x4_S_d0_1_2 h_S_) main_v238 main_c_73
  let main_v240 : IVec S_ 1 := andi main_v231 main_v239
  let main_v241 : FVec F S1x1x768 .f32 := broadcastInDim S1x1x768 ![2] bcast_S768_S1x1x768_2 main_arg7
  let main_v242 : FVec F S1x4096x768 .f32 := broadcastInDim S1x4096x768 ![0, 1, 2] bcast_S1x1x768_S1x4096x768_0_1_2 main_v241
  let main_v243 : FVec F S1x4096x768 .f32 := mulf main_v44 main_v242
  let main_v244 : FVec F S1x4096x256 .f32 := (fun l r => Host.dotGeneral dot_S1x4096x768_S1x256x768_S1x4096x256_2_2_1_1_0_0 none l r) main_v243 main_v160
  let main_values_74 : FVec F S1x4096x5 .f32 := (fun x => (Host.topK S1x4096x5 2 (FloatOps.cmpfTotal .gt) x sliceFits_S1x4096x256_S1x4096x5).1) main_v244
  let main_indices_75 : IVec S1x4096x5 32 := (fun x => (Host.topK S1x4096x5 2 (FloatOps.cmpfTotal .gt) x sliceFits_S1x4096x256_S1x4096x5).2) main_v244
  let main_v245 : FVec F S1x4096x4 .f32 := (extractStridedSlice S1x4096x4 ![0, 0, 0] · slices_S1x4096x5_S1x4096x4_0_0_0) main_values_74
  let main_v246 : FVec F S1x4096x4 .f32 := (extractStridedSlice S1x4096x4 ![0, 0, 1] · slices_S1x4096x5_S1x4096x4_0_0_1) main_values_74
  let main_v247 : IVec S1x4096x4 1 := cmpf .ogt main_v245 main_v246
  let main_c_76 : IVec S_ 1 := constantI S_ 1 1#1
  let main_v248 : IVec S_ 1 := (fun x v => Host.reduce IntOp.andi x v reducesTo_S1x4096x4_S_d0_1_2 h_S_) main_v247 main_c_76
  let main_v249 : IVec S_ 1 := andi main_v240 main_v248
  main_v249

def fn_part12 {F : FTy → Type} [FloatOps F] (main_arg4 : FVec F S768 .f32) (main_arg6 : FVec F S768 .f32) (main_arg7 : FVec F S768 .f32) (main_v1 : FVec F S1x256x768 .f32) (main_v44 : FVec F S1x4096x768 .f32) (main_v102 : FVec F S1x1024x768 .f32) (main_v131 : FVec F S1x256x768 .f32) (main_v160 : FVec F S1x256x768 .f32) (main_v204 : IVec S_ 1) (main_v212 : IVec S_ 1) (main_values_65 : FVec F S1x1024x5 .f32) : IVec S_ 1 :=
  let main_v217 : FVec F S1x1024x4 .f32 := (extractStridedSlice S1x1024x4 ![0, 0, 0] · slices_S1x1024x5_S1x1024x4_0_0_0) main_values_65
  let main_v218 : FVec F S1x1024x4 .f32 := (extractStridedSlice S1x1024x4 ![0, 0, 1] · slices_S1x1024x5_S1x1024x4_0_0_1) main_values_65
  let main_v219 : IVec S1x1024x4 1 := cmpf .ogt main_v217 main_v218
  let main_c_67 : IVec S_ 1 := constantI S_ 1 1#1
  let main_v220 : IVec S_ 1 := (fun x v => Host.reduce IntOp.andi x v reducesTo_S1x1024x4_S_d0_1_2 h_S_) main_v219 main_c_67
  let main_v221 : IVec S_ 1 := andi main_v212 main_v220
  let main_v222 : FVec F S1x1x768 .f32 := broadcastInDim S1x1x768 ![2] bcast_S768_S1x1x768_2 main_arg6
  let main_v223 : FVec F S1x256x768 .f32 := broadcastInDim S1x256x768 ![0, 1, 2] bcast_S1x1x768_S1x256x768_0_1_2 main_v222
  let main_v224 : FVec F S1x256x768 .f32 := mulf main_v1 main_v223
  let main_v225 : FVec F S1x256x1024 .f32 := (fun l r => Host.dotGeneral dot_S1x256x768_S1x1024x768_S1x256x1024_2_2_1_1_0_0 none l r) main_v224 main_v102
  let main_values_68 : FVec F S1x256x5 .f32 := (fun x => (Host.topK S1x256x5 2 (FloatOps.cmpfTotal .gt) x sliceFits_S1x256x1024_S1x256x5).1) main_v225
  let main_indices_69 : IVec S1x256x5 32 := (fun x => (Host.topK S1x256x5 2 (FloatOps.cmpfTotal .gt) x sliceFits_S1x256x1024_S1x256x5).2) main_v225
  let main_v226 : FVec F S1x256x4 .f32 := (extractStridedSlice S1x256x4 ![0, 0, 0] · slices_S1x256x5_S1x256x4_0_0_0) main_values_68
  let main_v227 : FVec F S1x256x4 .f32 := (extractStridedSlice S1x256x4 ![0, 0, 1] · slices_S1x256x5_S1x256x4_0_0_1) main_values_68
  let main_v228 : IVec S1x256x4 1 := cmpf .ogt main_v226 main_v227
  let main_c_70 : IVec S_ 1 := constantI S_ 1 1#1
  let main_v229 : IVec S_ 1 := (fun x v => Host.reduce IntOp.andi x v reducesTo_S1x256x4_S_d0_1_2 h_S_) main_v228 main_c_70
  let main_v230 : IVec S_ 1 := andi main_v221 main_v229
  let main_v231 : IVec S_ 1 := andi main_v204 main_v230
  let main_v232 : FVec F S1x1x768 .f32 := broadcastInDim S1x1x768 ![2] bcast_S768_S1x1x768_2 main_arg4
  let main_v233 : FVec F S1x256x768 .f32 := broadcastInDim S1x256x768 ![0, 1, 2] bcast_S1x1x768_S1x256x768_0_1_2 main_v232
  let main_v234 : FVec F S1x256x768 .f32 := mulf main_v131 main_v233
  let main_v235 : FVec F S1x256x256 .f32 := (fun l r => Host.dotGeneral dot_S1x256x768_S1x256x768_S1x256x256_2_2_1_1_0_0 none l r) main_v234 main_v131
  let main_values_71 : FVec F S1x256x5 .f32 := (fun x => (Host.topK S1x256x5 2 (FloatOps.cmpfTotal .gt) x sliceFits_S1x256x256_S1x256x5).1) main_v235
  fn_part13 (F := F) main_arg7 main_v44 main_v160 main_v231 main_v235 main_values_71

def fn_part11 {F : FTy → Type} [FloatOps F] (main_arg3 : FVec F S768 .f32) (main_arg4 : FVec F S768 .f32) (main_arg5 : FVec F S768 .f32) (main_arg6 : FVec F S768 .f32) (main_arg7 : FVec F S768 .f32) (main_arg9 : FVec F S256x768 .f32) (main_v0 : FVec F S1x1024x768 .f32) (main_v1 : FVec F S1x256x768 .f32) (main_v44 : FVec F S1x4096x768 .f32) (main_v73 : FVec F S1x1024x768 .f32) (main_v102 : FVec F S1x1024x768 .f32) (main_v131 : FVec F S1x256x768 .f32) (main_v160 : FVec F S1x256x768 .f32) (main_v199 : IVec S_ 1) : IVec S_ 1 :=
  let main_v200 : FVec F S256x768 .f32 := Host.absf main_arg9
  let main_cst_60 : FVec F S_ .f32 := constant S_ .f32 0x7F800000#32
  let main_v201 : FVec F S256x768 .f32 := broadcastInDim S256x768 ![] bcast_S_S256x768 main_cst_60
  let main_v202 : IVec S256x768 1 := cmpf .olt main_v200 main_v201
  let main_c_61 : IVec S_ 1 := constantI S_ 1 1#1
  let main_v203 : IVec S_ 1 := (fun x v => Host.reduce IntOp.andi x v reducesTo_S256x768_S_d0_1 h_S_) main_v202 main_c_61
  let main_v204 : IVec S_ 1 := andi main_v199 main_v203
  let main_v205 : FVec F S1x1x768 .f32 := broadcastInDim S1x1x768 ![2] bcast_S768_S1x1x768_2 main_arg5
  let main_v206 : FVec F S1x1024x768 .f32 := broadcastInDim S1x1024x768 ![0, 1, 2] bcast_S1x1x768_S1x1024x768_0_1_2 main_v205
  let main_v207 : FVec F S1x1024x768 .f32 := mulf main_v0 main_v206
  let main_v208 : FVec F S1x1024x4096 .f32 := (fun l r => Host.dotGeneral dot_S1x1024x768_S1x4096x768_S1x1024x4096_2_2_1_1_0_0 none l r) main_v207 main_v44
  let main_values_62 : FVec F S1x1024x5 .f32 := (fun x => (Host.topK S1x1024x5 2 (FloatOps.cmpfTotal .gt) x sliceFits_S1x1024x4096_S1x1024x5).1) main_v208
  let main_indices_63 : IVec S1x1024x5 32 := (fun x => (Host.topK S1x1024x5 2 (FloatOps.cmpfTotal .gt) x sliceFits_S1x1024x4096_S1x1024x5).2) main_v208
  let main_v209 : FVec F S1x1024x4 .f32 := (extractStridedSlice S1x1024x4 ![0, 0, 0] · slices_S1x1024x5_S1x1024x4_0_0_0) main_values_62
  let main_v210 : FVec F S1x1024x4 .f32 := (extractStridedSlice S1x1024x4 ![0, 0, 1] · slices_S1x1024x5_S1x1024x4_0_0_1) main_values_62
  let main_v211 : IVec S1x1024x4 1 := cmpf .ogt main_v209 main_v210
  let main_c_64 : IVec S_ 1 := constantI S_ 1 1#1
  let main_v212 : IVec S_ 1 := (fun x v => Host.reduce IntOp.andi x v reducesTo_S1x1024x4_S_d0_1_2 h_S_) main_v211 main_c_64
  let main_v213 : FVec F S1x1x768 .f32 := broadcastInDim S1x1x768 ![2] bcast_S768_S1x1x768_2 main_arg3
  let main_v214 : FVec F S1x1024x768 .f32 := broadcastInDim S1x1024x768 ![0, 1, 2] bcast_S1x1x768_S1x1024x768_0_1_2 main_v213
  let main_v215 : FVec F S1x1024x768 .f32 := mulf main_v73 main_v214
  let main_v216 : FVec F S1x1024x1024 .f32 := (fun l r => Host.dotGeneral dot_S1x1024x768_S1x1024x768_S1x1024x1024_2_2_1_1_0_0 none l r) main_v215 main_v73
  let main_values_65 : FVec F S1x1024x5 .f32 := (fun x => (Host.topK S1x1024x5 2 (FloatOps.cmpfTotal .gt) x sliceFits_S1x1024x1024_S1x1024x5).1) main_v216
  let main_indices_66 : IVec S1x1024x5 32 := (fun x => (Host.topK S1x1024x5 2 (FloatOps.cmpfTotal .gt) x sliceFits_S1x1024x1024_S1x1024x5).2) main_v216
  fn_part12 (F := F) main_arg4 main_arg6 main_arg7 main_v1 main_v44 main_v102 main_v131 main_v160 main_v204 main_v212 main_values_65

def fn_part10 {F : FTy → Type} [FloatOps F] (main_arg3 : FVec F S768 .f32) (main_arg4 : FVec F S768 .f32) (main_arg5 : FVec F S768 .f32) (main_arg6 : FVec F S768 .f32) (main_arg7 : FVec F S768 .f32) (main_arg8 : FVec F S1024x768 .f32) (main_arg9 : FVec F S256x768 .f32) (main_v0 : FVec F S1x1024x768 .f32) (main_v1 : FVec F S1x256x768 .f32) (main_v44 : FVec F S1x4096x768 .f32) (main_v73 : FVec F S1x1024x768 .f32) (main_v102 : FVec F S1x1024x768 .f32) (main_v131 : FVec F S1x256x768 .f32) (main_v160 : FVec F S1x256x768 .f32) (main_v179 : IVec S_ 1) (main_v182 : IVec S768 1) : IVec S_ 1 :=
  let main_c_53 : IVec S_ 1 := constantI S_ 1 1#1
  let main_v183 : IVec S_ 1 := (fun x v => Host.reduce IntOp.andi x v reducesTo_S768_S_d0 h_S_) main_v182 main_c_53
  let main_v184 : IVec S_ 1 := andi main_v179 main_v183
  let main_v185 : FVec F S768 .f32 := Host.absf main_arg6
  let main_cst_54 : FVec F S_ .f32 := constant S_ .f32 0x7F800000#32
  let main_v186 : FVec F S768 .f32 := broadcastInDim S768 ![] bcast_S_S768 main_cst_54
  let main_v187 : IVec S768 1 := cmpf .olt main_v185 main_v186
  let main_c_55 : IVec S_ 1 := constantI S_ 1 1#1
  let main_v188 : IVec S_ 1 := (fun x v => Host.reduce IntOp.andi x v reducesTo_S768_S_d0 h_S_) main_v187 main_c_55
  let main_v189 : IVec S_ 1 := andi main_v184 main_v188
  let main_v190 : FVec F S768 .f32 := Host.absf main_arg7
  let main_cst_56 : FVec F S_ .f32 := constant S_ .f32 0x7F800000#32
  let main_v191 : FVec F S768 .f32 := broadcastInDim S768 ![] bcast_S_S768 main_cst_56
  let main_v192 : IVec S768 1 := cmpf .olt main_v190 main_v191
  let main_c_57 : IVec S_ 1 := constantI S_ 1 1#1
  let main_v193 : IVec S_ 1 := (fun x v => Host.reduce IntOp.andi x v reducesTo_S768_S_d0 h_S_) main_v192 main_c_57
  let main_v194 : IVec S_ 1 := andi main_v189 main_v193
  let main_v195 : FVec F S1024x768 .f32 := Host.absf main_arg8
  let main_cst_58 : FVec F S_ .f32 := constant S_ .f32 0x7F800000#32
  let main_v196 : FVec F S1024x768 .f32 := broadcastInDim S1024x768 ![] bcast_S_S1024x768 main_cst_58
  let main_v197 : IVec S1024x768 1 := cmpf .olt main_v195 main_v196
  let main_c_59 : IVec S_ 1 := constantI S_ 1 1#1
  let main_v198 : IVec S_ 1 := (fun x v => Host.reduce IntOp.andi x v reducesTo_S1024x768_S_d0_1 h_S_) main_v197 main_c_59
  let main_v199 : IVec S_ 1 := andi main_v194 main_v198
  fn_part11 (F := F) main_arg3 main_arg4 main_arg5 main_arg6 main_arg7 main_arg9 main_v0 main_v1 main_v44 main_v73 main_v102 main_v131 main_v160 main_v199

def fn_part9 {F : FTy → Type} [FloatOps F] (main_arg3 : FVec F S768 .f32) (main_arg4 : FVec F S768 .f32) (main_arg5 : FVec F S768 .f32) (main_arg6 : FVec F S768 .f32) (main_arg7 : FVec F S768 .f32) (main_arg8 : FVec F S1024x768 .f32) (main_arg9 : FVec F S256x768 .f32) (main_v0 : FVec F S1x1024x768 .f32) (main_v1 : FVec F S1x256x768 .f32) (main_v44 : FVec F S1x4096x768 .f32) (main_v73 : FVec F S1x1024x768 .f32) (main_v102 : FVec F S1x1024x768 .f32) (main_v131 : FVec F S1x256x768 .f32) (main_v160 : FVec F S1x256x768 .f32) (main_v164 : IVec S_ 1) (main_v165 : FVec F S768 .f32) : IVec S_ 1 :=
  let main_cst_46 : FVec F S_ .f32 := constant S_ .f32 0x7F800000#32
  let main_v166 : FVec F S768 .f32 := broadcastInDim S768 ![] bcast_S_S768 main_cst_46
  let main_v167 : IVec S768 1 := cmpf .olt main_v165 main_v166
  let main_c_47 : IVec S_ 1 := constantI S_ 1 1#1
  let main_v168 : IVec S_ 1 := (fun x v => Host.reduce IntOp.andi x v reducesTo_S768_S_d0 h_S_) main_v167 main_c_47
  let main_v169 : IVec S_ 1 := andi main_v164 main_v168
  let main_v170 : FVec F S768 .f32 := Host.absf main_arg3
  let main_cst_48 : FVec F S_ .f32 := constant S_ .f32 0x7F800000#32
  let main_v171 : FVec F S768 .f32 := broadcastInDim S768 ![] bcast_S_S768 main_cst_48
  let main_v172 : IVec S768 1 := cmpf .olt main_v170 main_v171
  let main_c_49 : IVec S_ 1 := constantI S_ 1 1#1
  let main_v173 : IVec S_ 1 := (fun x v => Host.reduce IntOp.andi x v reducesTo_S768_S_d0 h_S_) main_v172 main_c_49
  let main_v174 : IVec S_ 1 := andi main_v169 main_v173
  let main_v175 : FVec F S768 .f32 := Host.absf main_arg4
  let main_cst_50 : FVec F S_ .f32 := constant S_ .f32 0x7F800000#32
  let main_v176 : FVec F S768 .f32 := broadcastInDim S768 ![] bcast_S_S768 main_cst_50
  let main_v177 : IVec S768 1 := cmpf .olt main_v175 main_v176
  let main_c_51 : IVec S_ 1 := constantI S_ 1 1#1
  let main_v178 : IVec S_ 1 := (fun x v => Host.reduce IntOp.andi x v reducesTo_S768_S_d0 h_S_) main_v177 main_c_51
  let main_v179 : IVec S_ 1 := andi main_v174 main_v178
  let main_v180 : FVec F S768 .f32 := Host.absf main_arg5
  let main_cst_52 : FVec F S_ .f32 := constant S_ .f32 0x7F800000#32
  let main_v181 : FVec F S768 .f32 := broadcastInDim S768 ![] bcast_S_S768 main_cst_52
  let main_v182 : IVec S768 1 := cmpf .olt main_v180 main_v181
  fn_part10 (F := F) main_arg3 main_arg4 main_arg5 main_arg6 main_arg7 main_arg8 main_arg9 main_v0 main_v1 main_v44 main_v73 main_v102 main_v131 main_v160 main_v179 main_v182

def fn_part8 {F : FTy → Type} [FloatOps F] (main_arg0 : FVec F S1x4096x768 .f32) (main_arg2 : FVec F S768 .f32) (main_arg3 : FVec F S768 .f32) (main_arg4 : FVec F S768 .f32) (main_arg5 : FVec F S768 .f32) (main_arg6 : FVec F S768 .f32) (main_arg7 : FVec F S768 .f32) (main_arg8 : FVec F S1024x768 .f32) (main_arg9 : FVec F S256x768 .f32) (main_v0 : FVec F S1x1024x768 .f32) (main_v1 : FVec F S1x256x768 .f32) (main_v44 : FVec F S1x4096x768 .f32) (main_v73 : FVec F S1x1024x768 .f32) (main_v102 : FVec F S1x1024x768 .f32) (main_v131 : FVec F S1x256x768 .f32) (main_indices_36 : IVec S1x256x4 32) (main_v146 : FVec F S1x256x4 .f32) (main_c_40 : IVec S_ 32) : IVec S_ 1 :=
  let main_v147 : IVec S1x256x4 32 := broadcastInDim S1x256x4 ![] bcast_S_S1x256x4 main_c_40
  let main_v148 : IVec S1x256x4 1 := cmpi .slt main_indices_36 main_v147
  let main_c_41 : IVec S_ 32 := constantI S_ 32 256#32
  let main_v149 : IVec S1x256x4 32 := broadcastInDim S1x256x4 ![] bcast_S_S1x256x4 main_c_41
  let main_v150 : IVec S1x256x4 32 := addi main_indices_36 main_v149
  let main_v151 : IVec S1x256x4 32 := select main_v148 main_v150 main_indices_36
  let main_v152 : IVec S1x256x4x1 32 := broadcastInDim S1x256x4x1 ![0, 1, 2] bcast_S1x256x4_S1x256x4x1_0_1_2 main_v151
  let main_v153 : FVec F S1x256x4x768 .f32 := (fun x i => Host.gather gather_S1x256x768_S1x256x4x1_S1x256x4x768_3_1_0_0_1_3_11768 x i) main_v131 main_v152
  let main_v154 : FVec F S1x256x4x1 .f32 := broadcastInDim S1x256x4x1 ![0, 1, 2] bcast_S1x256x4_S1x256x4x1_0_1_2 main_v146
  let main_v155 : FVec F S1x256x4x768 .f32 := broadcastInDim S1x256x4x768 ![0, 1, 2, 3] bcast_S1x256x4x1_S1x256x4x768_0_1_2_3 main_v154
  let main_v156 : FVec F S1x256x4x768 .f32 := mulf main_v155 main_v153
  let main_cst_42 : FVec F S_ .f32 := constant S_ .f32 0x00000000#32
  let main_v157 : FVec F S1x256x768 .f32 := (fun x v => Host.reduceAdd x v reducesTo_S1x256x4x768_S1x256x768_d2 h_S_) main_v156 main_cst_42
  let main_cst_43 : FVec F S_ .f32 := constant S_ .f32 0x3E4CCCCD#32
  let main_v158 : FVec F S1x256x768 .f32 := broadcastInDim S1x256x768 ![] bcast_S_S1x256x768 main_cst_43
  let main_v159 : FVec F S1x256x768 .f32 := mulf main_v158 main_v157
  let main_v160 : FVec F S1x256x768 .f32 := addf main_v131 main_v159
  let main_v161 : FVec F S1x4096x768 .f32 := Host.absf main_arg0
  let main_cst_44 : FVec F S_ .f32 := constant S_ .f32 0x7F800000#32
  let main_v162 : FVec F S1x4096x768 .f32 := broadcastInDim S1x4096x768 ![] bcast_S_S1x4096x768 main_cst_44
  let main_v163 : IVec S1x4096x768 1 := cmpf .olt main_v161 main_v162
  let main_c_45 : IVec S_ 1 := constantI S_ 1 1#1
  let main_v164 : IVec S_ 1 := (fun x v => Host.reduce IntOp.andi x v reducesTo_S1x4096x768_S_d0_1_2 h_S_) main_v163 main_c_45
  let main_v165 : FVec F S768 .f32 := Host.absf main_arg2
  fn_part9 (F := F) main_arg3 main_arg4 main_arg5 main_arg6 main_arg7 main_arg8 main_arg9 main_v0 main_v1 main_v44 main_v73 main_v102 main_v131 main_v160 main_v164 main_v165

def fn_part7 {F : FTy → Type} [FloatOps F] (main_arg0 : FVec F S1x4096x768 .f32) (main_arg2 : FVec F S768 .f32) (main_arg3 : FVec F S768 .f32) (main_arg4 : FVec F S768 .f32) (main_arg5 : FVec F S768 .f32) (main_arg6 : FVec F S768 .f32) (main_arg7 : FVec F S768 .f32) (main_arg8 : FVec F S1024x768 .f32) (main_arg9 : FVec F S256x768 .f32) (main_v0 : FVec F S1x1024x768 .f32) (main_v1 : FVec F S1x256x768 .f32) (main_v44 : FVec F S1x4096x768 .f32) (main_v73 : FVec F S1x1024x768 .f32) (main_v102 : FVec F S1x1024x768 .f32) (main_v128 : FVec F S1x256x768 .f32) (main_cst_34 : FVec F S_ .f32) : IVec S_ 1 :=
  let main_v129 : FVec F S1x256x768 .f32 := broadcastInDim S1x256x768 ![] bcast_S_S1x256x768 main_cst_34
  let main_v130 : FVec F S1x256x768 .f32 := mulf main_v129 main_v128
  let main_v131 : FVec F S1x256x768 .f32 := addf main_v1 main_v130
  let main_v132 : FVec F S1x1x768 .f32 := broadcastInDim S1x1x768 ![2] bcast_S768_S1x1x768_2 main_arg4
  let main_v133 : FVec F S1x256x768 .f32 := broadcastInDim S1x256x768 ![0, 1, 2] bcast_S1x1x768_S1x256x768_0_1_2 main_v132
  let main_v134 : FVec F S1x256x768 .f32 := mulf main_v131 main_v133
  let main_v135 : FVec F S1x256x256 .f32 := (fun l r => Host.dotGeneral dot_S1x256x768_S1x256x768_S1x256x256_2_2_1_1_0_0 none l r) main_v134 main_v131
  let main_values_35 : FVec F S1x256x4 .f32 := (fun x => (Host.topK S1x256x4 2 (FloatOps.cmpfTotal .gt) x sliceFits_S1x256x256_S1x256x4).1) main_v135
  let main_indices_36 : IVec S1x256x4 32 := (fun x => (Host.topK S1x256x4 2 (FloatOps.cmpfTotal .gt) x sliceFits_S1x256x256_S1x256x4).2) main_v135
  let main_cst_37 : FVec F S_ .f32 := constant S_ .f32 0xFF800000#32
  let main_v136 : FVec F S1x256 .f32 := (fun x v => Host.reduce FloatOps.maximumf x v reducesTo_S1x256x4_S1x256_d2 h_S_) main_values_35 main_cst_37
  let main_cst_38 : FVec F S_ .f32 := constant S_ .f32 0xFF800000#32
  let main_v137 : FVec F S1x256 .f32 := broadcastInDim S1x256 ![] bcast_S_S1x256 main_cst_38
  let main_v138 : FVec F S1x256 .f32 := maximumf main_v137 main_v136
  let main_v139 : FVec F S1x256x1 .f32 := broadcastInDim S1x256x1 ![0, 1] bcast_S1x256_S1x256x1_0_1 main_v138
  let main_v140 : FVec F S1x256x4 .f32 := broadcastInDim S1x256x4 ![0, 1, 2] bcast_S1x256x1_S1x256x4_0_1_2 main_v139
  let main_v141 : FVec F S1x256x4 .f32 := subf main_values_35 main_v140
  let main_v142 : FVec F S1x256x4 .f32 := Host.exp main_v141
  let main_cst_39 : FVec F S_ .f32 := constant S_ .f32 0x00000000#32
  let main_v143 : FVec F S1x256 .f32 := (fun x v => Host.reduceAdd x v reducesTo_S1x256x4_S1x256_d2 h_S_) main_v142 main_cst_39
  let main_v144 : FVec F S1x256x1 .f32 := broadcastInDim S1x256x1 ![0, 1] bcast_S1x256_S1x256x1_0_1 main_v143
  let main_v145 : FVec F S1x256x4 .f32 := broadcastInDim S1x256x4 ![0, 1, 2] bcast_S1x256x1_S1x256x4_0_1_2 main_v144
  let main_v146 : FVec F S1x256x4 .f32 := Host.divf main_v142 main_v145
  let main_c_40 : IVec S_ 32 := constantI S_ 32 0#32
  fn_part8 (F := F) main_arg0 main_arg2 main_arg3 main_arg4 main_arg5 main_arg6 main_arg7 main_arg8 main_arg9 main_v0 main_v1 main_v44 main_v73 main_v102 main_v131 main_indices_36 main_v146 main_c_40

def fn_part6 {F : FTy → Type} [FloatOps F] (main_arg0 : FVec F S1x4096x768 .f32) (main_arg2 : FVec F S768 .f32) (main_arg3 : FVec F S768 .f32) (main_arg4 : FVec F S768 .f32) (main_arg5 : FVec F S768 .f32) (main_arg6 : FVec F S768 .f32) (main_arg7 : FVec F S768 .f32) (main_arg8 : FVec F S1024x768 .f32) (main_arg9 : FVec F S256x768 .f32) (main_v0 : FVec F S1x1024x768 .f32) (main_v1 : FVec F S1x256x768 .f32) (main_v44 : FVec F S1x4096x768 .f32) (main_v73 : FVec F S1x1024x768 .f32) (main_v102 : FVec F S1x1024x768 .f32) (main_values_26 : FVec F S1x256x4 .f32) (main_indices_27 : IVec S1x256x4 32) (main_v109 : FVec F S1x256 .f32) : IVec S_ 1 :=
  let main_v110 : FVec F S1x256x1 .f32 := broadcastInDim S1x256x1 ![0, 1] bcast_S1x256_S1x256x1_0_1 main_v109
  let main_v111 : FVec F S1x256x4 .f32 := broadcastInDim S1x256x4 ![0, 1, 2] bcast_S1x256x1_S1x256x4_0_1_2 main_v110
  let main_v112 : FVec F S1x256x4 .f32 := subf main_values_26 main_v111
  let main_v113 : FVec F S1x256x4 .f32 := Host.exp main_v112
  let main_cst_30 : FVec F S_ .f32 := constant S_ .f32 0x00000000#32
  let main_v114 : FVec F S1x256 .f32 := (fun x v => Host.reduceAdd x v reducesTo_S1x256x4_S1x256_d2 h_S_) main_v113 main_cst_30
  let main_v115 : FVec F S1x256x1 .f32 := broadcastInDim S1x256x1 ![0, 1] bcast_S1x256_S1x256x1_0_1 main_v114
  let main_v116 : FVec F S1x256x4 .f32 := broadcastInDim S1x256x4 ![0, 1, 2] bcast_S1x256x1_S1x256x4_0_1_2 main_v115
  let main_v117 : FVec F S1x256x4 .f32 := Host.divf main_v113 main_v116
  let main_c_31 : IVec S_ 32 := constantI S_ 32 0#32
  let main_v118 : IVec S1x256x4 32 := broadcastInDim S1x256x4 ![] bcast_S_S1x256x4 main_c_31
  let main_v119 : IVec S1x256x4 1 := cmpi .slt main_indices_27 main_v118
  let main_c_32 : IVec S_ 32 := constantI S_ 32 1024#32
  let main_v120 : IVec S1x256x4 32 := broadcastInDim S1x256x4 ![] bcast_S_S1x256x4 main_c_32
  let main_v121 : IVec S1x256x4 32 := addi main_indices_27 main_v120
  let main_v122 : IVec S1x256x4 32 := select main_v119 main_v121 main_indices_27
  let main_v123 : IVec S1x256x4x1 32 := broadcastInDim S1x256x4x1 ![0, 1, 2] bcast_S1x256x4_S1x256x4x1_0_1_2 main_v122
  let main_v124 : FVec F S1x256x4x768 .f32 := (fun x i => Host.gather gather_S1x1024x768_S1x256x4x1_S1x256x4x768_3_1_0_0_1_3_11768 x i) main_v102 main_v123
  let main_v125 : FVec F S1x256x4x1 .f32 := broadcastInDim S1x256x4x1 ![0, 1, 2] bcast_S1x256x4_S1x256x4x1_0_1_2 main_v117
  let main_v126 : FVec F S1x256x4x768 .f32 := broadcastInDim S1x256x4x768 ![0, 1, 2, 3] bcast_S1x256x4x1_S1x256x4x768_0_1_2_3 main_v125
  let main_v127 : FVec F S1x256x4x768 .f32 := mulf main_v126 main_v124
  let main_cst_33 : FVec F S_ .f32 := constant S_ .f32 0x00000000#32
  let main_v128 : FVec F S1x256x768 .f32 := (fun x v => Host.reduceAdd x v reducesTo_S1x256x4x768_S1x256x768_d2 h_S_) main_v127 main_cst_33
  let main_cst_34 : FVec F S_ .f32 := constant S_ .f32 0x3E19999A#32
  fn_part7 (F := F) main_arg0 main_arg2 main_arg3 main_arg4 main_arg5 main_arg6 main_arg7 main_arg8 main_arg9 main_v0 main_v1 main_v44 main_v73 main_v102 main_v128 main_cst_34

def fn_part5 {F : FTy → Type} [FloatOps F] (main_arg0 : FVec F S1x4096x768 .f32) (main_arg2 : FVec F S768 .f32) (main_arg3 : FVec F S768 .f32) (main_arg4 : FVec F S768 .f32) (main_arg5 : FVec F S768 .f32) (main_arg6 : FVec F S768 .f32) (main_arg7 : FVec F S768 .f32) (main_arg8 : FVec F S1024x768 .f32) (main_arg9 : FVec F S256x768 .f32) (main_v0 : FVec F S1x1024x768 .f32) (main_v1 : FVec F S1x256x768 .f32) (main_v44 : FVec F S1x4096x768 .f32) (main_v73 : FVec F S1x1024x768 .f32) (main_indices_18 : IVec S1x1024x4 32) (main_v88 : FVec F S1x1024x4 .f32) (main_v90 : IVec S1x1024x4 1) (main_v91 : IVec S1x1024x4 32) : IVec S_ 1 :=
  let main_v92 : IVec S1x1024x4 32 := addi main_indices_18 main_v91
  let main_v93 : IVec S1x1024x4 32 := select main_v90 main_v92 main_indices_18
  let main_v94 : IVec S1x1024x4x1 32 := broadcastInDim S1x1024x4x1 ![0, 1, 2] bcast_S1x1024x4_S1x1024x4x1_0_1_2 main_v93
  let main_v95 : FVec F S1x1024x4x768 .f32 := (fun x i => Host.gather gather_S1x1024x768_S1x1024x4x1_S1x1024x4x768_3_1_0_0_1_3_11768 x i) main_v73 main_v94
  let main_v96 : FVec F S1x1024x4x1 .f32 := broadcastInDim S1x1024x4x1 ![0, 1, 2] bcast_S1x1024x4_S1x1024x4x1_0_1_2 main_v88
  let main_v97 : FVec F S1x1024x4x768 .f32 := broadcastInDim S1x1024x4x768 ![0, 1, 2, 3] bcast_S1x1024x4x1_S1x1024x4x768_0_1_2_3 main_v96
  let main_v98 : FVec F S1x1024x4x768 .f32 := mulf main_v97 main_v95
  let main_cst_24 : FVec F S_ .f32 := constant S_ .f32 0x00000000#32
  let main_v99 : FVec F S1x1024x768 .f32 := (fun x v => Host.reduceAdd x v reducesTo_S1x1024x4x768_S1x1024x768_d2 h_S_) main_v98 main_cst_24
  let main_cst_25 : FVec F S_ .f32 := constant S_ .f32 0x3E4CCCCD#32
  let main_v100 : FVec F S1x1024x768 .f32 := broadcastInDim S1x1024x768 ![] bcast_S_S1x1024x768 main_cst_25
  let main_v101 : FVec F S1x1024x768 .f32 := mulf main_v100 main_v99
  let main_v102 : FVec F S1x1024x768 .f32 := addf main_v73 main_v101
  let main_v103 : FVec F S1x1x768 .f32 := broadcastInDim S1x1x768 ![2] bcast_S768_S1x1x768_2 main_arg6
  let main_v104 : FVec F S1x256x768 .f32 := broadcastInDim S1x256x768 ![0, 1, 2] bcast_S1x1x768_S1x256x768_0_1_2 main_v103
  let main_v105 : FVec F S1x256x768 .f32 := mulf main_v1 main_v104
  let main_v106 : FVec F S1x256x1024 .f32 := (fun l r => Host.dotGeneral dot_S1x256x768_S1x1024x768_S1x256x1024_2_2_1_1_0_0 none l r) main_v105 main_v102
  let main_values_26 : FVec F S1x256x4 .f32 := (fun x => (Host.topK S1x256x4 2 (FloatOps.cmpfTotal .gt) x sliceFits_S1x256x1024_S1x256x4).1) main_v106
  let main_indices_27 : IVec S1x256x4 32 := (fun x => (Host.topK S1x256x4 2 (FloatOps.cmpfTotal .gt) x sliceFits_S1x256x1024_S1x256x4).2) main_v106
  let main_cst_28 : FVec F S_ .f32 := constant S_ .f32 0xFF800000#32
  let main_v107 : FVec F S1x256 .f32 := (fun x v => Host.reduce FloatOps.maximumf x v reducesTo_S1x256x4_S1x256_d2 h_S_) main_values_26 main_cst_28
  let main_cst_29 : FVec F S_ .f32 := constant S_ .f32 0xFF800000#32
  let main_v108 : FVec F S1x256 .f32 := broadcastInDim S1x256 ![] bcast_S_S1x256 main_cst_29
  let main_v109 : FVec F S1x256 .f32 := maximumf main_v108 main_v107
  fn_part6 (F := F) main_arg0 main_arg2 main_arg3 main_arg4 main_arg5 main_arg6 main_arg7 main_arg8 main_arg9 main_v0 main_v1 main_v44 main_v73 main_v102 main_values_26 main_indices_27 main_v109

def fn_part4 {F : FTy → Type} [FloatOps F] (main_arg0 : FVec F S1x4096x768 .f32) (main_arg2 : FVec F S768 .f32) (main_arg3 : FVec F S768 .f32) (main_arg4 : FVec F S768 .f32) (main_arg5 : FVec F S768 .f32) (main_arg6 : FVec F S768 .f32) (main_arg7 : FVec F S768 .f32) (main_arg8 : FVec F S1024x768 .f32) (main_arg9 : FVec F S256x768 .f32) (main_v0 : FVec F S1x1024x768 .f32) (main_v1 : FVec F S1x256x768 .f32) (main_v44 : FVec F S1x4096x768 .f32) (main_v73 : FVec F S1x1024x768 .f32) (main_v74 : FVec F S1x1x768 .f32) : IVec S_ 1 :=
  let main_v75 : FVec F S1x1024x768 .f32 := broadcastInDim S1x1024x768 ![0, 1, 2] bcast_S1x1x768_S1x1024x768_0_1_2 main_v74
  let main_v76 : FVec F S1x1024x768 .f32 := mulf main_v73 main_v75
  let main_v77 : FVec F S1x1024x1024 .f32 := (fun l r => Host.dotGeneral dot_S1x1024x768_S1x1024x768_S1x1024x1024_2_2_1_1_0_0 none l r) main_v76 main_v73
  let main_values_17 : FVec F S1x1024x4 .f32 := (fun x => (Host.topK S1x1024x4 2 (FloatOps.cmpfTotal .gt) x sliceFits_S1x1024x1024_S1x1024x4).1) main_v77
  let main_indices_18 : IVec S1x1024x4 32 := (fun x => (Host.topK S1x1024x4 2 (FloatOps.cmpfTotal .gt) x sliceFits_S1x1024x1024_S1x1024x4).2) main_v77
  let main_cst_19 : FVec F S_ .f32 := constant S_ .f32 0xFF800000#32
  let main_v78 : FVec F S1x1024 .f32 := (fun x v => Host.reduce FloatOps.maximumf x v reducesTo_S1x1024x4_S1x1024_d2 h_S_) main_values_17 main_cst_19
  let main_cst_20 : FVec F S_ .f32 := constant S_ .f32 0xFF800000#32
  let main_v79 : FVec F S1x1024 .f32 := broadcastInDim S1x1024 ![] bcast_S_S1x1024 main_cst_20
  let main_v80 : FVec F S1x1024 .f32 := maximumf main_v79 main_v78
  let main_v81 : FVec F S1x1024x1 .f32 := broadcastInDim S1x1024x1 ![0, 1] bcast_S1x1024_S1x1024x1_0_1 main_v80
  let main_v82 : FVec F S1x1024x4 .f32 := broadcastInDim S1x1024x4 ![0, 1, 2] bcast_S1x1024x1_S1x1024x4_0_1_2 main_v81
  let main_v83 : FVec F S1x1024x4 .f32 := subf main_values_17 main_v82
  let main_v84 : FVec F S1x1024x4 .f32 := Host.exp main_v83
  let main_cst_21 : FVec F S_ .f32 := constant S_ .f32 0x00000000#32
  let main_v85 : FVec F S1x1024 .f32 := (fun x v => Host.reduceAdd x v reducesTo_S1x1024x4_S1x1024_d2 h_S_) main_v84 main_cst_21
  let main_v86 : FVec F S1x1024x1 .f32 := broadcastInDim S1x1024x1 ![0, 1] bcast_S1x1024_S1x1024x1_0_1 main_v85
  let main_v87 : FVec F S1x1024x4 .f32 := broadcastInDim S1x1024x4 ![0, 1, 2] bcast_S1x1024x1_S1x1024x4_0_1_2 main_v86
  let main_v88 : FVec F S1x1024x4 .f32 := Host.divf main_v84 main_v87
  let main_c_22 : IVec S_ 32 := constantI S_ 32 0#32
  let main_v89 : IVec S1x1024x4 32 := broadcastInDim S1x1024x4 ![] bcast_S_S1x1024x4 main_c_22
  let main_v90 : IVec S1x1024x4 1 := cmpi .slt main_indices_18 main_v89
  let main_c_23 : IVec S_ 32 := constantI S_ 32 1024#32
  let main_v91 : IVec S1x1024x4 32 := broadcastInDim S1x1024x4 ![] bcast_S_S1x1024x4 main_c_23
  fn_part5 (F := F) main_arg0 main_arg2 main_arg3 main_arg4 main_arg5 main_arg6 main_arg7 main_arg8 main_arg9 main_v0 main_v1 main_v44 main_v73 main_indices_18 main_v88 main_v90 main_v91

def fn_part3 {F : FTy → Type} [FloatOps F] (main_arg0 : FVec F S1x4096x768 .f32) (main_arg2 : FVec F S768 .f32) (main_arg3 : FVec F S768 .f32) (main_arg4 : FVec F S768 .f32) (main_arg5 : FVec F S768 .f32) (main_arg6 : FVec F S768 .f32) (main_arg7 : FVec F S768 .f32) (main_arg8 : FVec F S1024x768 .f32) (main_arg9 : FVec F S256x768 .f32) (main_v0 : FVec F S1x1024x768 .f32) (main_v1 : FVec F S1x256x768 .f32) (main_v44 : FVec F S1x4096x768 .f32) (main_indices : IVec S1x1024x4 32) (main_v55 : FVec F S1x1024x4 .f32) : IVec S_ 1 :=
  let main_cst_12 : FVec F S_ .f32 := constant S_ .f32 0x00000000#32
  let main_v56 : FVec F S1x1024 .f32 := (fun x v => Host.reduceAdd x v reducesTo_S1x1024x4_S1x1024_d2 h_S_) main_v55 main_cst_12
  let main_v57 : FVec F S1x1024x1 .f32 := broadcastInDim S1x1024x1 ![0, 1] bcast_S1x1024_S1x1024x1_0_1 main_v56
  let main_v58 : FVec F S1x1024x4 .f32 := broadcastInDim S1x1024x4 ![0, 1, 2] bcast_S1x1024x1_S1x1024x4_0_1_2 main_v57
  let main_v59 : FVec F S1x1024x4 .f32 := Host.divf main_v55 main_v58
  let main_c_13 : IVec S_ 32 := constantI S_ 32 0#32
  let main_v60 : IVec S1x1024x4 32 := broadcastInDim S1x1024x4 ![] bcast_S_S1x1024x4 main_c_13
  let main_v61 : IVec S1x1024x4 1 := cmpi .slt main_indices main_v60
  let main_c_14 : IVec S_ 32 := constantI S_ 32 4096#32
  let main_v62 : IVec S1x1024x4 32 := broadcastInDim S1x1024x4 ![] bcast_S_S1x1024x4 main_c_14
  let main_v63 : IVec S1x1024x4 32 := addi main_indices main_v62
  let main_v64 : IVec S1x1024x4 32 := select main_v61 main_v63 main_indices
  let main_v65 : IVec S1x1024x4x1 32 := broadcastInDim S1x1024x4x1 ![0, 1, 2] bcast_S1x1024x4_S1x1024x4x1_0_1_2 main_v64
  let main_v66 : FVec F S1x1024x4x768 .f32 := (fun x i => Host.gather gather_S1x4096x768_S1x1024x4x1_S1x1024x4x768_3_1_0_0_1_3_11768 x i) main_v44 main_v65
  let main_v67 : FVec F S1x1024x4x1 .f32 := broadcastInDim S1x1024x4x1 ![0, 1, 2] bcast_S1x1024x4_S1x1024x4x1_0_1_2 main_v59
  let main_v68 : FVec F S1x1024x4x768 .f32 := broadcastInDim S1x1024x4x768 ![0, 1, 2, 3] bcast_S1x1024x4x1_S1x1024x4x768_0_1_2_3 main_v67
  let main_v69 : FVec F S1x1024x4x768 .f32 := mulf main_v68 main_v66
  let main_cst_15 : FVec F S_ .f32 := constant S_ .f32 0x00000000#32
  let main_v70 : FVec F S1x1024x768 .f32 := (fun x v => Host.reduceAdd x v reducesTo_S1x1024x4x768_S1x1024x768_d2 h_S_) main_v69 main_cst_15
  let main_cst_16 : FVec F S_ .f32 := constant S_ .f32 0x3E19999A#32
  let main_v71 : FVec F S1x1024x768 .f32 := broadcastInDim S1x1024x768 ![] bcast_S_S1x1024x768 main_cst_16
  let main_v72 : FVec F S1x1024x768 .f32 := mulf main_v71 main_v70
  let main_v73 : FVec F S1x1024x768 .f32 := addf main_v0 main_v72
  let main_v74 : FVec F S1x1x768 .f32 := broadcastInDim S1x1x768 ![2] bcast_S768_S1x1x768_2 main_arg3
  fn_part4 (F := F) main_arg0 main_arg2 main_arg3 main_arg4 main_arg5 main_arg6 main_arg7 main_arg8 main_arg9 main_v0 main_v1 main_v44 main_v73 main_v74

def fn_part2 {F : FTy → Type} [FloatOps F] (main_arg0 : FVec F S1x4096x768 .f32) (main_arg2 : FVec F S768 .f32) (main_arg3 : FVec F S768 .f32) (main_arg4 : FVec F S768 .f32) (main_arg5 : FVec F S768 .f32) (main_arg6 : FVec F S768 .f32) (main_arg7 : FVec F S768 .f32) (main_arg8 : FVec F S1024x768 .f32) (main_arg9 : FVec F S256x768 .f32) (main_v0 : FVec F S1x1024x768 .f32) (main_v1 : FVec F S1x256x768 .f32) (main_v23 : FVec F S1x4096x9x768 .f32) (main_v36 : FVec F S1x4096x9 .f32) (main_cst_8 : FVec F S_ .f32) : IVec S_ 1 :=
  let main_v37 : FVec F S1x4096 .f32 := (fun x v => Host.reduceAdd x v reducesTo_S1x4096x9_S1x4096_d2 h_S_) main_v36 main_cst_8
  let main_v38 : FVec F S1x4096x1 .f32 := broadcastInDim S1x4096x1 ![0, 1] bcast_S1x4096_S1x4096x1_0_1 main_v37
  let main_v39 : FVec F S1x4096x9 .f32 := broadcastInDim S1x4096x9 ![0, 1, 2] bcast_S1x4096x1_S1x4096x9_0_1_2 main_v38
  let main_v40 : FVec F S1x4096x9 .f32 := Host.divf main_v36 main_v39
  let main_v41 : FVec F S1x4096x768 .f32 := (fun l r => Host.dotGeneral dot_S1x4096x9_S1x4096x9x768_S1x4096x768_2_2_n_3_01_01 none l r) main_v40 main_v23
  let main_cst_9 : FVec F S_ .f32 := constant S_ .f32 0x3E800000#32
  let main_v42 : FVec F S1x4096x768 .f32 := broadcastInDim S1x4096x768 ![] bcast_S_S1x4096x768 main_cst_9
  let main_v43 : FVec F S1x4096x768 .f32 := mulf main_v42 main_v41
  let main_v44 : FVec F S1x4096x768 .f32 := addf main_arg0 main_v43
  let main_v45 : FVec F S1x1x768 .f32 := broadcastInDim S1x1x768 ![2] bcast_S768_S1x1x768_2 main_arg5
  let main_v46 : FVec F S1x1024x768 .f32 := broadcastInDim S1x1024x768 ![0, 1, 2] bcast_S1x1x768_S1x1024x768_0_1_2 main_v45
  let main_v47 : FVec F S1x1024x768 .f32 := mulf main_v0 main_v46
  let main_v48 : FVec F S1x1024x4096 .f32 := (fun l r => Host.dotGeneral dot_S1x1024x768_S1x4096x768_S1x1024x4096_2_2_1_1_0_0 none l r) main_v47 main_v44
  let main_values : FVec F S1x1024x4 .f32 := (fun x => (Host.topK S1x1024x4 2 (FloatOps.cmpfTotal .gt) x sliceFits_S1x1024x4096_S1x1024x4).1) main_v48
  let main_indices : IVec S1x1024x4 32 := (fun x => (Host.topK S1x1024x4 2 (FloatOps.cmpfTotal .gt) x sliceFits_S1x1024x4096_S1x1024x4).2) main_v48
  let main_cst_10 : FVec F S_ .f32 := constant S_ .f32 0xFF800000#32
  let main_v49 : FVec F S1x1024 .f32 := (fun x v => Host.reduce FloatOps.maximumf x v reducesTo_S1x1024x4_S1x1024_d2 h_S_) main_values main_cst_10
  let main_cst_11 : FVec F S_ .f32 := constant S_ .f32 0xFF800000#32
  let main_v50 : FVec F S1x1024 .f32 := broadcastInDim S1x1024 ![] bcast_S_S1x1024 main_cst_11
  let main_v51 : FVec F S1x1024 .f32 := maximumf main_v50 main_v49
  let main_v52 : FVec F S1x1024x1 .f32 := broadcastInDim S1x1024x1 ![0, 1] bcast_S1x1024_S1x1024x1_0_1 main_v51
  let main_v53 : FVec F S1x1024x4 .f32 := broadcastInDim S1x1024x4 ![0, 1, 2] bcast_S1x1024x1_S1x1024x4_0_1_2 main_v52
  let main_v54 : FVec F S1x1024x4 .f32 := subf main_values main_v53
  let main_v55 : FVec F S1x1024x4 .f32 := Host.exp main_v54
  fn_part3 (F := F) main_arg0 main_arg2 main_arg3 main_arg4 main_arg5 main_arg6 main_arg7 main_arg8 main_arg9 main_v0 main_v1 main_v44 main_indices main_v55

def fn_part1 {F : FTy → Type} [FloatOps F] (main_arg0 : FVec F S1x4096x768 .f32) (main_arg2 : FVec F S768 .f32) (main_arg3 : FVec F S768 .f32) (main_arg4 : FVec F S768 .f32) (main_arg5 : FVec F S768 .f32) (main_arg6 : FVec F S768 .f32) (main_arg7 : FVec F S768 .f32) (main_arg8 : FVec F S1024x768 .f32) (main_arg9 : FVec F S256x768 .f32) (main_v0 : FVec F S1x1024x768 .f32) (main_v1 : FVec F S1x256x768 .f32) (main_v15 : IVec S4096x9 1) (main_v16 : IVec S4096x9 32) (main_v17 : IVec S4096x9 32) : IVec S_ 1 :=
  let main_v18 : IVec S4096x9 1 := cmpi .slt main_v16 main_v17
  let main_c_5 : IVec S_ 32 := constantI S_ 32 4096#32
  let main_v19 : IVec S4096x9 32 := broadcastInDim S4096x9 ![] bcast_S_S4096x9 main_c_5
  let main_v20 : IVec S4096x9 32 := addi main_v16 main_v19
  let main_v21 : IVec S4096x9 32 := select main_v18 main_v20 main_v16
  let main_v22 : IVec S4096x9x1 32 := broadcastInDim S4096x9x1 ![0, 1] bcast_S4096x9_S4096x9x1_0_1 main_v21
  let main_v23 : FVec F S1x4096x9x768 .f32 := (fun x i => Host.gather gather_S1x4096x768_S4096x9x1_S1x4096x9x768_03_1_n_n_1_2_11768 x i) main_arg0 main_v22
  let main_v24 : FVec F S1x1x768 .f32 := broadcastInDim S1x1x768 ![2] bcast_S768_S1x1x768_2 main_arg2
  let main_v25 : FVec F S1x4096x768 .f32 := broadcastInDim S1x4096x768 ![0, 1, 2] bcast_S1x1x768_S1x4096x768_0_1_2 main_v24
  let main_v26 : FVec F S1x4096x768 .f32 := mulf main_arg0 main_v25
  let main_v27 : FVec F S1x4096x9 .f32 := (fun l r => Host.dotGeneral dot_S1x4096x768_S1x4096x9x768_S1x4096x9_2_3_n_2_01_01 none l r) main_v26 main_v23
  let main_v28 : IVec S1x4096x9 1 := broadcastInDim S1x4096x9 ![1, 2] bcast_S4096x9_S1x4096x9_1_2 main_v15
  let main_cst : FVec F S_ .f32 := constant S_ .f32 0xFF800000#32
  let main_v29 : FVec F S1x4096x9 .f32 := fn_where (F := F) main_v28 main_v27 main_cst
  let main_cst_6 : FVec F S_ .f32 := constant S_ .f32 0xFF800000#32
  let main_v30 : FVec F S1x4096 .f32 := (fun x v => Host.reduce FloatOps.maximumf x v reducesTo_S1x4096x9_S1x4096_d2 h_S_) main_v29 main_cst_6
  let main_cst_7 : FVec F S_ .f32 := constant S_ .f32 0xFF800000#32
  let main_v31 : FVec F S1x4096 .f32 := broadcastInDim S1x4096 ![] bcast_S_S1x4096 main_cst_7
  let main_v32 : FVec F S1x4096 .f32 := maximumf main_v31 main_v30
  let main_v33 : FVec F S1x4096x1 .f32 := broadcastInDim S1x4096x1 ![0, 1] bcast_S1x4096_S1x4096x1_0_1 main_v32
  let main_v34 : FVec F S1x4096x9 .f32 := broadcastInDim S1x4096x9 ![0, 1, 2] bcast_S1x4096x1_S1x4096x9_0_1_2 main_v33
  let main_v35 : FVec F S1x4096x9 .f32 := subf main_v29 main_v34
  let main_v36 : FVec F S1x4096x9 .f32 := Host.exp main_v35
  let main_cst_8 : FVec F S_ .f32 := constant S_ .f32 0x00000000#32
  fn_part2 (F := F) main_arg0 main_arg2 main_arg3 main_arg4 main_arg5 main_arg6 main_arg7 main_arg8 main_arg9 main_v0 main_v1 main_v23 main_v36 main_cst_8

def fn {F : FTy → Type} [FloatOps F] (main_arg0 : FVec F S1x4096x768 .f32) (main_arg1 : FVec F S1x4096x768 .f32) (main_arg2 : FVec F S768 .f32) (main_arg3 : FVec F S768 .f32) (main_arg4 : FVec F S768 .f32) (main_arg5 : FVec F S768 .f32) (main_arg6 : FVec F S768 .f32) (main_arg7 : FVec F S768 .f32) (main_arg8 : FVec F S1024x768 .f32) (main_arg9 : FVec F S256x768 .f32) (main_arg10 : FVec F S768 .f32) (main_arg11 : FVec F S768 .f32) (main_arg12 : FVec F S768 .f32) (main_arg13 : FVec F S768 .f32) (main_arg14 : FVec F S768 .f32) (main_arg15 : FVec F S768 .f32) : IVec S_ 1 :=
  let main_v0 : FVec F S1x1024x768 .f32 := broadcastInDim S1x1024x768 ![1, 2] bcast_S1024x768_S1x1024x768_1_2 main_arg8
  let main_v1 : FVec F S1x256x768 .f32 := broadcastInDim S1x256x768 ![1, 2] bcast_S256x768_S1x256x768_1_2 main_arg9
  let main_v2 : IVec S9 32 := iotaInDim S9 32 0
  let main_c : IVec S_ 32 := constantI S_ 32 4294967292#32
  let main_v3 : IVec S9 32 := broadcastInDim S9 ![] bcast_S_S9 main_c
  let main_v4 : IVec S9 32 := addi main_v3 main_v2
  let main_v5 : IVec S4096 32 := iotaInDim S4096 32 0
  let main_v6 : IVec S4096x1 32 := broadcastInDim S4096x1 ![0] bcast_S4096_S4096x1_0 main_v5
  let main_v7 : IVec S1x9 32 := broadcastInDim S1x9 ![1] bcast_S9_S1x9_1 main_v4
  let main_v8 : IVec S4096x9 32 := broadcastInDim S4096x9 ![0, 1] bcast_S4096x1_S4096x9_0_1 main_v6
  let main_v9 : IVec S4096x9 32 := broadcastInDim S4096x9 ![0, 1] bcast_S1x9_S4096x9_0_1 main_v7
  let main_v10 : IVec S4096x9 32 := addi main_v8 main_v9
  let main_c_0 : IVec S_ 32 := constantI S_ 32 0#32
  let main_v11 : IVec S4096x9 32 := broadcastInDim S4096x9 ![] bcast_S_S4096x9 main_c_0
  let main_v12 : IVec S4096x9 1 := cmpi .sge main_v10 main_v11
  let main_c_1 : IVec S_ 32 := constantI S_ 32 4096#32
  let main_v13 : IVec S4096x9 32 := broadcastInDim S4096x9 ![] bcast_S_S4096x9 main_c_1
  let main_v14 : IVec S4096x9 1 := cmpi .slt main_v10 main_v13
  let main_v15 : IVec S4096x9 1 := andi main_v12 main_v14
  let main_c_2 : IVec S_ 32 := constantI S_ 32 0#32
  let main_c_3 : IVec S_ 32 := constantI S_ 32 4095#32
  let main_v16 : IVec S4096x9 32 := fn_clip (F := F) main_v10 main_c_2 main_c_3
  let main_c_4 : IVec S_ 32 := constantI S_ 32 0#32
  let main_v17 : IVec S4096x9 32 := broadcastInDim S4096x9 ![] bcast_S_S4096x9 main_c_4
  fn_part1 (F := F) main_arg0 main_arg2 main_arg3 main_arg4 main_arg5 main_arg6 main_arg7 main_arg8 main_arg9 main_v0 main_v1 main_v15 main_v16 main_v17
-- ==== Kernel.lean ====
abbrev S1x4096x768 : Shape := ⟨3, ![1, 4096, 768]⟩
abbrev S768 : Shape := ⟨1, ![768]⟩
abbrev S1024x768 : Shape := ⟨2, ![1024, 768]⟩
abbrev S256x768 : Shape := ⟨2, ![256, 768]⟩
abbrev S4096x768 : Shape := ⟨2, ![4096, 768]⟩
abbrev S1x768 : Shape := ⟨2, ![1, 768]⟩
abbrev S512x768 : Shape := ⟨2, ![512, 768]⟩
abbrev S8x768 : Shape := ⟨2, ![8, 768]⟩
abbrev S528x768 : Shape := ⟨2, ![528, 768]⟩
abbrev S512x528 : Shape := ⟨2, ![512, 528]⟩
abbrev S512 : Shape := ⟨1, ![512]⟩
abbrev S512x1 : Shape := ⟨2, ![512, 1]⟩
abbrev S256x4096 : Shape := ⟨2, ![256, 4096]⟩
abbrev S256 : Shape := ⟨1, ![256]⟩
abbrev S256x1 : Shape := ⟨2, ![256, 1]⟩
abbrev S1024x1024 : Shape := ⟨2, ![1024, 1024]⟩
abbrev S1024 : Shape := ⟨1, ![1024]⟩
abbrev S1024x1 : Shape := ⟨2, ![1024, 1]⟩
abbrev S256x1024 : Shape := ⟨2, ![256, 1024]⟩
abbrev S256x256 : Shape := ⟨2, ![256, 256]⟩
abbrev S2x4096x768 : Shape := ⟨3, ![2, 4096, 768]⟩
abbrev S2x1024x768 : Shape := ⟨3, ![2, 1024, 768]⟩
abbrev S1024x256 : Shape := ⟨2, ![1024, 256]⟩
abbrev S1x1024x768 : Shape := ⟨3, ![1, 1024, 768]⟩
abbrev S2x1x4096x768 : Shape := ⟨4, ![2, 1, 4096, 768]⟩

abbrev nBuf : Space → Nat
  | .hbm => 42
  | .vmem => 58
  | .smem => 0
  | _ => 0

abbrev bufTy : (tb : Table) → Fin (tcTables nBuf tb) → BufTy
  | .hbm, ⟨0, _⟩ => ⟨S1x4096x768, .f32⟩
  | .hbm, ⟨1, _⟩ => ⟨S1x4096x768, .f32⟩
  | .hbm, ⟨2, _⟩ => ⟨S768, .f32⟩
  | .hbm, ⟨3, _⟩ => ⟨S768, .f32⟩
  | .hbm, ⟨4, _⟩ => ⟨S768, .f32⟩
  | .hbm, ⟨5, _⟩ => ⟨S768, .f32⟩
  | .hbm, ⟨6, _⟩ => ⟨S768, .f32⟩
  | .hbm, ⟨7, _⟩ => ⟨S768, .f32⟩
  | .hbm, ⟨8, _⟩ => ⟨S1024x768, .f32⟩
  | .hbm, ⟨9, _⟩ => ⟨S256x768, .f32⟩
  | .hbm, ⟨10, _⟩ => ⟨S768, .f32⟩
  | .hbm, ⟨11, _⟩ => ⟨S768, .f32⟩
  | .hbm, ⟨12, _⟩ => ⟨S768, .f32⟩
  | .hbm, ⟨13, _⟩ => ⟨S768, .f32⟩
  | .hbm, ⟨14, _⟩ => ⟨S768, .f32⟩
  | .hbm, ⟨15, _⟩ => ⟨S768, .f32⟩
  | .hbm, ⟨16, _⟩ => ⟨S4096x768, .f32⟩
  | .hbm, ⟨17, _⟩ => ⟨S4096x768, .f32⟩
  | .hbm, ⟨18, _⟩ => ⟨S1x768, .f32⟩
  | .hbm, ⟨19, _⟩ => ⟨S1x768, .f32⟩
  | .hbm, ⟨20, _⟩ => ⟨S1x768, .f32⟩
  | .hbm, ⟨21, _⟩ => ⟨S1x768, .f32⟩
  | .hbm, ⟨22, _⟩ => ⟨S1x768, .f32⟩
  | .hbm, ⟨23, _⟩ => ⟨S1x768, .f32⟩
  | .hbm, ⟨24, _⟩ => ⟨S1x768, .f32⟩
  | .hbm, ⟨25, _⟩ => ⟨S1x768, .f32⟩
  | .hbm, ⟨26, _⟩ => ⟨S1x768, .f32⟩
  | .hbm, ⟨27, _⟩ => ⟨S1x768, .f32⟩
  | .hbm, ⟨28, _⟩ => ⟨S1x768, .f32⟩
  | .hbm, ⟨29, _⟩ => ⟨S1x768, .f32⟩
  | .hbm, ⟨30, _⟩ => ⟨S4096x768, .f32⟩
  | .hbm, ⟨31, _⟩ => ⟨S4096x768, .f32⟩
  | .hbm, ⟨32, _⟩ => ⟨S4096x768, .bf16⟩
  | .hbm, ⟨33, _⟩ => ⟨S4096x768, .bf16⟩
  | .hbm, ⟨34, _⟩ => ⟨S1024x768, .f32⟩
  | .hbm, ⟨35, _⟩ => ⟨S1024x768, .f32⟩
  | .hbm, ⟨36, _⟩ => ⟨S1024x768, .f32⟩
  | .hbm, ⟨37, _⟩ => ⟨S1024x768, .f32⟩
  | .hbm, ⟨38, _⟩ => ⟨S256x768, .f32⟩
  | .hbm, ⟨39, _⟩ => ⟨S256x768, .f32⟩
  | .hbm, ⟨40, _⟩ => ⟨S2x4096x768, .f32⟩
  | .hbm, ⟨41, _⟩ => ⟨S2x1x4096x768, .f32⟩
  | .local _ .vmem, ⟨0, _⟩ => ⟨S512x768, .f32⟩
  | .local _ .vmem, ⟨1, _⟩ => ⟨S512x768, .f32⟩
  | .local _ .vmem, ⟨2, _⟩ => ⟨S512x768, .f32⟩
  | .local _ .vmem, ⟨3, _⟩ => ⟨S512x768, .f32⟩
  | .local _ .vmem, ⟨4, _⟩ => ⟨S512x768, .f32⟩
  | .local _ .vmem, ⟨5, _⟩ => ⟨S512x768, .f32⟩
  | .local _ .vmem, ⟨6, _⟩ => ⟨S512x768, .f32⟩
  | .local _ .vmem, ⟨7, _⟩ => ⟨S512x768, .f32⟩
  | .local _ .vmem, ⟨8, _⟩ => ⟨S512x768, .f32⟩
  | .local _ .vmem, ⟨9, _⟩ => ⟨S512x768, .f32⟩
  | .local _ .vmem, ⟨10, _⟩ => ⟨S512x768, .f32⟩
  | .local _ .vmem, ⟨11, _⟩ => ⟨S512x768, .f32⟩
  | .local _ .vmem, ⟨12, _⟩ => ⟨S1x768, .f32⟩
  | .local _ .vmem, ⟨13, _⟩ => ⟨S512x768, .f32⟩
  | .local _ .vmem, ⟨14, _⟩ => ⟨S512x768, .f32⟩
  | .local _ .vmem, ⟨15, _⟩ => ⟨S512x768, .f32⟩
  | .local _ .vmem, ⟨16, _⟩ => ⟨S512x768, .f32⟩
  | .local _ .vmem, ⟨17, _⟩ => ⟨S512x768, .bf16⟩
  | .local _ .vmem, ⟨18, _⟩ => ⟨S512x768, .bf16⟩
  | .local _ .vmem, ⟨19, _⟩ => ⟨S512x768, .bf16⟩
  | .local _ .vmem, ⟨20, _⟩ => ⟨S512x768, .bf16⟩
  | .local _ .vmem, ⟨21, _⟩ => ⟨S256x768, .f32⟩
  | .local _ .vmem, ⟨22, _⟩ => ⟨S256x768, .f32⟩
  | .local _ .vmem, ⟨23, _⟩ => ⟨S4096x768, .f32⟩
  | .local _ .vmem, ⟨24, _⟩ => ⟨S4096x768, .bf16⟩
  | .local _ .vmem, ⟨25, _⟩ => ⟨S4096x768, .bf16⟩
  | .local _ .vmem, ⟨26, _⟩ => ⟨S1x768, .f32⟩
  | .local _ .vmem, ⟨27, _⟩ => ⟨S256x768, .f32⟩
  | .local _ .vmem, ⟨28, _⟩ => ⟨S256x768, .f32⟩
  | .local _ .vmem, ⟨29, _⟩ => ⟨S256x768, .f32⟩
  | .local _ .vmem, ⟨30, _⟩ => ⟨S256x768, .f32⟩
  | .local _ .vmem, ⟨31, _⟩ => ⟨S1024x768, .f32⟩
  | .local _ .vmem, ⟨32, _⟩ => ⟨S1024x768, .f32⟩
  | .local _ .vmem, ⟨33, _⟩ => ⟨S1x768, .f32⟩
  | .local _ .vmem, ⟨34, _⟩ => ⟨S1x768, .f32⟩
  | .local _ .vmem, ⟨35, _⟩ => ⟨S1x768, .f32⟩
  | .local _ .vmem, ⟨36, _⟩ => ⟨S1024x768, .f32⟩
  | .local _ .vmem, ⟨37, _⟩ => ⟨S1024x768, .f32⟩
  | .local _ .vmem, ⟨38, _⟩ => ⟨S256x768, .f32⟩
  | .local _ .vmem, ⟨39, _⟩ => ⟨S1024x768, .f32⟩
  | .local _ .vmem, ⟨40, _⟩ => ⟨S1024x768, .f32⟩
  | .local _ .vmem, ⟨41, _⟩ => ⟨S1x768, .f32⟩
  | .local _ .vmem, ⟨42, _⟩ => ⟨S1x768, .f32⟩
  | .local _ .vmem, ⟨43, _⟩ => ⟨S1x768, .f32⟩
  | .local _ .vmem, ⟨44, _⟩ => ⟨S1x768, .f32⟩
  | .local _ .vmem, ⟨45, _⟩ => ⟨S256x768, .f32⟩
  | .local _ .vmem, ⟨46, _⟩ => ⟨S256x768, .f32⟩
  | .local _ .vmem, ⟨47, _⟩ => ⟨S1024x768, .f32⟩
  | .local _ .vmem, ⟨48, _⟩ => ⟨S1024x768, .f32⟩
  | .local _ .vmem, ⟨49, _⟩ => ⟨S1024x768, .f32⟩
  | .local _ .vmem, ⟨50, _⟩ => ⟨S1024x768, .f32⟩
  | .local _ .vmem, ⟨51, _⟩ => ⟨S256x768, .f32⟩
  | .local _ .vmem, ⟨52, _⟩ => ⟨S256x768, .f32⟩
  | .local _ .vmem, ⟨53, _⟩ => ⟨S1x768, .f32⟩
  | .local _ .vmem, ⟨54, _⟩ => ⟨S1x768, .f32⟩
  | .local _ .vmem, ⟨55, _⟩ => ⟨S1x768, .f32⟩
  | .local _ .vmem, ⟨56, _⟩ => ⟨S2x1024x768, .f32⟩
  | .local _ .vmem, ⟨57, _⟩ => ⟨S2x1024x768, .f32⟩
  | _, _ => ⟨S1x4096x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | _, _ => false

abbrev semScoped : Fin 0 → Bool
  | ⟨_, h⟩ => absurd h (Nat.not_lt_zero _)

abbrev dmaSemScoped : Fin 58 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | _ => false

abbrev sig : RefSig :=
  ofTc nBuf bufTy 0 58 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14_0 : Ref sig .tc := ⟨.hbm, 30, rfl⟩
abbrev main_v14_1 : Ref sig .tc := ⟨.hbm, 31, rfl⟩
abbrev main_v14_2 : Ref sig .tc := ⟨.hbm, 32, rfl⟩
abbrev main_v14_3 : Ref sig .tc := ⟨.hbm, 33, rfl⟩
abbrev main_v15_0 : Ref sig .tc := ⟨.hbm, 34, rfl⟩
abbrev main_v15_1 : Ref sig .tc := ⟨.hbm, 35, rfl⟩
abbrev main_v16_0 : Ref sig .tc := ⟨.hbm, 36, rfl⟩
abbrev main_v16_1 : Ref sig .tc := ⟨.hbm, 37, rfl⟩
abbrev main_v17_0 : Ref sig .tc := ⟨.hbm, 38, rfl⟩
abbrev main_v17_1 : Ref sig .tc := ⟨.hbm, 39, rfl⟩
abbrev main_v18 : Ref sig .tc := ⟨.hbm, 40, rfl⟩
abbrev main_v19 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc1_stg0_0 : Ref sig .tc := ⟨.vmem, 21, rfl⟩
abbrev cc1_stg0_1 : Ref sig .tc := ⟨.vmem, 22, rfl⟩
abbrev cc1_stg1_0 : Ref sig .tc := ⟨.vmem, 23, rfl⟩
abbrev cc1_stg2_0 : Ref sig .tc := ⟨.vmem, 24, rfl⟩
abbrev cc1_stg3_0 : Ref sig .tc := ⟨.vmem, 25, rfl⟩
abbrev cc1_stg4_0 : Ref sig .tc := ⟨.vmem, 26, rfl⟩
abbrev cc1_stg5_0 : Ref sig .tc := ⟨.vmem, 27, rfl⟩
abbrev cc1_stg5_1 : Ref sig .tc := ⟨.vmem, 28, rfl⟩
abbrev cc1_stg6_0 : Ref sig .tc := ⟨.vmem, 29, rfl⟩
abbrev cc1_stg6_1 : Ref sig .tc := ⟨.vmem, 30, rfl⟩
abbrev cc2_stg0_0 : Ref sig .tc := ⟨.vmem, 31, rfl⟩
abbrev cc2_stg1_0 : Ref sig .tc := ⟨.vmem, 32, rfl⟩
abbrev cc2_stg2_0 : Ref sig .tc := ⟨.vmem, 33, rfl⟩
abbrev cc2_stg3_0 : Ref sig .tc := ⟨.vmem, 34, rfl⟩
abbrev cc2_stg4_0 : Ref sig .tc := ⟨.vmem, 35, rfl⟩
abbrev cc2_stg5_0 : Ref sig .tc := ⟨.vmem, 36, rfl⟩
abbrev cc2_stg6_0 : Ref sig .tc := ⟨.vmem, 37, rfl⟩
abbrev cc3_stg0_0 : Ref sig .tc := ⟨.vmem, 38, rfl⟩
abbrev cc3_stg1_0 : Ref sig .tc := ⟨.vmem, 39, rfl⟩
abbrev cc3_stg2_0 : Ref sig .tc := ⟨.vmem, 40, rfl⟩
abbrev cc3_stg3_0 : Ref sig .tc := ⟨.vmem, 41, rfl⟩
abbrev cc3_stg4_0 : Ref sig .tc := ⟨.vmem, 42, rfl⟩
abbrev cc3_stg5_0 : Ref sig .tc := ⟨.vmem, 43, rfl⟩
abbrev cc3_stg6_0 : Ref sig .tc := ⟨.vmem, 44, rfl⟩
abbrev cc3_stg7_0 : Ref sig .tc := ⟨.vmem, 45, rfl⟩
abbrev cc3_stg8_0 : Ref sig .tc := ⟨.vmem, 46, rfl⟩
abbrev cc4_stg0_0 : Ref sig .tc := ⟨.vmem, 47, rfl⟩
abbrev cc4_stg0_1 : Ref sig .tc := ⟨.vmem, 48, rfl⟩
abbrev cc4_stg1_0 : Ref sig .tc := ⟨.vmem, 49, rfl⟩
abbrev cc4_stg1_1 : Ref sig .tc := ⟨.vmem, 50, rfl⟩
abbrev cc4_stg2_0 : Ref sig .tc := ⟨.vmem, 51, rfl⟩
abbrev cc4_stg3_0 : Ref sig .tc := ⟨.vmem, 52, rfl⟩
abbrev cc4_stg4_0 : Ref sig .tc := ⟨.vmem, 53, rfl⟩
abbrev cc4_stg5_0 : Ref sig .tc := ⟨.vmem, 54, rfl⟩
abbrev cc4_stg6_0 : Ref sig .tc := ⟨.vmem, 55, rfl⟩
abbrev cc4_stg7_0 : Ref sig .tc := ⟨.vmem, 56, rfl⟩
abbrev cc4_stg7_1 : Ref sig .tc := ⟨.vmem, 57, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc1_sem0_0 : DmaSem sig := 21
abbrev cc1_sem0_1 : DmaSem sig := 22
abbrev cc1_sem1_0 : DmaSem sig := 23
abbrev cc1_sem2_0 : DmaSem sig := 24
abbrev cc1_sem3_0 : DmaSem sig := 25
abbrev cc1_sem4_0 : DmaSem sig := 26
abbrev cc1_sem5_0 : DmaSem sig := 27
abbrev cc1_sem5_1 : DmaSem sig := 28
abbrev cc1_sem6_0 : DmaSem sig := 29
abbrev cc1_sem6_1 : DmaSem sig := 30
abbrev cc2_sem0_0 : DmaSem sig := 31
abbrev cc2_sem1_0 : DmaSem sig := 32
abbrev cc2_sem2_0 : DmaSem sig := 33
abbrev cc2_sem3_0 : DmaSem sig := 34
abbrev cc2_sem4_0 : DmaSem sig := 35
abbrev cc2_sem5_0 : DmaSem sig := 36
abbrev cc2_sem6_0 : DmaSem sig := 37
abbrev cc3_sem0_0 : DmaSem sig := 38
abbrev cc3_sem1_0 : DmaSem sig := 39
abbrev cc3_sem2_0 : DmaSem sig := 40
abbrev cc3_sem3_0 : DmaSem sig := 41
abbrev cc3_sem4_0 : DmaSem sig := 42
abbrev cc3_sem5_0 : DmaSem sig := 43
abbrev cc3_sem6_0 : DmaSem sig := 44
abbrev cc3_sem7_0 : DmaSem sig := 45
abbrev cc3_sem8_0 : DmaSem sig := 46
abbrev cc4_sem0_0 : DmaSem sig := 47
abbrev cc4_sem0_1 : DmaSem sig := 48
abbrev cc4_sem1_0 : DmaSem sig := 49
abbrev cc4_sem1_1 : DmaSem sig := 50
abbrev cc4_sem2_0 : DmaSem sig := 51
abbrev cc4_sem3_0 : DmaSem sig := 52
abbrev cc4_sem4_0 : DmaSem sig := 53
abbrev cc4_sem5_0 : DmaSem sig := 54
abbrev cc4_sem6_0 : DmaSem sig := 55
abbrev cc4_sem7_0 : DmaSem sig := 56
abbrev cc4_sem7_1 : DmaSem sig := 57

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c7_i32 : BitVec 32 := 7#32
  let v1 : BitVec 32 := Scalar.minsi v0 c7_i32
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c1_i32 : BitVec 32 := 1#32
  let v0 : BitVec 32 := Scalar.addi arg0 c1_i32
  let c7_i32 : BitVec 32 := 7#32
  let v1 : BitVec 32 := Scalar.minsi v0 c7_i32
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x768 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x768 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x768 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x768 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S4096x768 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S4096x768 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S4096x768 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x768 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S256x768 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S256x768 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := .none

abbrev stage2_0 : Fin 1 → Memref sig .tc .vmem S1024x768 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S1024x768 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev stage2_2 : Fin 1 → Memref sig .tc .vmem S1x768 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))

abbrev stage2_3 : Fin 1 → Memref sig .tc .vmem S1x768 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))

abbrev stage2_4 : Fin 1 → Memref sig .tc .vmem S1x768 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))

abbrev stage2_5 : Fin 1 → Memref sig .tc .vmem S1024x768 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))

abbrev stage2_6 : Fin 1 → Memref sig .tc .vmem S1024x768 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))

abbrev grid3 : Pipeline.Grid := .none

abbrev stage3_0 : Fin 1 → Memref sig .tc .vmem S256x768 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))

abbrev stage3_1 : Fin 1 → Memref sig .tc .vmem S1024x768 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))

abbrev stage3_2 : Fin 1 → Memref sig .tc .vmem S1024x768 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))

abbrev stage3_3 : Fin 1 → Memref sig .tc .vmem S1x768 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))

abbrev stage3_4 : Fin 1 → Memref sig .tc .vmem S1x768 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))

abbrev stage3_5 : Fin 1 → Memref sig .tc .vmem S1x768 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))

abbrev stage3_6 : Fin 1 → Memref sig .tc .vmem S1x768 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))

abbrev stage3_7 : Fin 1 → Memref sig .tc .vmem S256x768 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))

abbrev stage3_8 : Fin 1 → Memref sig .tc .vmem S256x768 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))

abbrev grid4 : Pipeline.Grid := ⟨1, ![4], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage4_0 : Fin 2 → Memref sig .tc .vmem S1024x768 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S1024x768 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S256x768 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S256x768 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x768 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x768 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x768 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 2 → Memref sig .tc .vmem S2x1024x768 .f32 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true]
-- ==== KernelIdeal.lean ====
variable {F : FTy → Type} [FloatOps F] [Named F]
def κ : String → Option EReal := fun
  | "mask" => some ⊥
  | _ => none
-- ==== ReferenceIdeal.lean ====
abbrev S1x4096x768 : Shape := ⟨3, ![1, 4096, 768]⟩
abbrev S768 : Shape := ⟨1, ![768]⟩
abbrev S1024x768 : Shape := ⟨2, ![1024, 768]⟩
abbrev S256x768 : Shape := ⟨2, ![256, 768]⟩
abbrev S1x1024x768 : Shape := ⟨3, ![1, 1024, 768]⟩
abbrev S1x256x768 : Shape := ⟨3, ![1, 256, 768]⟩
abbrev S9 : Shape := ⟨1, ![9]⟩
abbrev S_ : Shape := ⟨0, ![]⟩
abbrev S4096 : Shape := ⟨1, ![4096]⟩
abbrev S4096x1 : Shape := ⟨2, ![4096, 1]⟩
abbrev S1x9 : Shape := ⟨2, ![1, 9]⟩
abbrev S4096x9 : Shape := ⟨2, ![4096, 9]⟩
abbrev S4096x9x1 : Shape := ⟨3, ![4096, 9, 1]⟩
abbrev S1x4096x9x768 : Shape := ⟨4, ![1, 4096, 9, 768]⟩
abbrev S1x1x768 : Shape := ⟨3, ![1, 1, 768]⟩
abbrev S1x4096x9 : Shape := ⟨3, ![1, 4096, 9]⟩
abbrev S1x4096 : Shape := ⟨2, ![1, 4096]⟩
abbrev S1x4096x1 : Shape := ⟨3, ![1, 4096, 1]⟩
abbrev S1x1024x4096 : Shape := ⟨3, ![1, 1024, 4096]⟩
abbrev S1x1024x4 : Shape := ⟨3, ![1, 1024, 4]⟩
abbrev S1x1024 : Shape := ⟨2, ![1, 1024]⟩
abbrev S1x1024x1 : Shape := ⟨3, ![1, 1024, 1]⟩
abbrev S1x1024x4x1 : Shape := ⟨4, ![1, 1024, 4, 1]⟩
abbrev S1x1024x4x768 : Shape := ⟨4, ![1, 1024, 4, 768]⟩
abbrev S1x1024x1024 : Shape := ⟨3, ![1, 1024, 1024]⟩
abbrev S1x256x1024 : Shape := ⟨3, ![1, 256, 1024]⟩
abbrev S1x256x4 : Shape := ⟨3, ![1, 256, 4]⟩
abbrev S1x256 : Shape := ⟨2, ![1, 256]⟩
abbrev S1x256x1 : Shape := ⟨3, ![1, 256, 1]⟩
abbrev S1x256x4x1 : Shape := ⟨4, ![1, 256, 4, 1]⟩
abbrev S1x256x4x768 : Shape := ⟨4, ![1, 256, 4, 768]⟩
abbrev S1x256x256 : Shape := ⟨3, ![1, 256, 256]⟩
abbrev S1x4096x256 : Shape := ⟨3, ![1, 4096, 256]⟩
abbrev S1x4096x4 : Shape := ⟨3, ![1, 4096, 4]⟩
abbrev S1x4096x4x1 : Shape := ⟨4, ![1, 4096, 4, 1]⟩
abbrev S1x4096x4x768 : Shape := ⟨4, ![1, 4096, 4, 768]⟩
abbrev S1x1x4096x768 : Shape := ⟨4, ![1, 1, 4096, 768]⟩
abbrev S2x1x4096x768 : Shape := ⟨4, ![2, 1, 4096, 768]⟩

abbrev nBuf : Space → Nat
  | .hbm => 465
  | .vmem => 0
  | .smem => 0
  | _ => 0

abbrev hbmTy0_0 (i : Nat) : BufTy := match i % 128 with
  | 0 => ⟨S1x4096x768, .f32⟩
  | 1 => ⟨S1x4096x768, .f32⟩
  | 2 => ⟨S768, .f32⟩
  | 3 => ⟨S768, .f32⟩
  | 4 => ⟨S768, .f32⟩
  | 5 => ⟨S768, .f32⟩
  | 6 => ⟨S768, .f32⟩
  | 7 => ⟨S768, .f32⟩
  | 8 => ⟨S1024x768, .f32⟩
  | 9 => ⟨S256x768, .f32⟩
  | 10 => ⟨S768, .f32⟩
  | 11 => ⟨S768, .f32⟩
  | 12 => ⟨S768, .f32⟩
  | 13 => ⟨S768, .f32⟩
  | 14 => ⟨S768, .f32⟩
  | 15 => ⟨S768, .f32⟩
  | 16 => ⟨S1x1024x768, .f32⟩
  | 17 => ⟨S1x256x768, .f32⟩
  | 18 => ⟨S9, .i32⟩
  | 19 => ⟨S_, .i32⟩
  | 20 => ⟨S9, .i32⟩
  | 21 => ⟨S9, .i32⟩
  | 22 => ⟨S4096, .i32⟩
  | 23 => ⟨S4096x1, .i32⟩
  | 24 => ⟨S1x9, .i32⟩
  | 25 => ⟨S4096x9, .i32⟩
  | 26 => ⟨S4096x9, .i32⟩
  | 27 => ⟨S4096x9, .i32⟩
  | 28 => ⟨S_, .i32⟩
  | 29 => ⟨S4096x9, .i32⟩
  | 30 => ⟨S4096x9, .i1⟩
  | 31 => ⟨S_, .i32⟩
  | 32 => ⟨S4096x9, .i32⟩
  | 33 => ⟨S4096x9, .i1⟩
  | 34 => ⟨S4096x9, .i1⟩
  | 35 => ⟨S_, .i32⟩
  | 36 => ⟨S_, .i32⟩
  | 37 => ⟨S_, .i32⟩
  | 38 => ⟨S4096x9, .i32⟩
  | 39 => ⟨S4096x9, .i32⟩
  | 40 => ⟨S_, .i32⟩
  | 41 => ⟨S4096x9, .i32⟩
  | 42 => ⟨S4096x9, .i32⟩
  | 43 => ⟨S_, .i32⟩
  | 44 => ⟨S4096x9, .i32⟩
  | 45 => ⟨S4096x9, .i1⟩
  | 46 => ⟨S_, .i32⟩
  | 47 => ⟨S4096x9, .i32⟩
  | 48 => ⟨S4096x9, .i32⟩
  | 49 => ⟨S4096x9, .i32⟩
  | 50 => ⟨S4096x9x1, .i32⟩
  | 51 => ⟨S1x4096x9x768, .f32⟩
  | 52 => ⟨S_, .i32⟩
  | 53 => ⟨S4096x9, .i32⟩
  | 54 => ⟨S4096x9, .i1⟩
  | 55 => ⟨S_, .i32⟩
  | 56 => ⟨S4096x9, .i32⟩
  | 57 => ⟨S4096x9, .i32⟩
  | 58 => ⟨S4096x9, .i32⟩
  | 59 => ⟨S4096x9x1, .i32⟩
  | 60 => ⟨S1x4096x9x768, .f32⟩
  | 61 => ⟨S1x1x768, .f32⟩
  | 62 => ⟨S1x4096x768, .f32⟩
  | 63 => ⟨S1x4096x768, .f32⟩
  | 64 => ⟨S1x4096x9, .f32⟩
  | 65 => ⟨S1x4096x9, .i1⟩
  | 66 => ⟨S_, .f32⟩
  | 67 => ⟨S_, .f32⟩
  | 68 => ⟨S1x4096x9, .f32⟩
  | 69 => ⟨S1x4096x9, .f32⟩
  | 70 => ⟨S_, .f32⟩
  | 71 => ⟨S1x4096, .f32⟩
  | 72 => ⟨S_, .f32⟩
  | 73 => ⟨S1x4096, .f32⟩
  | 74 => ⟨S1x4096, .f32⟩
  | 75 => ⟨S1x4096x1, .f32⟩
  | 76 => ⟨S1x4096x9, .f32⟩
  | 77 => ⟨S1x4096x9, .f32⟩
  | 78 => ⟨S1x4096x9, .f32⟩
  | 79 => ⟨S_, .f32⟩
  | 80 => ⟨S1x4096, .f32⟩
  | 81 => ⟨S1x4096x1, .f32⟩
  | 82 => ⟨S1x4096x9, .f32⟩
  | 83 => ⟨S1x4096x9, .f32⟩
  | 84 => ⟨S1x4096x768, .f32⟩
  | 85 => ⟨S1x4096x768, .f32⟩
  | 86 => ⟨S_, .f32⟩
  | 87 => ⟨S1x4096x768, .f32⟩
  | 88 => ⟨S1x4096x768, .f32⟩
  | 89 => ⟨S1x4096x768, .f32⟩
  | 90 => ⟨S_, .f32⟩
  | 91 => ⟨S1x4096x768, .f32⟩
  | 92 => ⟨S1x4096x768, .f32⟩
  | 93 => ⟨S1x4096x768, .f32⟩
  | 94 => ⟨S1x1x768, .f32⟩
  | 95 => ⟨S1x1024x768, .f32⟩
  | 96 => ⟨S1x1024x768, .f32⟩
  | 97 => ⟨S1x1024x4096, .f32⟩
  | 98 => ⟨S1x1024x4, .f32⟩
  | 99 => ⟨S1x1024x4, .i32⟩
  | 100 => ⟨S_, .f32⟩
  | 101 => ⟨S1x1024, .f32⟩
  | 102 => ⟨S_, .f32⟩
  | 103 => ⟨S1x1024, .f32⟩
  | 104 => ⟨S1x1024, .f32⟩
  | 105 => ⟨S1x1024x1, .f32⟩
  | 106 => ⟨S1x1024x4, .f32⟩
  | 107 => ⟨S1x1024x4, .f32⟩
  | 108 => ⟨S1x1024x4, .f32⟩
  | 109 => ⟨S_, .f32⟩
  | 110 => ⟨S1x1024, .f32⟩
  | 111 => ⟨S1x1024x1, .f32⟩
  | 112 => ⟨S1x1024x4, .f32⟩
  | 113 => ⟨S1x1024x4, .f32⟩
  | 114 => ⟨S_, .i32⟩
  | 115 => ⟨S1x1024x4, .i32⟩
  | 116 => ⟨S1x1024x4, .i1⟩
  | 117 => ⟨S_, .i32⟩
  | 118 => ⟨S1x1024x4, .i32⟩
  | 119 => ⟨S1x1024x4, .i32⟩
  | 120 => ⟨S1x1024x4, .i32⟩
  | 121 => ⟨S1x1024x4x1, .i32⟩
  | 122 => ⟨S1x1024x4x768, .f32⟩
  | 123 => ⟨S_, .i32⟩
  | 124 => ⟨S1x1024x4, .i32⟩
  | 125 => ⟨S1x1024x4, .i1⟩
  | 126 => ⟨S_, .i32⟩
  | 127 => ⟨S1x1024x4, .i32⟩
  | _ => ⟨S1x4096x768, .f32⟩

abbrev hbmTy0_1 (i : Nat) : BufTy := match i % 128 with
  | 0 => ⟨S1x1024x4, .i32⟩
  | 1 => ⟨S1x1024x4, .i32⟩
  | 2 => ⟨S1x1024x4x1, .i32⟩
  | 3 => ⟨S1x1024x4x768, .f32⟩
  | 4 => ⟨S1x1024x4x1, .f32⟩
  | 5 => ⟨S1x1024x4x768, .f32⟩
  | 6 => ⟨S1x1024x4x768, .f32⟩
  | 7 => ⟨S_, .f32⟩
  | 8 => ⟨S1x1024x768, .f32⟩
  | 9 => ⟨S1x1024x4x1, .f32⟩
  | 10 => ⟨S1x1024x4x768, .f32⟩
  | 11 => ⟨S1x1024x4x768, .f32⟩
  | 12 => ⟨S_, .f32⟩
  | 13 => ⟨S1x1024x768, .f32⟩
  | 14 => ⟨S_, .f32⟩
  | 15 => ⟨S1x1024x768, .f32⟩
  | 16 => ⟨S1x1024x768, .f32⟩
  | 17 => ⟨S1x1024x768, .f32⟩
  | 18 => ⟨S_, .f32⟩
  | 19 => ⟨S1x1024x768, .f32⟩
  | 20 => ⟨S1x1024x768, .f32⟩
  | 21 => ⟨S1x1024x768, .f32⟩
  | 22 => ⟨S1x1x768, .f32⟩
  | 23 => ⟨S1x1024x768, .f32⟩
  | 24 => ⟨S1x1024x768, .f32⟩
  | 25 => ⟨S1x1024x1024, .f32⟩
  | 26 => ⟨S1x1024x4, .f32⟩
  | 27 => ⟨S1x1024x4, .i32⟩
  | 28 => ⟨S_, .f32⟩
  | 29 => ⟨S1x1024, .f32⟩
  | 30 => ⟨S_, .f32⟩
  | 31 => ⟨S1x1024, .f32⟩
  | 32 => ⟨S1x1024, .f32⟩
  | 33 => ⟨S1x1024x1, .f32⟩
  | 34 => ⟨S1x1024x4, .f32⟩
  | 35 => ⟨S1x1024x4, .f32⟩
  | 36 => ⟨S1x1024x4, .f32⟩
  | 37 => ⟨S_, .f32⟩
  | 38 => ⟨S1x1024, .f32⟩
  | 39 => ⟨S1x1024x1, .f32⟩
  | 40 => ⟨S1x1024x4, .f32⟩
  | 41 => ⟨S1x1024x4, .f32⟩
  | 42 => ⟨S_, .i32⟩
  | 43 => ⟨S1x1024x4, .i32⟩
  | 44 => ⟨S1x1024x4, .i1⟩
  | 45 => ⟨S_, .i32⟩
  | 46 => ⟨S1x1024x4, .i32⟩
  | 47 => ⟨S1x1024x4, .i32⟩
  | 48 => ⟨S1x1024x4, .i32⟩
  | 49 => ⟨S1x1024x4x1, .i32⟩
  | 50 => ⟨S1x1024x4x768, .f32⟩
  | 51 => ⟨S_, .i32⟩
  | 52 => ⟨S1x1024x4, .i32⟩
  | 53 => ⟨S1x1024x4, .i1⟩
  | 54 => ⟨S_, .i32⟩
  | 55 => ⟨S1x1024x4, .i32⟩
  | 56 => ⟨S1x1024x4, .i32⟩
  | 57 => ⟨S1x1024x4, .i32⟩
  | 58 => ⟨S1x1024x4x1, .i32⟩
  | 59 => ⟨S1x1024x4x768, .f32⟩
  | 60 => ⟨S1x1024x4x1, .f32⟩
  | 61 => ⟨S1x1024x4x768, .f32⟩
  | 62 => ⟨S1x1024x4x768, .f32⟩
  | 63 => ⟨S_, .f32⟩
  | 64 => ⟨S1x1024x768, .f32⟩
  | 65 => ⟨S1x1024x4x1, .f32⟩
  | 66 => ⟨S1x1024x4x768, .f32⟩
  | 67 => ⟨S1x1024x4x768, .f32⟩
  | 68 => ⟨S_, .f32⟩
  | 69 => ⟨S1x1024x768, .f32⟩
  | 70 => ⟨S_, .f32⟩
  | 71 => ⟨S1x1024x768, .f32⟩
  | 72 => ⟨S1x1024x768, .f32⟩
  | 73 => ⟨S1x1024x768, .f32⟩
  | 74 => ⟨S_, .f32⟩
  | 75 => ⟨S1x1024x768, .f32⟩
  | 76 => ⟨S1x1024x768, .f32⟩
  | 77 => ⟨S1x1024x768, .f32⟩
  | 78 => ⟨S_, .f32⟩
  | 79 => ⟨S1x1024, .f32⟩
  | 80 => ⟨S1x1024x1, .f32⟩
  | 81 => ⟨S_, .f32⟩
  | 82 => ⟨S1x1024x1, .f32⟩
  | 83 => ⟨S1x1024x1, .f32⟩
  | 84 => ⟨S1x1024x768, .f32⟩
  | 85 => ⟨S1x1024x768, .f32⟩
  | 86 => ⟨S1x1024x768, .f32⟩
  | 87 => ⟨S_, .f32⟩
  | 88 => ⟨S1x1024, .f32⟩
  | 89 => ⟨S1x1024x1, .f32⟩
  | 90 => ⟨S_, .f32⟩
  | 91 => ⟨S1x1024x1, .f32⟩
  | 92 => ⟨S1x1024x1, .f32⟩
  | 93 => ⟨S1x1024x768, .f32⟩
  | 94 => ⟨S1x1024x768, .f32⟩
  | 95 => ⟨S_, .f32⟩
  | 96 => ⟨S1x1024x1, .f32⟩
  | 97 => ⟨S1x1024x1, .f32⟩
  | 98 => ⟨S1x1024x1, .f32⟩
  | 99 => ⟨S1x1024x768, .f32⟩
  | 100 => ⟨S1x1024x768, .f32⟩
  | 101 => ⟨S1x1x768, .f32⟩
  | 102 => ⟨S1x1024x768, .f32⟩
  | 103 => ⟨S1x1024x768, .f32⟩
  | 104 => ⟨S1x1x768, .f32⟩
  | 105 => ⟨S1x1024x768, .f32⟩
  | 106 => ⟨S1x1024x768, .f32⟩
  | 107 => ⟨S1x1x768, .f32⟩
  | 108 => ⟨S1x256x768, .f32⟩
  | 109 => ⟨S1x256x768, .f32⟩
  | 110 => ⟨S1x256x1024, .f32⟩
  | 111 => ⟨S1x256x4, .f32⟩
  | 112 => ⟨S1x256x4, .i32⟩
  | 113 => ⟨S_, .f32⟩
  | 114 => ⟨S1x256, .f32⟩
  | 115 => ⟨S_, .f32⟩
  | 116 => ⟨S1x256, .f32⟩
  | 117 => ⟨S1x256, .f32⟩
  | 118 => ⟨S1x256x1, .f32⟩
  | 119 => ⟨S1x256x4, .f32⟩
  | 120 => ⟨S1x256x4, .f32⟩
  | 121 => ⟨S1x256x4, .f32⟩
  | 122 => ⟨S_, .f32⟩
  | 123 => ⟨S1x256, .f32⟩
  | 124 => ⟨S1x256x1, .f32⟩
  | 125 => ⟨S1x256x4, .f32⟩
  | 126 => ⟨S1x256x4, .f32⟩
  | 127 => ⟨S_, .i32⟩
  | _ => ⟨S1x4096x768, .f32⟩

abbrev hbmTy0_2 (i : Nat) : BufTy := match i % 128 with
  | 0 => ⟨S1x256x4, .i32⟩
  | 1 => ⟨S1x256x4, .i1⟩
  | 2 => ⟨S_, .i32⟩
  | 3 => ⟨S1x256x4, .i32⟩
  | 4 => ⟨S1x256x4, .i32⟩
  | 5 => ⟨S1x256x4, .i32⟩
  | 6 => ⟨S1x256x4x1, .i32⟩
  | 7 => ⟨S1x256x4x768, .f32⟩
  | 8 => ⟨S_, .i32⟩
  | 9 => ⟨S1x256x4, .i32⟩
  | 10 => ⟨S1x256x4, .i1⟩
  | 11 => ⟨S_, .i32⟩
  | 12 => ⟨S1x256x4, .i32⟩
  | 13 => ⟨S1x256x4, .i32⟩
  | 14 => ⟨S1x256x4, .i32⟩
  | 15 => ⟨S1x256x4x1, .i32⟩
  | 16 => ⟨S1x256x4x768, .f32⟩
  | 17 => ⟨S1x256x4x1, .f32⟩
  | 18 => ⟨S1x256x4x768, .f32⟩
  | 19 => ⟨S1x256x4x768, .f32⟩
  | 20 => ⟨S_, .f32⟩
  | 21 => ⟨S1x256x768, .f32⟩
  | 22 => ⟨S1x256x4x1, .f32⟩
  | 23 => ⟨S1x256x4x768, .f32⟩
  | 24 => ⟨S1x256x4x768, .f32⟩
  | 25 => ⟨S_, .f32⟩
  | 26 => ⟨S1x256x768, .f32⟩
  | 27 => ⟨S_, .f32⟩
  | 28 => ⟨S1x256x768, .f32⟩
  | 29 => ⟨S1x256x768, .f32⟩
  | 30 => ⟨S1x256x768, .f32⟩
  | 31 => ⟨S_, .f32⟩
  | 32 => ⟨S1x256x768, .f32⟩
  | 33 => ⟨S1x256x768, .f32⟩
  | 34 => ⟨S1x256x768, .f32⟩
  | 35 => ⟨S1x1x768, .f32⟩
  | 36 => ⟨S1x256x768, .f32⟩
  | 37 => ⟨S1x256x768, .f32⟩
  | 38 => ⟨S1x256x256, .f32⟩
  | 39 => ⟨S1x256x4, .f32⟩
  | 40 => ⟨S1x256x4, .i32⟩
  | 41 => ⟨S_, .f32⟩
  | 42 => ⟨S1x256, .f32⟩
  | 43 => ⟨S_, .f32⟩
  | 44 => ⟨S1x256, .f32⟩
  | 45 => ⟨S1x256, .f32⟩
  | 46 => ⟨S1x256x1, .f32⟩
  | 47 => ⟨S1x256x4, .f32⟩
  | 48 => ⟨S1x256x4, .f32⟩
  | 49 => ⟨S1x256x4, .f32⟩
  | 50 => ⟨S_, .f32⟩
  | 51 => ⟨S1x256, .f32⟩
  | 52 => ⟨S1x256x1, .f32⟩
  | 53 => ⟨S1x256x4, .f32⟩
  | 54 => ⟨S1x256x4, .f32⟩
  | 55 => ⟨S_, .i32⟩
  | 56 => ⟨S1x256x4, .i32⟩
  | 57 => ⟨S1x256x4, .i1⟩
  | 58 => ⟨S_, .i32⟩
  | 59 => ⟨S1x256x4, .i32⟩
  | 60 => ⟨S1x256x4, .i32⟩
  | 61 => ⟨S1x256x4, .i32⟩
  | 62 => ⟨S1x256x4x1, .i32⟩
  | 63 => ⟨S1x256x4x768, .f32⟩
  | 64 => ⟨S_, .i32⟩
  | 65 => ⟨S1x256x4, .i32⟩
  | 66 => ⟨S1x256x4, .i1⟩
  | 67 => ⟨S_, .i32⟩
  | 68 => ⟨S1x256x4, .i32⟩
  | 69 => ⟨S1x256x4, .i32⟩
  | 70 => ⟨S1x256x4, .i32⟩
  | 71 => ⟨S1x256x4x1, .i32⟩
  | 72 => ⟨S1x256x4x768, .f32⟩
  | 73 => ⟨S1x256x4x1, .f32⟩
  | 74 => ⟨S1x256x4x768, .f32⟩
  | 75 => ⟨S1x256x4x768, .f32⟩
  | 76 => ⟨S_, .f32⟩
  | 77 => ⟨S1x256x768, .f32⟩
  | 78 => ⟨S1x256x4x1, .f32⟩
  | 79 => ⟨S1x256x4x768, .f32⟩
  | 80 => ⟨S1x256x4x768, .f32⟩
  | 81 => ⟨S_, .f32⟩
  | 82 => ⟨S1x256x768, .f32⟩
  | 83 => ⟨S_, .f32⟩
  | 84 => ⟨S1x256x768, .f32⟩
  | 85 => ⟨S1x256x768, .f32⟩
  | 86 => ⟨S1x256x768, .f32⟩
  | 87 => ⟨S_, .f32⟩
  | 88 => ⟨S1x256x768, .f32⟩
  | 89 => ⟨S1x256x768, .f32⟩
  | 90 => ⟨S1x256x768, .f32⟩
  | 91 => ⟨S_, .f32⟩
  | 92 => ⟨S1x256, .f32⟩
  | 93 => ⟨S1x256x1, .f32⟩
  | 94 => ⟨S_, .f32⟩
  | 95 => ⟨S1x256x1, .f32⟩
  | 96 => ⟨S1x256x1, .f32⟩
  | 97 => ⟨S1x256x768, .f32⟩
  | 98 => ⟨S1x256x768, .f32⟩
  | 99 => ⟨S1x256x768, .f32⟩
  | 100 => ⟨S_, .f32⟩
  | 101 => ⟨S1x256, .f32⟩
  | 102 => ⟨S1x256x1, .f32⟩
  | 103 => ⟨S_, .f32⟩
  | 104 => ⟨S1x256x1, .f32⟩
  | 105 => ⟨S1x256x1, .f32⟩
  | 106 => ⟨S1x256x768, .f32⟩
  | 107 => ⟨S1x256x768, .f32⟩
  | 108 => ⟨S_, .f32⟩
  | 109 => ⟨S1x256x1, .f32⟩
  | 110 => ⟨S1x256x1, .f32⟩
  | 111 => ⟨S1x256x1, .f32⟩
  | 112 => ⟨S1x256x768, .f32⟩
  | 113 => ⟨S1x256x768, .f32⟩
  | 114 => ⟨S1x1x768, .f32⟩
  | 115 => ⟨S1x256x768, .f32⟩
  | 116 => ⟨S1x256x768, .f32⟩
  | 117 => ⟨S1x1x768, .f32⟩
  | 118 => ⟨S1x256x768, .f32⟩
  | 119 => ⟨S1x256x768, .f32⟩
  | 120 => ⟨S1x1x768, .f32⟩
  | 121 => ⟨S1x4096x768, .f32⟩
  | 122 => ⟨S1x4096x768, .f32⟩
  | 123 => ⟨S1x4096x256, .f32⟩
  | 124 => ⟨S1x4096x4, .f32⟩
  | 125 => ⟨S1x4096x4, .i32⟩
  | 126 => ⟨S_, .f32⟩
  | 127 => ⟨S1x4096, .f32⟩
  | _ => ⟨S1x4096x768, .f32⟩

abbrev hbmTy0_3 (i : Nat) : BufTy := match i % 128 with
  | 0 => ⟨S_, .f32⟩
  | 1 => ⟨S1x4096, .f32⟩
  | 2 => ⟨S1x4096, .f32⟩
  | 3 => ⟨S1x4096x1, .f32⟩
  | 4 => ⟨S1x4096x4, .f32⟩
  | 5 => ⟨S1x4096x4, .f32⟩
  | 6 => ⟨S1x4096x4, .f32⟩
  | 7 => ⟨S_, .f32⟩
  | 8 => ⟨S1x4096, .f32⟩
  | 9 => ⟨S1x4096x1, .f32⟩
  | 10 => ⟨S1x4096x4, .f32⟩
  | 11 => ⟨S1x4096x4, .f32⟩
  | 12 => ⟨S_, .i32⟩
  | 13 => ⟨S1x4096x4, .i32⟩
  | 14 => ⟨S1x4096x4, .i1⟩
  | 15 => ⟨S_, .i32⟩
  | 16 => ⟨S1x4096x4, .i32⟩
  | 17 => ⟨S1x4096x4, .i32⟩
  | 18 => ⟨S1x4096x4, .i32⟩
  | 19 => ⟨S1x4096x4x1, .i32⟩
  | 20 => ⟨S1x4096x4x768, .f32⟩
  | 21 => ⟨S_, .i32⟩
  | 22 => ⟨S1x4096x4, .i32⟩
  | 23 => ⟨S1x4096x4, .i1⟩
  | 24 => ⟨S_, .i32⟩
  | 25 => ⟨S1x4096x4, .i32⟩
  | 26 => ⟨S1x4096x4, .i32⟩
  | 27 => ⟨S1x4096x4, .i32⟩
  | 28 => ⟨S1x4096x4x1, .i32⟩
  | 29 => ⟨S1x4096x4x768, .f32⟩
  | 30 => ⟨S1x4096x4x1, .f32⟩
  | 31 => ⟨S1x4096x4x768, .f32⟩
  | 32 => ⟨S1x4096x4x768, .f32⟩
  | 33 => ⟨S_, .f32⟩
  | 34 => ⟨S1x4096x768, .f32⟩
  | 35 => ⟨S1x4096x4x1, .f32⟩
  | 36 => ⟨S1x4096x4x768, .f32⟩
  | 37 => ⟨S1x4096x4x768, .f32⟩
  | 38 => ⟨S_, .f32⟩
  | 39 => ⟨S1x4096x768, .f32⟩
  | 40 => ⟨S_, .f32⟩
  | 41 => ⟨S1x4096x768, .f32⟩
  | 42 => ⟨S1x4096x768, .f32⟩
  | 43 => ⟨S1x4096x768, .f32⟩
  | 44 => ⟨S_, .f32⟩
  | 45 => ⟨S1x4096x768, .f32⟩
  | 46 => ⟨S1x4096x768, .f32⟩
  | 47 => ⟨S1x4096x768, .f32⟩
  | 48 => ⟨S1x4096x768, .f32⟩
  | 49 => ⟨S_, .f32⟩
  | 50 => ⟨S1x4096, .f32⟩
  | 51 => ⟨S1x4096x1, .f32⟩
  | 52 => ⟨S_, .f32⟩
  | 53 => ⟨S1x4096x1, .f32⟩
  | 54 => ⟨S1x4096x1, .f32⟩
  | 55 => ⟨S1x4096x768, .f32⟩
  | 56 => ⟨S1x4096x768, .f32⟩
  | 57 => ⟨S1x4096x768, .f32⟩
  | 58 => ⟨S_, .f32⟩
  | 59 => ⟨S1x4096, .f32⟩
  | 60 => ⟨S1x4096x1, .f32⟩
  | 61 => ⟨S_, .f32⟩
  | 62 => ⟨S1x4096x1, .f32⟩
  | 63 => ⟨S1x4096x1, .f32⟩
  | 64 => ⟨S1x4096x768, .f32⟩
  | 65 => ⟨S1x4096x768, .f32⟩
  | 66 => ⟨S_, .f32⟩
  | 67 => ⟨S1x4096x1, .f32⟩
  | 68 => ⟨S1x4096x1, .f32⟩
  | 69 => ⟨S1x4096x1, .f32⟩
  | 70 => ⟨S1x4096x768, .f32⟩
  | 71 => ⟨S1x4096x768, .f32⟩
  | 72 => ⟨S1x1x768, .f32⟩
  | 73 => ⟨S1x4096x768, .f32⟩
  | 74 => ⟨S1x4096x768, .f32⟩
  | 75 => ⟨S1x1x768, .f32⟩
  | 76 => ⟨S1x4096x768, .f32⟩
  | 77 => ⟨S1x4096x768, .f32⟩
  | 78 => ⟨S1x1x4096x768, .f32⟩
  | 79 => ⟨S1x1x4096x768, .f32⟩
  | 80 => ⟨S2x1x4096x768, .f32⟩
  | _ => ⟨S1x4096x768, .f32⟩

abbrev hbmTy (i : Nat) : BufTy := match i / 128 with
  | 0 => hbmTy0_0 i
  | 1 => hbmTy0_1 i
  | 2 => hbmTy0_2 i
  | 3 => hbmTy0_3 i
  | _ => ⟨S1x4096x768, .f32⟩

abbrev bufTy : (tb : Table) → Fin (tcTables nBuf tb) → BufTy
  | .hbm, ⟨i, _⟩ => hbmTy i
  | _, _ => ⟨S1x4096x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_c : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_c_0 : Ref sig .tc := ⟨.hbm, 28, rfl⟩
abbrev main_v11 : Ref sig .tc := ⟨.hbm, 29, rfl⟩
abbrev main_v12 : Ref sig .tc := ⟨.hbm, 30, rfl⟩
abbrev main_c_1 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_c_2 : Ref sig .tc := ⟨.hbm, 35, rfl⟩
abbrev main_c_3 : Ref sig .tc := ⟨.hbm, 36, rfl⟩
abbrev main_call0_v0 : Ref sig .tc := ⟨.hbm, 37, rfl⟩
abbrev main_call0_v1 : Ref sig .tc := ⟨.hbm, 38, rfl⟩
abbrev main_call0_v2 : Ref sig .tc := ⟨.hbm, 39, rfl⟩
abbrev main_call0_v3 : Ref sig .tc := ⟨.hbm, 40, rfl⟩
abbrev main_call0_v4 : Ref sig .tc := ⟨.hbm, 41, rfl⟩
abbrev main_v16 : Ref sig .tc := ⟨.hbm, 42, rfl⟩
abbrev main_c_4 : Ref sig .tc := ⟨.hbm, 43, rfl⟩
abbrev main_v17 : Ref sig .tc := ⟨.hbm, 44, rfl⟩
abbrev main_v18 : Ref sig .tc := ⟨.hbm, 45, rfl⟩
abbrev main_c_5 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_c_6 : Ref sig .tc := ⟨.hbm, 52, rfl⟩
abbrev main_v24 : Ref sig .tc := ⟨.hbm, 53, rfl⟩
abbrev main_v25 : Ref sig .tc := ⟨.hbm, 54, rfl⟩
abbrev main_c_7 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_cst : Ref sig .tc := ⟨.hbm, 66, rfl⟩
abbrev main_call1_v0 : Ref sig .tc := ⟨.hbm, 67, rfl⟩
abbrev main_call1_v1 : Ref sig .tc := ⟨.hbm, 68, rfl⟩
abbrev main_v36 : Ref sig .tc := ⟨.hbm, 69, rfl⟩
abbrev main_cst_8 : Ref sig .tc := ⟨.hbm, 70, rfl⟩
abbrev main_v37 : Ref sig .tc := ⟨.hbm, 71, rfl⟩
abbrev main_cst_9 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_cst_10 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_cst_11 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_cst_12 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_values : Ref sig .tc := ⟨.hbm, 98, rfl⟩
abbrev main_indices : Ref sig .tc := ⟨.hbm, 99, rfl⟩
abbrev main_cst_13 : Ref sig .tc := ⟨.hbm, 100, rfl⟩
abbrev main_v60 : Ref sig .tc := ⟨.hbm, 101, rfl⟩
abbrev main_cst_14 : Ref sig .tc := ⟨.hbm, 102, rfl⟩
abbrev main_v61 : Ref sig .tc := ⟨.hbm, 103, rfl⟩
abbrev main_v62 : Ref sig .tc := ⟨.hbm, 104, rfl⟩
abbrev main_v63 : Ref sig .tc := ⟨.hbm, 105, rfl⟩
abbrev main_v64 : Ref sig .tc := ⟨.hbm, 106, rfl⟩
abbrev main_v65 : Ref sig .tc := ⟨.hbm, 107, rfl⟩
abbrev main_v66 : Ref sig .tc := ⟨.hbm, 108, rfl⟩
abbrev main_cst_15 : Ref sig .tc := ⟨.hbm, 109, rfl⟩
abbrev main_v67 : Ref sig .tc := ⟨.hbm, 110, rfl⟩
abbrev main_v68 : Ref sig .tc := ⟨.hbm, 111, rfl⟩
abbrev main_v69 : Ref sig .tc := ⟨.hbm, 112, rfl⟩
abbrev main_v70 : Ref sig .tc := ⟨.hbm, 113, rfl⟩
abbrev main_c_16 : Ref sig .tc := ⟨.hbm, 114, rfl⟩
abbrev main_v71 : Ref sig .tc := ⟨.hbm, 115, rfl⟩
abbrev main_v72 : Ref sig .tc := ⟨.hbm, 116, rfl⟩
abbrev main_c_17 : Ref sig .tc := ⟨.hbm, 117, rfl⟩
abbrev main_v73 : Ref sig .tc := ⟨.hbm, 118, rfl⟩
abbrev main_v74 : Ref sig .tc := ⟨.hbm, 119, rfl⟩
abbrev main_v75 : Ref sig .tc := ⟨.hbm, 120, rfl⟩
abbrev main_v76 : Ref sig .tc := ⟨.hbm, 121, rfl⟩
abbrev main_v77 : Ref sig .tc := ⟨.hbm, 122, rfl⟩
abbrev main_c_18 : Ref sig .tc := ⟨.hbm, 123, rfl⟩
abbrev main_v78 : Ref sig .tc := ⟨.hbm, 124, rfl⟩
abbrev main_v79 : Ref sig .tc := ⟨.hbm, 125, rfl⟩
abbrev main_c_19 : Ref sig .tc := ⟨.hbm, 126, rfl⟩
abbrev main_v80 : Ref sig .tc := ⟨.hbm, 127, rfl⟩
abbrev main_v81 : Ref sig .tc := ⟨.hbm, 128, rfl⟩
abbrev main_v82 : Ref sig .tc := ⟨.hbm, 129, rfl⟩
abbrev main_v83 : Ref sig .tc := ⟨.hbm, 130, rfl⟩
abbrev main_v84 : Ref sig .tc := ⟨.hbm, 131, rfl⟩
abbrev main_v85 : Ref sig .tc := ⟨.hbm, 132, rfl⟩
abbrev main_v86 : Ref sig .tc := ⟨.hbm, 133, rfl⟩
abbrev main_v87 : Ref sig .tc := ⟨.hbm, 134, rfl⟩
abbrev main_cst_20 : Ref sig .tc := ⟨.hbm, 135, rfl⟩
abbrev main_v88 : Ref sig .tc := ⟨.hbm, 136, rfl⟩
abbrev main_v89 : Ref sig .tc := ⟨.hbm, 137, rfl⟩
abbrev main_v90 : Ref sig .tc := ⟨.hbm, 138, rfl⟩
abbrev main_v91 : Ref sig .tc := ⟨.hbm, 139, rfl⟩
abbrev main_cst_21 : Ref sig .tc := ⟨.hbm, 140, rfl⟩
abbrev main_v92 : Ref sig .tc := ⟨.hbm, 141, rfl⟩
abbrev main_cst_22 : Ref sig .tc := ⟨.hbm, 142, rfl⟩
abbrev main_v93 : Ref sig .tc := ⟨.hbm, 143, rfl⟩
abbrev main_v94 : Ref sig .tc := ⟨.hbm, 144, rfl⟩
abbrev main_v95 : Ref sig .tc := ⟨.hbm, 145, rfl⟩
abbrev main_cst_23 : Ref sig .tc := ⟨.hbm, 146, rfl⟩
abbrev main_v96 : Ref sig .tc := ⟨.hbm, 147, rfl⟩
abbrev main_v97 : Ref sig .tc := ⟨.hbm, 148, rfl⟩
abbrev main_v98 : Ref sig .tc := ⟨.hbm, 149, rfl⟩
abbrev main_v99 : Ref sig .tc := ⟨.hbm, 150, rfl⟩
abbrev main_v100 : Ref sig .tc := ⟨.hbm, 151, rfl⟩
abbrev main_v101 : Ref sig .tc := ⟨.hbm, 152, rfl⟩
abbrev main_v102 : Ref sig .tc := ⟨.hbm, 153, rfl⟩
abbrev main_values_24 : Ref sig .tc := ⟨.hbm, 154, rfl⟩
abbrev main_indices_25 : Ref sig .tc := ⟨.hbm, 155, rfl⟩
abbrev main_cst_26 : Ref sig .tc := ⟨.hbm, 156, rfl⟩
abbrev main_v103 : Ref sig .tc := ⟨.hbm, 157, rfl⟩
abbrev main_cst_27 : Ref sig .tc := ⟨.hbm, 158, rfl⟩
abbrev main_v104 : Ref sig .tc := ⟨.hbm, 159, rfl⟩
abbrev main_v105 : Ref sig .tc := ⟨.hbm, 160, rfl⟩
abbrev main_v106 : Ref sig .tc := ⟨.hbm, 161, rfl⟩
abbrev main_v107 : Ref sig .tc := ⟨.hbm, 162, rfl⟩
abbrev main_v108 : Ref sig .tc := ⟨.hbm, 163, rfl⟩
abbrev main_v109 : Ref sig .tc := ⟨.hbm, 164, rfl⟩
abbrev main_cst_28 : Ref sig .tc := ⟨.hbm, 165, rfl⟩
abbrev main_v110 : Ref sig .tc := ⟨.hbm, 166, rfl⟩
abbrev main_v111 : Ref sig .tc := ⟨.hbm, 167, rfl⟩
abbrev main_v112 : Ref sig .tc := ⟨.hbm, 168, rfl⟩
abbrev main_v113 : Ref sig .tc := ⟨.hbm, 169, rfl⟩
abbrev main_c_29 : Ref sig .tc := ⟨.hbm, 170, rfl⟩
abbrev main_v114 : Ref sig .tc := ⟨.hbm, 171, rfl⟩
abbrev main_v115 : Ref sig .tc := ⟨.hbm, 172, rfl⟩
abbrev main_c_30 : Ref sig .tc := ⟨.hbm, 173, rfl⟩
abbrev main_v116 : Ref sig .tc := ⟨.hbm, 174, rfl⟩
abbrev main_v117 : Ref sig .tc := ⟨.hbm, 175, rfl⟩
abbrev main_v118 : Ref sig .tc := ⟨.hbm, 176, rfl⟩
abbrev main_v119 : Ref sig .tc := ⟨.hbm, 177, rfl⟩
abbrev main_v120 : Ref sig .tc := ⟨.hbm, 178, rfl⟩
abbrev main_c_31 : Ref sig .tc := ⟨.hbm, 179, rfl⟩
abbrev main_v121 : Ref sig .tc := ⟨.hbm, 180, rfl⟩
abbrev main_v122 : Ref sig .tc := ⟨.hbm, 181, rfl⟩
abbrev main_c_32 : Ref sig .tc := ⟨.hbm, 182, rfl⟩
abbrev main_v123 : Ref sig .tc := ⟨.hbm, 183, rfl⟩
abbrev main_v124 : Ref sig .tc := ⟨.hbm, 184, rfl⟩
abbrev main_v125 : Ref sig .tc := ⟨.hbm, 185, rfl⟩
abbrev main_v126 : Ref sig .tc := ⟨.hbm, 186, rfl⟩
abbrev main_v127 : Ref sig .tc := ⟨.hbm, 187, rfl⟩
abbrev main_v128 : Ref sig .tc := ⟨.hbm, 188, rfl⟩
abbrev main_v129 : Ref sig .tc := ⟨.hbm, 189, rfl⟩
abbrev main_v130 : Ref sig .tc := ⟨.hbm, 190, rfl⟩
abbrev main_cst_33 : Ref sig .tc := ⟨.hbm, 191, rfl⟩
abbrev main_v131 : Ref sig .tc := ⟨.hbm, 192, rfl⟩
abbrev main_v132 : Ref sig .tc := ⟨.hbm, 193, rfl⟩
abbrev main_v133 : Ref sig .tc := ⟨.hbm, 194, rfl⟩
abbrev main_v134 : Ref sig .tc := ⟨.hbm, 195, rfl⟩
abbrev main_cst_34 : Ref sig .tc := ⟨.hbm, 196, rfl⟩
abbrev main_v135 : Ref sig .tc := ⟨.hbm, 197, rfl⟩
abbrev main_cst_35 : Ref sig .tc := ⟨.hbm, 198, rfl⟩
abbrev main_v136 : Ref sig .tc := ⟨.hbm, 199, rfl⟩
abbrev main_v137 : Ref sig .tc := ⟨.hbm, 200, rfl⟩
abbrev main_v138 : Ref sig .tc := ⟨.hbm, 201, rfl⟩
abbrev main_cst_36 : Ref sig .tc := ⟨.hbm, 202, rfl⟩
abbrev main_v139 : Ref sig .tc := ⟨.hbm, 203, rfl⟩
abbrev main_v140 : Ref sig .tc := ⟨.hbm, 204, rfl⟩
abbrev main_v141 : Ref sig .tc := ⟨.hbm, 205, rfl⟩
abbrev main_cst_37 : Ref sig .tc := ⟨.hbm, 206, rfl⟩
abbrev main_v142 : Ref sig .tc := ⟨.hbm, 207, rfl⟩
abbrev main_v143 : Ref sig .tc := ⟨.hbm, 208, rfl⟩
abbrev main_cst_38 : Ref sig .tc := ⟨.hbm, 209, rfl⟩
abbrev main_v144 : Ref sig .tc := ⟨.hbm, 210, rfl⟩
abbrev main_v145 : Ref sig .tc := ⟨.hbm, 211, rfl⟩
abbrev main_v146 : Ref sig .tc := ⟨.hbm, 212, rfl⟩
abbrev main_v147 : Ref sig .tc := ⟨.hbm, 213, rfl⟩
abbrev main_v148 : Ref sig .tc := ⟨.hbm, 214, rfl⟩
abbrev main_cst_39 : Ref sig .tc := ⟨.hbm, 215, rfl⟩
abbrev main_v149 : Ref sig .tc := ⟨.hbm, 216, rfl⟩
abbrev main_v150 : Ref sig .tc := ⟨.hbm, 217, rfl⟩
abbrev main_cst_40 : Ref sig .tc := ⟨.hbm, 218, rfl⟩
abbrev main_v151 : Ref sig .tc := ⟨.hbm, 219, rfl⟩
abbrev main_v152 : Ref sig .tc := ⟨.hbm, 220, rfl⟩
abbrev main_v153 : Ref sig .tc := ⟨.hbm, 221, rfl⟩
abbrev main_v154 : Ref sig .tc := ⟨.hbm, 222, rfl⟩
abbrev main_cst_41 : Ref sig .tc := ⟨.hbm, 223, rfl⟩
abbrev main_v155 : Ref sig .tc := ⟨.hbm, 224, rfl⟩
abbrev main_v156 : Ref sig .tc := ⟨.hbm, 225, rfl⟩
abbrev main_v157 : Ref sig .tc := ⟨.hbm, 226, rfl⟩
abbrev main_v158 : Ref sig .tc := ⟨.hbm, 227, rfl⟩
abbrev main_v159 : Ref sig .tc := ⟨.hbm, 228, rfl⟩
abbrev main_v160 : Ref sig .tc := ⟨.hbm, 229, rfl⟩
abbrev main_v161 : Ref sig .tc := ⟨.hbm, 230, rfl⟩
abbrev main_v162 : Ref sig .tc := ⟨.hbm, 231, rfl⟩
abbrev main_v163 : Ref sig .tc := ⟨.hbm, 232, rfl⟩
abbrev main_v164 : Ref sig .tc := ⟨.hbm, 233, rfl⟩
abbrev main_v165 : Ref sig .tc := ⟨.hbm, 234, rfl⟩
abbrev main_v166 : Ref sig .tc := ⟨.hbm, 235, rfl⟩
abbrev main_v167 : Ref sig .tc := ⟨.hbm, 236, rfl⟩
abbrev main_v168 : Ref sig .tc := ⟨.hbm, 237, rfl⟩
abbrev main_v169 : Ref sig .tc := ⟨.hbm, 238, rfl⟩
abbrev main_values_42 : Ref sig .tc := ⟨.hbm, 239, rfl⟩
abbrev main_indices_43 : Ref sig .tc := ⟨.hbm, 240, rfl⟩
abbrev main_cst_44 : Ref sig .tc := ⟨.hbm, 241, rfl⟩
abbrev main_v170 : Ref sig .tc := ⟨.hbm, 242, rfl⟩
abbrev main_cst_45 : Ref sig .tc := ⟨.hbm, 243, rfl⟩
abbrev main_v171 : Ref sig .tc := ⟨.hbm, 244, rfl⟩
abbrev main_v172 : Ref sig .tc := ⟨.hbm, 245, rfl⟩
abbrev main_v173 : Ref sig .tc := ⟨.hbm, 246, rfl⟩
abbrev main_v174 : Ref sig .tc := ⟨.hbm, 247, rfl⟩
abbrev main_v175 : Ref sig .tc := ⟨.hbm, 248, rfl⟩
abbrev main_v176 : Ref sig .tc := ⟨.hbm, 249, rfl⟩
abbrev main_cst_46 : Ref sig .tc := ⟨.hbm, 250, rfl⟩
abbrev main_v177 : Ref sig .tc := ⟨.hbm, 251, rfl⟩
abbrev main_v178 : Ref sig .tc := ⟨.hbm, 252, rfl⟩
abbrev main_v179 : Ref sig .tc := ⟨.hbm, 253, rfl⟩
abbrev main_v180 : Ref sig .tc := ⟨.hbm, 254, rfl⟩
abbrev main_c_47 : Ref sig .tc := ⟨.hbm, 255, rfl⟩
abbrev main_v181 : Ref sig .tc := ⟨.hbm, 256, rfl⟩
abbrev main_v182 : Ref sig .tc := ⟨.hbm, 257, rfl⟩
abbrev main_c_48 : Ref sig .tc := ⟨.hbm, 258, rfl⟩
abbrev main_v183 : Ref sig .tc := ⟨.hbm, 259, rfl⟩
abbrev main_v184 : Ref sig .tc := ⟨.hbm, 260, rfl⟩
abbrev main_v185 : Ref sig .tc := ⟨.hbm, 261, rfl⟩
abbrev main_v186 : Ref sig .tc := ⟨.hbm, 262, rfl⟩
abbrev main_v187 : Ref sig .tc := ⟨.hbm, 263, rfl⟩
abbrev main_c_49 : Ref sig .tc := ⟨.hbm, 264, rfl⟩
abbrev main_v188 : Ref sig .tc := ⟨.hbm, 265, rfl⟩
abbrev main_v189 : Ref sig .tc := ⟨.hbm, 266, rfl⟩
abbrev main_c_50 : Ref sig .tc := ⟨.hbm, 267, rfl⟩
abbrev main_v190 : Ref sig .tc := ⟨.hbm, 268, rfl⟩
abbrev main_v191 : Ref sig .tc := ⟨.hbm, 269, rfl⟩
abbrev main_v192 : Ref sig .tc := ⟨.hbm, 270, rfl⟩
abbrev main_v193 : Ref sig .tc := ⟨.hbm, 271, rfl⟩
abbrev main_v194 : Ref sig .tc := ⟨.hbm, 272, rfl⟩
abbrev main_v195 : Ref sig .tc := ⟨.hbm, 273, rfl⟩
abbrev main_v196 : Ref sig .tc := ⟨.hbm, 274, rfl⟩
abbrev main_v197 : Ref sig .tc := ⟨.hbm, 275, rfl⟩
abbrev main_cst_51 : Ref sig .tc := ⟨.hbm, 276, rfl⟩
abbrev main_v198 : Ref sig .tc := ⟨.hbm, 277, rfl⟩
abbrev main_v199 : Ref sig .tc := ⟨.hbm, 278, rfl⟩
abbrev main_v200 : Ref sig .tc := ⟨.hbm, 279, rfl⟩
abbrev main_v201 : Ref sig .tc := ⟨.hbm, 280, rfl⟩
abbrev main_cst_52 : Ref sig .tc := ⟨.hbm, 281, rfl⟩
abbrev main_v202 : Ref sig .tc := ⟨.hbm, 282, rfl⟩
abbrev main_cst_53 : Ref sig .tc := ⟨.hbm, 283, rfl⟩
abbrev main_v203 : Ref sig .tc := ⟨.hbm, 284, rfl⟩
abbrev main_v204 : Ref sig .tc := ⟨.hbm, 285, rfl⟩
abbrev main_v205 : Ref sig .tc := ⟨.hbm, 286, rfl⟩
abbrev main_cst_54 : Ref sig .tc := ⟨.hbm, 287, rfl⟩
abbrev main_v206 : Ref sig .tc := ⟨.hbm, 288, rfl⟩
abbrev main_v207 : Ref sig .tc := ⟨.hbm, 289, rfl⟩
abbrev main_v208 : Ref sig .tc := ⟨.hbm, 290, rfl⟩
abbrev main_v209 : Ref sig .tc := ⟨.hbm, 291, rfl⟩
abbrev main_v210 : Ref sig .tc := ⟨.hbm, 292, rfl⟩
abbrev main_v211 : Ref sig .tc := ⟨.hbm, 293, rfl⟩
abbrev main_v212 : Ref sig .tc := ⟨.hbm, 294, rfl⟩
abbrev main_values_55 : Ref sig .tc := ⟨.hbm, 295, rfl⟩
abbrev main_indices_56 : Ref sig .tc := ⟨.hbm, 296, rfl⟩
abbrev main_cst_57 : Ref sig .tc := ⟨.hbm, 297, rfl⟩
abbrev main_v213 : Ref sig .tc := ⟨.hbm, 298, rfl⟩
abbrev main_cst_58 : Ref sig .tc := ⟨.hbm, 299, rfl⟩
abbrev main_v214 : Ref sig .tc := ⟨.hbm, 300, rfl⟩
abbrev main_v215 : Ref sig .tc := ⟨.hbm, 301, rfl⟩
abbrev main_v216 : Ref sig .tc := ⟨.hbm, 302, rfl⟩
abbrev main_v217 : Ref sig .tc := ⟨.hbm, 303, rfl⟩
abbrev main_v218 : Ref sig .tc := ⟨.hbm, 304, rfl⟩
abbrev main_v219 : Ref sig .tc := ⟨.hbm, 305, rfl⟩
abbrev main_cst_59 : Ref sig .tc := ⟨.hbm, 306, rfl⟩
abbrev main_v220 : Ref sig .tc := ⟨.hbm, 307, rfl⟩
abbrev main_v221 : Ref sig .tc := ⟨.hbm, 308, rfl⟩
abbrev main_v222 : Ref sig .tc := ⟨.hbm, 309, rfl⟩
abbrev main_v223 : Ref sig .tc := ⟨.hbm, 310, rfl⟩
abbrev main_c_60 : Ref sig .tc := ⟨.hbm, 311, rfl⟩
abbrev main_v224 : Ref sig .tc := ⟨.hbm, 312, rfl⟩
abbrev main_v225 : Ref sig .tc := ⟨.hbm, 313, rfl⟩
abbrev main_c_61 : Ref sig .tc := ⟨.hbm, 314, rfl⟩
abbrev main_v226 : Ref sig .tc := ⟨.hbm, 315, rfl⟩
abbrev main_v227 : Ref sig .tc := ⟨.hbm, 316, rfl⟩
abbrev main_v228 : Ref sig .tc := ⟨.hbm, 317, rfl⟩
abbrev main_v229 : Ref sig .tc := ⟨.hbm, 318, rfl⟩
abbrev main_v230 : Ref sig .tc := ⟨.hbm, 319, rfl⟩
abbrev main_c_62 : Ref sig .tc := ⟨.hbm, 320, rfl⟩
abbrev main_v231 : Ref sig .tc := ⟨.hbm, 321, rfl⟩
abbrev main_v232 : Ref sig .tc := ⟨.hbm, 322, rfl⟩
abbrev main_c_63 : Ref sig .tc := ⟨.hbm, 323, rfl⟩
abbrev main_v233 : Ref sig .tc := ⟨.hbm, 324, rfl⟩
abbrev main_v234 : Ref sig .tc := ⟨.hbm, 325, rfl⟩
abbrev main_v235 : Ref sig .tc := ⟨.hbm, 326, rfl⟩
abbrev main_v236 : Ref sig .tc := ⟨.hbm, 327, rfl⟩
abbrev main_v237 : Ref sig .tc := ⟨.hbm, 328, rfl⟩
abbrev main_v238 : Ref sig .tc := ⟨.hbm, 329, rfl⟩
abbrev main_v239 : Ref sig .tc := ⟨.hbm, 330, rfl⟩
abbrev main_v240 : Ref sig .tc := ⟨.hbm, 331, rfl⟩
abbrev main_cst_64 : Ref sig .tc := ⟨.hbm, 332, rfl⟩
abbrev main_v241 : Ref sig .tc := ⟨.hbm, 333, rfl⟩
abbrev main_v242 : Ref sig .tc := ⟨.hbm, 334, rfl⟩
abbrev main_v243 : Ref sig .tc := ⟨.hbm, 335, rfl⟩
abbrev main_v244 : Ref sig .tc := ⟨.hbm, 336, rfl⟩
abbrev main_cst_65 : Ref sig .tc := ⟨.hbm, 337, rfl⟩
abbrev main_v245 : Ref sig .tc := ⟨.hbm, 338, rfl⟩
abbrev main_cst_66 : Ref sig .tc := ⟨.hbm, 339, rfl⟩
abbrev main_v246 : Ref sig .tc := ⟨.hbm, 340, rfl⟩
abbrev main_v247 : Ref sig .tc := ⟨.hbm, 341, rfl⟩
abbrev main_v248 : Ref sig .tc := ⟨.hbm, 342, rfl⟩
abbrev main_cst_67 : Ref sig .tc := ⟨.hbm, 343, rfl⟩
abbrev main_v249 : Ref sig .tc := ⟨.hbm, 344, rfl⟩
abbrev main_v250 : Ref sig .tc := ⟨.hbm, 345, rfl⟩
abbrev main_v251 : Ref sig .tc := ⟨.hbm, 346, rfl⟩
abbrev main_cst_68 : Ref sig .tc := ⟨.hbm, 347, rfl⟩
abbrev main_v252 : Ref sig .tc := ⟨.hbm, 348, rfl⟩
abbrev main_v253 : Ref sig .tc := ⟨.hbm, 349, rfl⟩
abbrev main_cst_69 : Ref sig .tc := ⟨.hbm, 350, rfl⟩
abbrev main_v254 : Ref sig .tc := ⟨.hbm, 351, rfl⟩
abbrev main_v255 : Ref sig .tc := ⟨.hbm, 352, rfl⟩
abbrev main_v256 : Ref sig .tc := ⟨.hbm, 353, rfl⟩
abbrev main_v257 : Ref sig .tc := ⟨.hbm, 354, rfl⟩
abbrev main_v258 : Ref sig .tc := ⟨.hbm, 355, rfl⟩
abbrev main_cst_70 : Ref sig .tc := ⟨.hbm, 356, rfl⟩
abbrev main_v259 : Ref sig .tc := ⟨.hbm, 357, rfl⟩
abbrev main_v260 : Ref sig .tc := ⟨.hbm, 358, rfl⟩
abbrev main_cst_71 : Ref sig .tc := ⟨.hbm, 359, rfl⟩
abbrev main_v261 : Ref sig .tc := ⟨.hbm, 360, rfl⟩
abbrev main_v262 : Ref sig .tc := ⟨.hbm, 361, rfl⟩
abbrev main_v263 : Ref sig .tc := ⟨.hbm, 362, rfl⟩
abbrev main_v264 : Ref sig .tc := ⟨.hbm, 363, rfl⟩
abbrev main_cst_72 : Ref sig .tc := ⟨.hbm, 364, rfl⟩
abbrev main_v265 : Ref sig .tc := ⟨.hbm, 365, rfl⟩
abbrev main_v266 : Ref sig .tc := ⟨.hbm, 366, rfl⟩
abbrev main_v267 : Ref sig .tc := ⟨.hbm, 367, rfl⟩
abbrev main_v268 : Ref sig .tc := ⟨.hbm, 368, rfl⟩
abbrev main_v269 : Ref sig .tc := ⟨.hbm, 369, rfl⟩
abbrev main_v270 : Ref sig .tc := ⟨.hbm, 370, rfl⟩
abbrev main_v271 : Ref sig .tc := ⟨.hbm, 371, rfl⟩
abbrev main_v272 : Ref sig .tc := ⟨.hbm, 372, rfl⟩
abbrev main_v273 : Ref sig .tc := ⟨.hbm, 373, rfl⟩
abbrev main_v274 : Ref sig .tc := ⟨.hbm, 374, rfl⟩
abbrev main_v275 : Ref sig .tc := ⟨.hbm, 375, rfl⟩
abbrev main_v276 : Ref sig .tc := ⟨.hbm, 376, rfl⟩
abbrev main_v277 : Ref sig .tc := ⟨.hbm, 377, rfl⟩
abbrev main_v278 : Ref sig .tc := ⟨.hbm, 378, rfl⟩
abbrev main_v279 : Ref sig .tc := ⟨.hbm, 379, rfl⟩
abbrev main_values_73 : Ref sig .tc := ⟨.hbm, 380, rfl⟩
abbrev main_indices_74 : Ref sig .tc := ⟨.hbm, 381, rfl⟩
abbrev main_cst_75 : Ref sig .tc := ⟨.hbm, 382, rfl⟩
abbrev main_v280 : Ref sig .tc := ⟨.hbm, 383, rfl⟩
abbrev main_cst_76 : Ref sig .tc := ⟨.hbm, 384, rfl⟩
abbrev main_v281 : Ref sig .tc := ⟨.hbm, 385, rfl⟩
abbrev main_v282 : Ref sig .tc := ⟨.hbm, 386, rfl⟩
abbrev main_v283 : Ref sig .tc := ⟨.hbm, 387, rfl⟩
abbrev main_v284 : Ref sig .tc := ⟨.hbm, 388, rfl⟩
abbrev main_v285 : Ref sig .tc := ⟨.hbm, 389, rfl⟩
abbrev main_v286 : Ref sig .tc := ⟨.hbm, 390, rfl⟩
abbrev main_cst_77 : Ref sig .tc := ⟨.hbm, 391, rfl⟩
abbrev main_v287 : Ref sig .tc := ⟨.hbm, 392, rfl⟩
abbrev main_v288 : Ref sig .tc := ⟨.hbm, 393, rfl⟩
abbrev main_v289 : Ref sig .tc := ⟨.hbm, 394, rfl⟩
abbrev main_v290 : Ref sig .tc := ⟨.hbm, 395, rfl⟩
abbrev main_c_78 : Ref sig .tc := ⟨.hbm, 396, rfl⟩
abbrev main_v291 : Ref sig .tc := ⟨.hbm, 397, rfl⟩
abbrev main_v292 : Ref sig .tc := ⟨.hbm, 398, rfl⟩
abbrev main_c_79 : Ref sig .tc := ⟨.hbm, 399, rfl⟩
abbrev main_v293 : Ref sig .tc := ⟨.hbm, 400, rfl⟩
abbrev main_v294 : Ref sig .tc := ⟨.hbm, 401, rfl⟩
abbrev main_v295 : Ref sig .tc := ⟨.hbm, 402, rfl⟩
abbrev main_v296 : Ref sig .tc := ⟨.hbm, 403, rfl⟩
abbrev main_v297 : Ref sig .tc := ⟨.hbm, 404, rfl⟩
abbrev main_c_80 : Ref sig .tc := ⟨.hbm, 405, rfl⟩
abbrev main_v298 : Ref sig .tc := ⟨.hbm, 406, rfl⟩
abbrev main_v299 : Ref sig .tc := ⟨.hbm, 407, rfl⟩
abbrev main_c_81 : Ref sig .tc := ⟨.hbm, 408, rfl⟩
abbrev main_v300 : Ref sig .tc := ⟨.hbm, 409, rfl⟩
abbrev main_v301 : Ref sig .tc := ⟨.hbm, 410, rfl⟩
abbrev main_v302 : Ref sig .tc := ⟨.hbm, 411, rfl⟩
abbrev main_v303 : Ref sig .tc := ⟨.hbm, 412, rfl⟩
abbrev main_v304 : Ref sig .tc := ⟨.hbm, 413, rfl⟩
abbrev main_v305 : Ref sig .tc := ⟨.hbm, 414, rfl⟩
abbrev main_v306 : Ref sig .tc := ⟨.hbm, 415, rfl⟩
abbrev main_v307 : Ref sig .tc := ⟨.hbm, 416, rfl⟩
abbrev main_cst_82 : Ref sig .tc := ⟨.hbm, 417, rfl⟩
abbrev main_v308 : Ref sig .tc := ⟨.hbm, 418, rfl⟩
abbrev main_v309 : Ref sig .tc := ⟨.hbm, 419, rfl⟩
abbrev main_v310 : Ref sig .tc := ⟨.hbm, 420, rfl⟩
abbrev main_v311 : Ref sig .tc := ⟨.hbm, 421, rfl⟩
abbrev main_cst_83 : Ref sig .tc := ⟨.hbm, 422, rfl⟩
abbrev main_v312 : Ref sig .tc := ⟨.hbm, 423, rfl⟩
abbrev main_cst_84 : Ref sig .tc := ⟨.hbm, 424, rfl⟩
abbrev main_v313 : Ref sig .tc := ⟨.hbm, 425, rfl⟩
abbrev main_v314 : Ref sig .tc := ⟨.hbm, 426, rfl⟩
abbrev main_v315 : Ref sig .tc := ⟨.hbm, 427, rfl⟩
abbrev main_cst_85 : Ref sig .tc := ⟨.hbm, 428, rfl⟩
abbrev main_v316 : Ref sig .tc := ⟨.hbm, 429, rfl⟩
abbrev main_v317 : Ref sig .tc := ⟨.hbm, 430, rfl⟩
abbrev main_v318 : Ref sig .tc := ⟨.hbm, 431, rfl⟩
abbrev main_v319 : Ref sig .tc := ⟨.hbm, 432, rfl⟩
abbrev main_cst_86 : Ref sig .tc := ⟨.hbm, 433, rfl⟩
abbrev main_v320 : Ref sig .tc := ⟨.hbm, 434, rfl⟩
abbrev main_v321 : Ref sig .tc := ⟨.hbm, 435, rfl⟩
abbrev main_cst_87 : Ref sig .tc := ⟨.hbm, 436, rfl⟩
abbrev main_v322 : Ref sig .tc := ⟨.hbm, 437, rfl⟩
abbrev main_v323 : Ref sig .tc := ⟨.hbm, 438, rfl⟩
abbrev main_v324 : Ref sig .tc := ⟨.hbm, 439, rfl⟩
abbrev main_v325 : Ref sig .tc := ⟨.hbm, 440, rfl⟩
abbrev main_v326 : Ref sig .tc := ⟨.hbm, 441, rfl⟩
abbrev main_cst_88 : Ref sig .tc := ⟨.hbm, 442, rfl⟩
abbrev main_v327 : Ref sig .tc := ⟨.hbm, 443, rfl⟩
abbrev main_v328 : Ref sig .tc := ⟨.hbm, 444, rfl⟩
abbrev main_cst_89 : Ref sig .tc := ⟨.hbm, 445, rfl⟩
abbrev main_v329 : Ref sig .tc := ⟨.hbm, 446, rfl⟩
abbrev main_v330 : Ref sig .tc := ⟨.hbm, 447, rfl⟩
abbrev main_v331 : Ref sig .tc := ⟨.hbm, 448, rfl⟩
abbrev main_v332 : Ref sig .tc := ⟨.hbm, 449, rfl⟩
abbrev main_cst_90 : Ref sig .tc := ⟨.hbm, 450, rfl⟩
abbrev main_v333 : Ref sig .tc := ⟨.hbm, 451, rfl⟩
abbrev main_v334 : Ref sig .tc := ⟨.hbm, 452, rfl⟩
abbrev main_v335 : Ref sig .tc := ⟨.hbm, 453, rfl⟩
abbrev main_v336 : Ref sig .tc := ⟨.hbm, 454, rfl⟩
abbrev main_v337 : Ref sig .tc := ⟨.hbm, 455, rfl⟩
abbrev main_v338 : Ref sig .tc := ⟨.hbm, 456, rfl⟩
abbrev main_v339 : Ref sig .tc := ⟨.hbm, 457, rfl⟩
abbrev main_v340 : Ref sig .tc := ⟨.hbm, 458, rfl⟩
abbrev main_v341 : Ref sig .tc := ⟨.hbm, 459, rfl⟩
abbrev main_v342 : Ref sig .tc := ⟨.hbm, 460, rfl⟩
abbrev main_v343 : Ref sig .tc := ⟨.hbm, 461, rfl⟩
abbrev main_v344 : Ref sig .tc := ⟨.hbm, 462, rfl⟩
abbrev main_v345 : Ref sig .tc := ⟨.hbm, 463, rfl⟩
abbrev main_v346 : Ref sig .tc := ⟨.hbm, 464, rfl⟩

abbrev nD : Nat := 1
abbrev τ : Topo := Topo.v7x

variable {F : FTy → Type} [FloatOps F]
-- ==== Proof.Spec.lean ====
/-
  The mathematics of the block over the extended reals, with no program in it: a row's softmax over its four greatest
  scores taken two ways (by masking the running maximum away three times, and by picking the four positions), and a
  masked softmax over a wide row as the softmax over the few positions that are not masked.
-/
module

public import Idealize.ShloMosaic.PureOps.Ideal
public import Idealize.ShloMosaic.Lib.SortFacts

@[expose] public section

noncomputable section

namespace Cert.Spec

open Idealize.ShloMosaic

/-! ## Extended reals that are real numbers -/

/-- `x` is a real number: neither infinity. -/
def IsReal (x : EReal) : Prop := ∃ r : ℝ, x = (r : EReal)

theorem IsReal.coe (r : ℝ) : IsReal (r : EReal) := ⟨r, rfl⟩
theorem IsReal.zero : IsReal 0 := ⟨0, rfl⟩
theorem IsReal.add {x y : EReal} : IsReal x → IsReal y → IsReal (x + y) := by
  rintro ⟨a, rfl⟩ ⟨b, rfl⟩; exact ⟨a + b, (EReal.coe_add a b).symm⟩
theorem IsReal.sub {x y : EReal} : IsReal x → IsReal y → IsReal (x - y) := by
  rintro ⟨a, rfl⟩ ⟨b, rfl⟩; exact ⟨a - b, (EReal.coe_sub a b).symm⟩
theorem IsReal.mul {x y : EReal} : IsReal x → IsReal y → IsReal (x * y) := by
  rintro ⟨a, rfl⟩ ⟨b, rfl⟩; exact ⟨a * b, (EReal.coe_mul a b).symm⟩
theorem IsReal.sum {ι : Type} (s : Finset ι) {f : ι → EReal} (h : ∀ i ∈ s, IsReal (f i)) : IsReal (∑ i ∈ s, f i) := by
  classical
  induction s using Finset.induction_on with
  | empty => exact .zero
  | insert a s ha ih =>
    rw [Finset.sum_insert ha]
    exact (h a (Finset.mem_insert_self a s)).add (ih fun i hi => h i (Finset.mem_insert_of_mem hi))
theorem IsReal.ne_bot {x : EReal} : IsReal x → x ≠ ⊥ := by rintro ⟨a, rfl⟩; exact EReal.coe_ne_bot a
theorem IsReal.ne_top {x : EReal} : IsReal x → x ≠ ⊤ := by rintro ⟨a, rfl⟩; exact EReal.coe_ne_top a
/-- A real number less itself is zero (an infinity less itself is not). -/
theorem IsReal.sub_self {x : EReal} : IsReal x → x - x = 0 := by
  rintro ⟨a, rfl⟩; rw [← EReal.coe_sub]; simp

/-- A number whose absolute value is below ∞ is real. -/
theorem isReal_of_abs_lt {x : EReal} (h : max x (-x) < ⊤) : IsReal x := by
  induction x with
  | bot => simp at h
  | coe r => exact ⟨r, rfl⟩
  | top => simp at h

theorem exp_nonneg (x : EReal) : 0 ≤ Ideal.exp x := by
  induction x with
  | bot => exact le_rfl
  | coe r => exact EReal.coe_nonneg.mpr (Real.exp_pos r).le
  | top => exact le_top

theorem exp_real {x : EReal} (h : IsReal x) : ∃ r : ℝ, 0 < r ∧ Ideal.exp x = (r : EReal) := by
  obtain ⟨a, rfl⟩ := h
  exact ⟨Real.exp a, Real.exp_pos a, rfl⟩

theorem isReal_exp {x : EReal} (h : x ≠ ⊤) : IsReal (Ideal.exp x) := by
  induction x with
  | bot => exact ⟨0, rfl⟩
  | coe r => exact ⟨Real.exp r, rfl⟩
  | top => exact absurd rfl h

theorem bot_sub (x : EReal) : (⊥ : EReal) - x = ⊥ := by rw [sub_eq_add_neg, EReal.bot_add]

theorem exp_bot_sub (x : EReal) : Ideal.exp (⊥ - x) = 0 := by rw [bot_sub]; rfl

theorem div_of_ne {x y : EReal} (h : y ≠ 0) : Ideal.div x y = x * y⁻¹ := by unfold Ideal.div; rw [if_neg h]

/-- The reciprocal of a positive real is a real that is not negative. -/
theorem inv_pos {y : EReal} (h : ∃ r : ℝ, 0 < r ∧ y = (r : EReal)) : y ≠ 0 ∧ ∃ q : ℝ, 0 ≤ q ∧ y⁻¹ = (q : EReal) := by
  obtain ⟨r, hr, rfl⟩ := h
  refine ⟨by exact_mod_cast hr.ne', r⁻¹, inv_nonneg.mpr hr.le, (EReal.coe_inv r).symm⟩

/-- A sum multiplied by a real that is not negative is the sum of the products, infinities or not. -/
theorem sum_mul_real {ι : Type} (s : Finset ι) (f : ι → EReal) (q : ℝ) (hq : 0 ≤ q) :
    (∑ i ∈ s, f i) * (q : EReal) = ∑ i ∈ s, f i * (q : EReal) := by
  classical
  induction s using Finset.induction_on with
  | empty => simp
  | insert a s ha ih =>
    rw [Finset.sum_insert ha, Finset.sum_insert ha, ← ih]
    exact EReal.right_distrib_of_nonneg_of_ne_top (EReal.coe_nonneg.mpr hq) (EReal.coe_ne_top q) _ _

/-! ## A row's maximum -/

/-- The greatest entry of a row (−∞ of an empty one). -/
def rmax {m : Nat} (s : Fin m → EReal) : EReal := Finset.univ.fold max ⊥ s

theorem rmax_eq {m : Nat} (s : Fin m → EReal) (x : EReal) (hle : ∀ j, s j ≤ x) (j : Fin m) (hj : s j = x) : rmax s = x := by
  apply le_antisymm
  · exact (Finset.fold_max_le x).mpr ⟨bot_le, fun j _ => hle j⟩
  · exact Finset.le_fold_max x |>.mpr (Or.inr ⟨j, Finset.mem_univ j, hj.ge⟩)

theorem le_rmax {m : Nat} (s : Fin m → EReal) (j : Fin m) : s j ≤ rmax s :=
  Finset.le_fold_max _ |>.mpr (Or.inr ⟨j, Finset.mem_univ j, le_rfl⟩)

theorem rmax_le {m : Nat} (s : Fin m → EReal) (x : EReal) (hle : ∀ j, s j ≤ x) : rmax s ≤ x :=
  (Finset.fold_max_le x).mpr ⟨bot_le, fun j _ => hle j⟩

/-- A row with a real entry and no +∞ has a real maximum. -/
theorem rmax_real {m : Nat} (s : Fin m → EReal) (j : Fin m) (hj : IsReal (s j)) (h : ∀ k, s k ≠ ⊤) : IsReal (rmax s) := by
  obtain ⟨k, -, hk⟩ := Finset.exists_max_image Finset.univ s ⟨j, Finset.mem_univ j⟩
  have e : rmax s = s k := rmax_eq s (s k) (fun i => hk i (Finset.mem_univ i)) k rfl
  rw [e]
  have hb : s k ≠ ⊥ := fun hb => hj.ne_bot (le_bot_iff.mp (hb ▸ hk j (Finset.mem_univ j)))
  exact ⟨(s k).toReal, (EReal.coe_toReal (h k) hb).symm⟩

/-! ## The two readings of a row's four greatest -/

/-- A row with its maxima overwritten by −∞. -/
def mask {m : Nat} (s : Fin m → EReal) : Fin m → EReal := fun j => if s j = rmax s then ⊥ else s j

/-- The kernel's weight of entry `j`: the exponential of its distance from the maximum where the entry reaches the fourth of
    the running maxima, else zero. -/
def kp {m : Nat} (s : Fin m → EReal) (j : Fin m) : EReal :=
  if rmax (mask (mask (mask s))) ≤ s j then Ideal.exp (s j - rmax s) else 0

/-- The kernel's weighted sum: the weights times the values, times the reciprocal of the weights' sum. -/
def katt {m : Nat} (s v : Fin m → EReal) : EReal := (∑ j, kp s j * v j) * Ideal.div 1 (∑ j, kp s j)

/-- Softmax of a row. -/
def soft {m : Nat} (t : Fin m → EReal) (k : Fin m) : EReal :=
  Ideal.div (Ideal.exp (t k - rmax t)) (∑ k', Ideal.exp (t k' - rmax t))

/-- The softmax-weighted sum of a row of values. -/
def softsum {m : Nat} (t v : Fin m → EReal) : EReal := ∑ k, soft t k * v k

/-- `e` lists the positions of the four greatest entries of `s`, in strictly decreasing order, all others being below. -/
structure Picks {m : Nat} (s : Fin m → EReal) (e : Fin 4 → Fin m) : Prop where
  dec : ∀ a b : Fin 4, a < b → s (e b) < s (e a)
  rest : ∀ j, (∀ k, e k ≠ j) → s j < s (e 3)

namespace Picks

variable {m : Nat} {s : Fin m → EReal} {e : Fin 4 → Fin m} (h : Picks s e)
include h

theorem le (a b : Fin 4) (hab : a ≤ b) : s (e b) ≤ s (e a) := by
  rcases eq_or_lt_of_le hab with rfl | hlt
  · exact le_rfl
  · exact (h.dec a b hlt).le

theorem inj : Function.Injective e := by
  intro a b hab
  rcases lt_trichotomy a b with hlt | rfl | hlt
  · exact absurd (h.dec a b hlt) (by rw [hab]; exact lt_irrefl _)
  · rfl
  · exact absurd (h.dec b a hlt) (by rw [hab]; exact lt_irrefl _)

open Classical in
/-- `s` with its first `r` picked entries at −∞. -/
def cut (s : Fin m → EReal) (e : Fin 4 → Fin m) (r : Nat) : Fin m → EReal :=
  fun j => if ∃ k : Fin 4, k.val < r ∧ e k = j then ⊥ else s j

omit h in
theorem cut_zero : cut s e 0 = s := by
  funext j; unfold cut; rw [if_neg]; rintro ⟨k, hk, -⟩; omega

theorem lt_of_not_cut (r : Fin 4) (j : Fin m) (hj : ¬ ∃ k : Fin 4, k.val < r.val + 1 ∧ e k = j) : s j < s (e r) := by
  by_cases hk : ∃ k, e k = j
  · obtain ⟨k, rfl⟩ := hk
    have : ¬ k.val < r.val + 1 := fun hlt => hj ⟨k, hlt, rfl⟩
    exact h.dec r k (by rw [Fin.lt_def]; omega)
  · push Not at hk
    exact lt_of_lt_of_le (h.rest j hk) (h.le r 3 (by rw [Fin.le_def]; have := r.isLt; show r.val ≤ 3; omega))

theorem rmax_cut (r : Fin 4) : rmax (cut s e r.val) = s (e r) := by
  refine rmax_eq _ _ (fun j => ?_) (e r) ?_
  · unfold cut
    split
    · exact bot_le
    · rename_i hj
      by_cases hr : e r = j
      · rw [hr]
      · refine (h.lt_of_not_cut r j ?_).le
        rintro ⟨k, hk, rfl⟩
        rcases Nat.lt_succ_iff_lt_or_eq.mp hk with hlt | heq
        · exact hj ⟨k, hlt, rfl⟩
        · exact hr (by rw [Fin.ext heq])
  · unfold cut
    rw [if_neg]
    rintro ⟨k, hk, hke⟩
    rw [h.inj hke] at hk
    exact lt_irrefl _ hk

theorem mask_cut (r : Fin 4) : mask (cut s e r.val) = cut s e (r.val + 1) := by
  funext j
  unfold mask
  rw [h.rmax_cut r]
  by_cases hj : ∃ k : Fin 4, k.val < r.val + 1 ∧ e k = j
  · have e2 : cut s e (r.val + 1) j = ⊥ := by unfold cut; rw [if_pos hj]
    rw [e2]
    split
    · rfl
    · rename_i hne
      obtain ⟨k, hk, rfl⟩ := hj
      rcases Nat.lt_succ_iff_lt_or_eq.mp hk with hlt | heq
      · unfold cut; rw [if_pos ⟨k, hlt, rfl⟩]
      · exfalso; apply hne
        have hk' : k = r := Fin.ext heq
        subst hk'
        unfold cut; rw [if_neg]
        rintro ⟨k', hk', hke⟩
        rw [h.inj hke] at hk'
        exact lt_irrefl _ hk'
  · have hlt := h.lt_of_not_cut r j hj
    have e1 : cut s e r.val j = s j := by
      unfold cut; rw [if_neg]; rintro ⟨k, hk, hke⟩; exact hj ⟨k, by omega, hke⟩
    have e2 : cut s e (r.val + 1) j = s j := by unfold cut; rw [if_neg hj]
    rw [e1, e2, if_neg hlt.ne]

theorem rmax_eq0 : rmax s = s (e 0) := by
  have := h.rmax_cut 0
  rwa [show ((0 : Fin 4).val) = 0 from rfl, cut_zero] at this

theorem mask3 : rmax (mask (mask (mask s))) = s (e 3) := by
  have h0 := h.mask_cut 0
  have h1 := h.mask_cut 1
  have h2 := h.mask_cut 2
  have h3 := h.rmax_cut 3
  rw [show ((0 : Fin 4).val) = 0 from rfl, cut_zero] at h0
  change mask (cut s e (0 + 1)) = _ at h1
  change mask (cut s e (0 + 1 + 1)) = _ at h2
  change rmax (cut s e (0 + 1 + 1 + 1)) = _ at h3
  rw [h0, h1]
  exact (congrArg rmax h2).trans h3

theorem kp_pick (k : Fin 4) : kp s (e k) = Ideal.exp (s (e k) - s (e 0)) := by
  unfold kp
  rw [h.mask3, h.rmax_eq0, if_pos (h.le k 3 (by rw [Fin.le_def]; have := k.isLt; show k.val ≤ 3; omega))]

theorem kp_rest (j : Fin m) (hj : ∀ k, e k ≠ j) : kp s j = 0 := by
  unfold kp
  rw [h.mask3, if_neg (not_le.mpr (h.rest j hj))]

theorem sum_kp (v : Fin m → EReal) : ∑ j, kp s j * v j = ∑ k : Fin 4, Ideal.exp (s (e k) - s (e 0)) * v (e k) := by
  symm
  refine Finset.sum_of_injOn e h.inj.injOn (fun _ _ => Finset.mem_coe.mpr (Finset.mem_univ _)) (fun j _ hj => ?_) (fun k _ => ?_)
  · rw [h.kp_rest j fun k hk => hj ⟨k, by simp, hk⟩, zero_mul]
  · rw [h.kp_pick k]

theorem sum_kp1 : ∑ j, kp s j = ∑ k : Fin 4, Ideal.exp (s (e k) - s (e 0)) := by
  have := h.sum_kp fun _ => 1
  simpa only [mul_one] using this

theorem rmax_pick : rmax (fun k => s (e k)) = s (e 0) :=
  rmax_eq _ _ (fun k => h.le 0 k (Fin.zero_le k)) 0 rfl

/-- The weights' sum is a positive real where the scores are real. -/
theorem den_pos (hs : ∀ j, IsReal (s j)) : ∃ r : ℝ, 0 < r ∧ (∑ k : Fin 4, Ideal.exp (s (e k) - s (e 0))) = (r : EReal) := by
  choose f hf0 hf using fun k : Fin 4 => exp_real ((hs (e k)).sub (hs (e 0)))
  refine ⟨∑ k, f k, Finset.sum_pos (fun k _ => hf0 k) ⟨0, Finset.mem_univ _⟩, ?_⟩
  rw [Finset.sum_congr rfl fun k _ => hf k]
  exact (map_sum (⟨⟨Real.toEReal, EReal.coe_zero⟩, EReal.coe_add⟩ : ℝ →+ EReal) f Finset.univ).symm

/-- The kernel's masked sum is the softmax-weighted sum over the four picked positions. -/
theorem katt_eq (hs : ∀ j, IsReal (s j)) (v : Fin m → EReal) :
    katt s v = softsum (fun k => s (e k)) (fun k => v (e k)) := by
  obtain ⟨hne, q, hq0, hq⟩ := inv_pos (h.den_pos hs)
  unfold katt softsum soft
  rw [h.sum_kp v, h.sum_kp1, h.rmax_pick, div_of_ne hne, one_mul, hq, sum_mul_real _ _ q hq0]
  refine Finset.sum_congr rfl fun k _ => ?_
  rw [div_of_ne hne, hq, mul_right_comm]

/-- The picked softmax-weighted sum of real values is real. -/
theorem softsum_real (hs : ∀ j, IsReal (s j)) (v : Fin m → EReal) (hv : ∀ j, IsReal (v j)) :
    IsReal (softsum (fun k => s (e k)) (fun k => v (e k))) := by
  obtain ⟨hne, q, hq0, hq⟩ := inv_pos (h.den_pos hs)
  unfold softsum soft
  rw [h.rmax_pick]
  refine IsReal.sum _ fun k _ => IsReal.mul ?_ (hv _)
  rw [div_of_ne hne, hq]
  exact (isReal_exp ((hs _).sub (hs _)).ne_top).mul ⟨q, rfl⟩

/-- The kernel's weights are real. -/
theorem kp_real (hs : ∀ j, IsReal (s j)) (j : Fin m) : IsReal (kp s j) := by
  unfold kp
  split
  · rw [h.rmax_eq0]; exact isReal_exp ((hs _).sub (hs _)).ne_top
  · exact .zero

end Picks

/-! ## The sorted positions -/

/-- The position of the `k`-th greatest entry of a row, equal entries in index order. -/
def top {m : Nat} (s : Fin m → EReal) : Fin m → Fin m := sortedFrom fun a b => decide (s b < s a)

theorem top_antitone {m : Nat} (s : Fin m → EReal) (i j : Fin m) (hij : i ≤ j) : s (top s j) ≤ s (top s i) := by
  rcases eq_or_lt_of_le hij with rfl | hlt
  · exact le_rfl
  have := sortedFrom_noInversion (fun a b => decide (s b < s a)) (fun a b => decide (s b < s a))
    (fun a b h => by simp only [decide_eq_true_eq, decide_eq_false_iff_not] at *; exact h.le.not_gt)
    (fun a b h => h)
    (fun a b c h1 h2 => by simp only [decide_eq_false_iff_not, not_lt] at *; exact h1.trans h2) i j hlt
  exact not_lt.mp (of_decide_eq_false this)

/-- Where the five greatest are strictly decreasing, the first four sorted positions pick the four greatest. -/
theorem picks_top {m : Nat} (hm : 5 ≤ m) (s : Fin m → EReal)
    (hd : ∀ k : Fin 4, s (top s (k.succ.castLE hm)) < s (top s ((Fin.castSucc k).castLE hm))) :
    Picks s (fun k => top s (k.castLE (by omega))) := by
  have hlt : ∀ (a : Fin 4) (j : Fin m), a.val < j.val → s (top s j) < s (top s (a.castLE (by omega))) := fun a j haj =>
    lt_of_le_of_lt (top_antitone s (a.succ.castLE hm) j (by rw [Fin.le_def]; simpa using haj)) (hd a)
  refine ⟨fun a b hab => hlt a _ (by simpa using hab), fun j hj => ?_⟩
  obtain ⟨r, rfl⟩ := sortedFrom_surjective (fun a b => decide (s b < s a)) j
  refine hlt 3 r ?_
  by_contra hr
  exact hj ⟨r.val, by show r.val < 4; have : ¬ 3 < r.val := hr; omega⟩ rfl

/-! ## A masked row -/

/-- A softmax over a row that is −∞ off the positions `e` lists is the softmax over those positions, where one listed score
    is real and none is +∞. -/
theorem softsum_inj {m n : Nat} (e : Fin n → Fin m) (he : Function.Injective e) (s v : Fin m → EReal)
    (hoff : ∀ j, (∀ k, e k ≠ j) → s j = ⊥) (k₀ : Fin n) (hk₀ : IsReal (s (e k₀))) (htop : ∀ j, s j ≠ ⊤) :
    softsum s v = ∑ k, soft (fun k => s (e k)) k * v (e k) := by
  have hmax : rmax s = rmax fun k => s (e k) := by
    apply le_antisymm
    · refine rmax_le _ _ fun j => ?_
      by_cases hj : ∃ k, e k = j
      · obtain ⟨k, rfl⟩ := hj
        exact le_rmax (fun k => s (e k)) k
      · push Not at hj
        rw [hoff j hj]; exact bot_le
    · exact rmax_le _ _ fun k => le_rmax s (e k)
  have hden : ∑ j, Ideal.exp (s j - rmax s) = ∑ k, Ideal.exp (s (e k) - rmax s) := by
    symm
    refine Finset.sum_of_injOn e he.injOn (fun _ _ => Finset.mem_coe.mpr (Finset.mem_univ _)) (fun j _ hj => ?_) (fun k _ => rfl)
    rw [hoff j fun k hk => hj ⟨k, by simp, hk⟩, exp_bot_sub]
  have hne : ∑ k, Ideal.exp (s (e k) - rmax s) ≠ 0 := by
    have hM := rmax_real s (e k₀) hk₀ htop
    obtain ⟨r, hr, hr'⟩ := exp_real (hk₀.sub hM)
    refine ne_of_gt (lt_of_lt_of_le (b := Ideal.exp (s (e k₀) - rmax s)) ?_ ?_)
    · rw [hr']; exact EReal.coe_pos.mpr hr
    · exact Finset.single_le_sum (f := fun k => Ideal.exp (s (e k) - rmax s)) (fun k _ => exp_nonneg _) (Finset.mem_univ k₀)
  unfold softsum soft
  rw [hden, ← hmax]
  symm
  refine Finset.sum_of_injOn e he.injOn (fun _ _ => Finset.mem_coe.mpr (Finset.mem_univ _)) (fun j _ hj => ?_) (fun k _ => rfl)
  rw [hoff j fun k hk => hj ⟨k, by simp, hk⟩, exp_bot_sub, div_of_ne hne, zero_mul, zero_mul]

/-- The weight of a masked position is zero. -/
theorem soft_bot {n : Nat} (t : Fin n → EReal) (k₀ : Fin n) (hk₀ : IsReal (t k₀)) (htop : ∀ j, t j ≠ ⊤) (k : Fin n)
    (hk : t k = ⊥) : soft t k = 0 := by
  have hM := rmax_real t k₀ hk₀ htop
  obtain ⟨r, hr, hr'⟩ := exp_real (hk₀.sub hM)
  unfold soft
  rw [hk, exp_bot_sub, div_of_ne, zero_mul]
  refine ne_of_gt (lt_of_lt_of_le (b := Ideal.exp (t k₀ - rmax t)) ?_ ?_)
  · rw [hr']; exact EReal.coe_pos.mpr hr
  · exact Finset.single_le_sum (f := fun k => Ideal.exp (t k - rmax t)) (fun k _ => exp_nonneg _) (Finset.mem_univ k₀)

/-- The softmax weights of a row with a real entry and no +∞ are real. -/
theorem soft_real {n : Nat} (t : Fin n → EReal) (k₀ : Fin n) (hk₀ : IsReal (t k₀)) (htop : ∀ j, t j ≠ ⊤) (k : Fin n) :
    IsReal (soft t k) := by
  have hM := rmax_real t k₀ hk₀ htop
  have hE : ∀ j, IsReal (Ideal.exp (t j - rmax t)) := fun j => isReal_exp (by
    obtain ⟨M, hM⟩ := hM
    rw [hM]
    rcases eq_or_ne (t j) ⊥ with hb | hb
    · rw [hb, bot_sub]; exact bot_ne_top
    · obtain ⟨a, ha⟩ : ∃ a : ℝ, t j = (a : EReal) := ⟨(t j).toReal, (EReal.coe_toReal (htop j) hb).symm⟩
      rw [ha, ← EReal.coe_sub]; exact EReal.coe_ne_top _)
  have hpos : 0 < ∑ j, Ideal.exp (t j - rmax t) := by
    obtain ⟨r, hr, hr'⟩ := exp_real (hk₀.sub hM)
    refine lt_of_lt_of_le (b := Ideal.exp (t k₀ - rmax t)) ?_ ?_
    · rw [hr']; exact EReal.coe_pos.mpr hr
    · exact Finset.single_le_sum (f := fun k => Ideal.exp (t k - rmax t)) (fun k _ => exp_nonneg _) (Finset.mem_univ k₀)
  obtain ⟨d, hd⟩ := IsReal.sum Finset.univ fun j _ => hE j
  unfold soft
  rw [hd] at hpos ⊢
  obtain ⟨hne, q, -, hq⟩ := inv_pos ⟨d, EReal.coe_pos.mp hpos, rfl⟩
  rw [div_of_ne hne, hq]
  exact (hE k).mul ⟨q, rfl⟩

end Cert.Spec

end
-- ==== Proof.Model.lean ====
/-
  The mathematics of the five routes on rows of 768 numbers: what the reference computes, and what the kernel computes in
  its place, with the equality of the two where the scores are real and no two of a row's five greatest tie.
-/
module

public import proofs.«01_k».proof.Proof.Spec

@[expose] public section

noncomputable section

namespace Cert.Spec

open Idealize.ShloMosaic

/-- A level: its rows of 768 numbers. -/
abbrev Rows (n : Nat) : Type := Fin n → Fin 768 → EReal
abbrev Feat : Type := Fin 768 → EReal

variable {n m : Nat}

/-- The scores of the weighted queries against the sources. -/
def sc (q : Rows n) (w : Feat) (s : Rows m) : Fin n → Fin m → EReal := fun i j => ∑ d, (q i d * w d) * s j d

/-- The positions of a row's four greatest scores. -/
def pick (hm : 5 ≤ m) (s : Fin m → EReal) (k : Fin 4) : Fin m := top s (k.castLE (Nat.le_of_succ_le hm))

/-- Every row of sources: the softmax of the four greatest scores against the rows at their positions. -/
def routed (hm : 5 ≤ m) (s : Fin n → Fin m → EReal) (v : Rows m) : Rows n :=
  fun i d => softsum (fun k => s i (pick hm (s i) k)) (fun k => v (pick hm (s i) k) d)

/-- The same by thresholds: the exponentials of the scores not below the fourth maximum, against all rows. -/
def kroute (s : Fin n → Fin m → EReal) (v : Rows m) : Rows n := fun i d => katt (s i) fun j => v j d

/-- The five greatest scores of every row strictly decrease. -/
def Distinct (hm : 5 ≤ m) (s : Fin n → Fin m → EReal) : Prop :=
  ∀ (i : Fin n) (k : Fin 4), s i (top (s i) (k.succ.castLE hm)) < s i (top (s i) ((Fin.castSucc k).castLE hm))

/-- All entries are real. -/
def AllReal (x : Fin n → Fin m → EReal) : Prop := ∀ i d, IsReal (x i d)

theorem sc_real {q : Rows n} {w : Feat} {s : Rows m} (hq : AllReal q) (hw : ∀ d, IsReal (w d)) (hs : AllReal s) : AllReal (sc q w s) :=
  fun i j => .sum _ fun d _ => ((hq i d).mul (hw d)).mul (hs j d)

theorem kroute_eq (hm : 5 ≤ m) {s : Fin n → Fin m → EReal} (hs : AllReal s) (hd : Distinct hm s) (v : Rows m) :
    kroute s v = routed hm s v := by
  funext i d
  exact (picks_top hm (s i) (hd i)).katt_eq (hs i) _

theorem routed_real (hm : 5 ≤ m) {s : Fin n → Fin m → EReal} (hs : AllReal s) (hd : Distinct hm s) {v : Rows m} (hv : AllReal v) :
    AllReal (routed hm s v) :=
  fun i d => (picks_top hm (s i) (hd i)).softsum_real (hs i) (fun j => v j d) fun j => hv j d

/-- A base and a constant times a change. -/
def chg (c : BitVec 32) (x y : Rows n) : Rows n := fun i d => x i d + Ideal.ofBits .f32 c * y i d

theorem chg_real {c : BitVec 32} (hc : IsReal (Ideal.ofBits .f32 c)) {x y : Rows n} (hx : AllReal x) (hy : AllReal y) :
    AllReal (chg c x y) := fun i d => (hx i d).add (hc.mul (hy i d))

/-! ## The window -/

/-- The `k`-th of the nine neighbours of row `i`, clipped into the sequence. -/
def nb (i : Fin 4096) (k : Fin 9) : Fin 4096 := ⟨min 4095 (i.val + k.val - 4), by omega⟩

/-- That neighbour lies in the sequence. -/
abbrev InSeq (i : Fin 4096) (k : Fin 9) : Prop := 4 ≤ i.val + k.val ∧ i.val + k.val < 4100

/-- The scores of the nine neighbours, minus infinity outside the sequence. -/
def wsc (w : Feat) (a : Rows 4096) : Fin 4096 → Fin 9 → EReal :=
  fun i k => if InSeq i k then ∑ d, (a i d * w d) * a (nb i k) d else ⊥

/-- The softmax of the nine scores against the nine neighbours. -/
def win (s : Fin 4096 → Fin 9 → EReal) (v : Rows 4096) : Rows 4096 := fun i d => softsum (s i) fun k => v (nb i k) d

theorem wsc_ne_top {w : Feat} {a : Rows 4096} (hw : ∀ d, IsReal (w d)) (ha : AllReal a) (i : Fin 4096) (k : Fin 9) : wsc w a i k ≠ ⊤ := by
  unfold wsc
  split
  · exact IsReal.ne_top (.sum _ fun d _ => ((ha _ _).mul (hw d)).mul (ha _ _))
  · exact bot_ne_top

/-- The row itself is always among its neighbours. -/
theorem wsc_self {w : Feat} {a : Rows 4096} (hw : ∀ d, IsReal (w d)) (ha : AllReal a) (i : Fin 4096) : IsReal (wsc w a i 4) := by
  unfold wsc
  have := i.isLt
  have h4 : ((4 : Fin 9) : Nat) = 4 := rfl
  rw [if_pos ⟨by omega, by omega⟩]
  exact .sum _ fun d _ => ((ha _ _).mul (hw d)).mul (ha _ _)

theorem win_real {w : Feat} {a v : Rows 4096} (hw : ∀ d, IsReal (w d)) (ha : AllReal a) (hv : AllReal v) : AllReal (win (wsc w a) v) :=
  fun i d => by
    unfold win softsum
    exact IsReal.sum _ fun k _ => (soft_real _ 4 (wsc_self hw ha i) (wsc_ne_top hw ha i) k).mul (hv _ _)

/-! ## Normalisation -/

/-- A row's mean. -/
def rmean (x : Feat) : EReal := Ideal.div (∑ d, x d) (Ideal.ofBits .f32 0x44400000#32)

/-- A row's layer normalisation. -/
def rnorm (x w b : Feat) : Feat := fun d =>
  (x d - rmean x) * Ideal.rsqrt (rmean (fun d => (x d - rmean x) * (x d - rmean x)) + Ideal.ofBits .f32 0x3727C5AC#32) * w d + b d

/-- Every row's layer normalisation. -/
def lnorm (x : Rows n) (w b : Feat) : Rows n := fun i => rnorm (x i) w b

/-! ## The whole block -/

/-- The block's arguments: the three levels, the route weights and the norms' scales and shifts. -/
structure Inputs where
  s0 : Rows 4096
  v0 : Rows 4096
  wps : Feat
  wpe : Feat
  wpc : Feat
  ws2b : Feat
  we2c : Feat
  wb2s : Feat
  e0 : Rows 1024
  c0 : Rows 256
  lnsw : Feat
  lnsb : Feat
  lnew : Feat
  lneb : Feat
  lncw : Feat
  lncb : Feat

namespace Inputs

theorem h256 : 5 ≤ 256 := by omega
theorem h1024 : 5 ≤ 1024 := by omega
theorem h4096 : 5 ≤ 4096 := by omega

variable (x : Inputs)

/-- The window step of the sequence, state and value. -/
def s1 : Rows 4096 := chg 0x3E800000#32 x.s0 (win (wsc x.wps x.s0) x.s0)
def v1 : Rows 4096 := chg 0x3E800000#32 x.v0 (win (wsc x.wps x.s0) x.v0)
/-- The route from the sequence to the expanded level. -/
def q1 : Fin 1024 → Fin 4096 → EReal := sc x.e0 x.ws2b x.s1
def e1 : Rows 1024 := chg 0x3E19999A#32 x.e0 (routed h4096 x.q1 x.s1)
def f1 : Rows 1024 := chg 0x3E19999A#32 x.e0 (routed h4096 x.q1 x.v1)
/-- The expanded level's own route. -/
def q2 : Fin 1024 → Fin 1024 → EReal := sc x.e1 x.wpe x.e1
def e2 : Rows 1024 := chg 0x3E4CCCCD#32 x.e1 (routed h1024 x.q2 x.e1)
def f2 : Rows 1024 := chg 0x3E4CCCCD#32 x.f1 (routed h1024 x.q2 x.f1)
def f3 : Rows 1024 := lnorm x.f2 x.lnew x.lneb
/-- The route from the expanded to the compressed level. -/
def q3 : Fin 256 → Fin 1024 → EReal := sc x.c0 x.we2c x.e2
def c1 : Rows 256 := chg 0x3E19999A#32 x.c0 (routed h1024 x.q3 x.e2)
def g1 : Rows 256 := chg 0x3E19999A#32 x.c0 (routed h1024 x.q3 x.f3)
/-- The compressed level's own route. -/
def q4 : Fin 256 → Fin 256 → EReal := sc x.c1 x.wpc x.c1
def c2 : Rows 256 := chg 0x3E4CCCCD#32 x.c1 (routed h256 x.q4 x.c1)
def g2 : Rows 256 := chg 0x3E4CCCCD#32 x.g1 (routed h256 x.q4 x.g1)
def g3 : Rows 256 := lnorm x.g2 x.lncw x.lncb
/-- The route back to the sequence, and the two closing maps. -/
def q5 : Fin 4096 → Fin 256 → EReal := sc x.s1 x.wb2s x.c2
def s2 : Rows 4096 := chg 0x3E19999A#32 x.s1 (routed h256 x.q5 x.c2)
def v2 : Rows 4096 := chg 0x3E19999A#32 x.v1 (routed h256 x.q5 x.g3)
def outS : Rows 4096 := fun i d => Ideal.tanh (x.s2 i d)
def outV : Rows 4096 := lnorm x.v2 x.lnsw x.lnsb

/-- The inputs behind the routes are real and the five greatest scores of every route's rows strictly decrease. -/
structure Good : Prop where
  hs0 : AllReal x.s0
  he0 : AllReal x.e0
  hc0 : AllReal x.c0
  hwps : ∀ d, IsReal (x.wps d)
  hwpe : ∀ d, IsReal (x.wpe d)
  hwpc : ∀ d, IsReal (x.wpc d)
  hws2b : ∀ d, IsReal (x.ws2b d)
  hwe2c : ∀ d, IsReal (x.we2c d)
  hwb2s : ∀ d, IsReal (x.wb2s d)
  d1 : Distinct h4096 x.q1
  d2 : Distinct h1024 x.q2
  d3 : Distinct h1024 x.q3
  d4 : Distinct h256 x.q4
  d5 : Distinct h256 x.q5

theorem quarter_real : IsReal (Ideal.ofBits .f32 0x3E800000#32) := ⟨_, by simp [Ideal.ofBits, Ideal.ieee]; rfl⟩
theorem c15_real : IsReal (Ideal.ofBits .f32 0x3E19999A#32) := ⟨_, by simp [Ideal.ofBits, Ideal.ieee]; rfl⟩
theorem c20_real : IsReal (Ideal.ofBits .f32 0x3E4CCCCD#32) := ⟨_, by simp [Ideal.ofBits, Ideal.ieee]; rfl⟩

namespace Good

variable {x : Inputs} (g : Good x)
include g

theorem s1_real : AllReal x.s1 := chg_real quarter_real g.hs0 (win_real g.hwps g.hs0 g.hs0)
theorem q1_real : AllReal x.q1 := sc_real g.he0 g.hws2b g.s1_real
theorem e1_real : AllReal x.e1 := chg_real c15_real g.he0 (routed_real _ g.q1_real g.d1 g.s1_real)
theorem q2_real : AllReal x.q2 := sc_real g.e1_real g.hwpe g.e1_real
theorem e2_real : AllReal x.e2 := chg_real c20_real g.e1_real (routed_real _ g.q2_real g.d2 g.e1_real)
theorem q3_real : AllReal x.q3 := sc_real g.hc0 g.hwe2c g.e2_real
theorem c1_real : AllReal x.c1 := chg_real c15_real g.hc0 (routed_real _ g.q3_real g.d3 g.e2_real)
theorem q4_real : AllReal x.q4 := sc_real g.c1_real g.hwpc g.c1_real
theorem c2_real : AllReal x.c2 := chg_real c20_real g.c1_real (routed_real _ g.q4_real g.d4 g.c1_real)
theorem q5_real : AllReal x.q5 := sc_real g.s1_real g.hwb2s g.c2_real

end Good

end Inputs

end Cert.Spec

end
-- ==== Proof.HostStage.lean ====
/-
  The reference's steps as functions of their sizes, and what each reads at an index: the routes' scores, `lax.top_k`, the
  softmax along the last axis, the gather of the picked rows, the weighted sum, the layer normalisation.
-/
module

public import proofs.«01_k».proof.Proof.Model
public import Idealize.ShloMosaic.Lib.Pointwise
public import Idealize.ShloMosaic.Lib.Pointwise.IndexVar
public import Idealize.ShloMosaic.Lib.SortFacts
public import Idealize.ShloMosaic.Lib.Pipeline.Value

@[expose] public section

set_option maxRecDepth 16384

noncomputable section

namespace Cert.HostStage

open Idealize.ShloMosaic Cert.Spec

/-- The shapes of the host's arrays, by their extents. -/
abbrev T0 : Shape := ⟨0, ![]⟩
abbrev T1 (a : Nat) : Shape := ⟨1, ![a]⟩
abbrev T2 (a b : Nat) : Shape := ⟨2, ![a, b]⟩
abbrev T3 (a b c : Nat) : Shape := ⟨3, ![a, b, c]⟩
abbrev T4 (a b c d : Nat) : Shape := ⟨4, ![a, b, c, d]⟩

abbrev A (s : Shape) : Type := FVec Ideal s .f32

/-- A scalar constant filling a shape. -/
def fill (t : Shape) (w : BitVec 32) (h : T0.BroadcastsInDim t ![]) : A t := broadcastInDim t ![] h (constant (F := Ideal) T0 .f32 w)

variable {n m k : Nat}

/-- The dimension numbers of the routes' score product. -/
def scoreDims (n m : Nat) (wf : DotDims.WF (T3 1 n 768) (T3 1 m 768) (T3 1 n m) [2] [2] [1] [1] [0] [0]) :
    DotDims (T3 1 n 768) (T3 1 m 768) (T3 1 n m) where
  lhsContracting := [2]
  rhsContracting := [2]
  lhsNonContracting := [1]
  rhsNonContracting := [1]
  lhsBatch := [0]
  rhsBatch := [0]
  wf := wf

/-- The weighted queries against the sources. -/
def scores (wf : DotDims.WF (T3 1 n 768) (T3 1 m 768) (T3 1 n m) [2] [2] [1] [1] [0] [0])
    (h1 : (T1 768).BroadcastsInDim (T3 1 1 768) ![2]) (h2 : (T3 1 1 768).BroadcastsInDim (T3 1 n 768) ![0, 1, 2])
    (q : A (T3 1 n 768)) (w : A (T1 768)) (s : A (T3 1 m 768)) : A (T3 1 n m) :=
  Host.dotGeneral (scoreDims n m wf) none
    (mulf q (broadcastInDim (T3 1 n 768) ![0, 1, 2] h2 (broadcastInDim (T3 1 1 768) ![2] h1 w))) s

theorem scores_apply (wf : DotDims.WF (T3 1 n 768) (T3 1 m 768) (T3 1 n m) [2] [2] [1] [1] [0] [0])
    (h1 : (T1 768).BroadcastsInDim (T3 1 1 768) ![2]) (h2 : (T3 1 1 768).BroadcastsInDim (T3 1 n 768) ![0, 1, 2])
    (q : A (T3 1 n 768)) (w : A (T1 768)) (s : A (T3 1 m 768)) (i : Fin n) (j : Fin m) :
    scores wf h1 h2 q w s (ix3 (0 : Fin 1) i j) = ∑ d : Fin 768, (q (ix3 (0 : Fin 1) i d) * w (ix1 d)) * s (ix3 (0 : Fin 1) j d) := by
  unfold scores scoreDims
  pointwise

/-! ## top_k -/

theorem along_ix3 (i : Fin n) (j r : Fin m) : Shape.Idx.along (s := T3 1 n m) (ix3 (0 : Fin 1) i j) 2 r = ix3 (0 : Fin 1) i r := by
  funext a
  match a with
  | ⟨0, _⟩ => rfl
  | ⟨1, _⟩ => rfl
  | ⟨2, _⟩ => rfl

theorem cmp_gt (a b : EReal) : (FloatOps.cmpfTotal (F := Ideal) (φ := .f32) .gt a b == 1#1) = decide (b < a) := by
  rw [Ideal.cmpfTotal_def]
  unfold Ideal.cmp
  by_cases h : b < a
  · simp [CmpDirection.ordered, h]
  · simp [CmpDirection.ordered, h]

/-- The order a row is sorted in is that of its entries. -/
theorem sortedFrom_top (x : A (T3 1 n m)) (i : Fin n) (f : Fin m → Ideal .f32) (hf : ∀ j, f j = x (ix3 (0 : Fin 1) i j)) :
    sortedFrom (fun a b => FloatOps.cmpfTotal (F := Ideal) (φ := .f32) .gt (f a) (f b) == 1#1)
      = top (fun j => x (ix3 (0 : Fin 1) i j)) := by
  unfold top
  refine congrArg sortedFrom ?_
  funext a b
  rw [cmp_gt, hf, hf]

/-- The position a slice of the first `k` entries of a row reads. -/
def firstIdx (h : (T3 1 n m).Slices (fun _ => 0) (T3 1 n k)) (j : (T3 1 n k).Idx) : (T3 1 n m).Idx :=
  fun a : Fin 3 => ⟨0 + (j (a.cast h.1.symm)).val, Nat.lt_of_lt_of_le (Nat.add_lt_add_left (Fin.isLt _) _) (h.2 a)⟩

theorem firstIdx_ix3 (h : (T3 1 n m).Slices (fun _ => 0) (T3 1 n k)) (hk : k ≤ m) (i : Fin n) (r : Fin k) :
    firstIdx h (ix3 (0 : Fin 1) i r) = ix3 (0 : Fin 1) i (r.castLE hk) := by
  funext a
  match a with
  | ⟨0, _⟩ => exact Fin.ext (Nat.zero_add _)
  | ⟨1, _⟩ => exact Fin.ext (Nat.zero_add _)
  | ⟨2, _⟩ => exact Fin.ext (Nat.zero_add _)

theorem topK_values (h : (T3 1 n m).Slices (fun _ => 0) (T3 1 n k)) (hk : k ≤ m) (x : A (T3 1 n m)) (i : Fin n) (r : Fin k) :
    (Host.topK (T3 1 n k) 2 (FloatOps.cmpfTotal (F := Ideal) .gt) x h).1 (ix3 (0 : Fin 1) i r)
      = x (ix3 (0 : Fin 1) i (top (fun j => x (ix3 (0 : Fin 1) i j)) (r.castLE hk))) := by
  have e : (Host.topK (T3 1 n k) 2 (FloatOps.cmpfTotal (F := Ideal) .gt) x h).1 (ix3 (0 : Fin 1) i r)
      = x ((firstIdx h (ix3 (0 : Fin 1) i r)).along 2 (sortedFrom (fun a b => FloatOps.cmpfTotal (F := Ideal) (φ := .f32) .gt
          (x ((firstIdx h (ix3 (0 : Fin 1) i r)).along 2 a)) (x ((firstIdx h (ix3 (0 : Fin 1) i r)).along 2 b)) == 1#1)
          (firstIdx h (ix3 (0 : Fin 1) i r) 2))) := rfl
  rw [e, firstIdx_ix3 h hk]
  exact (congrArg (fun z => x (Shape.Idx.along (s := T3 1 n m) (ix3 (0 : Fin 1) i (r.castLE hk)) 2 z)) (congrFun
    (sortedFrom_top x i _ fun j => congrArg x (along_ix3 i (r.castLE hk) j)) (r.castLE hk))).trans (congrArg (x) (along_ix3 i _ _))

theorem topK_indices (h : (T3 1 n m).Slices (fun _ => 0) (T3 1 n k)) (hk : k ≤ m) (x : A (T3 1 n m)) (i : Fin n) (r : Fin k) :
    (Host.topK (T3 1 n k) 2 (FloatOps.cmpfTotal (F := Ideal) .gt) x h).2 (ix3 (0 : Fin 1) i r)
      = BitVec.ofNat 32 (top (fun j => x (ix3 (0 : Fin 1) i j)) (r.castLE hk)).val := by
  have e : (Host.topK (T3 1 n k) 2 (FloatOps.cmpfTotal (F := Ideal) .gt) x h).2 (ix3 (0 : Fin 1) i r)
      = iotaInDim (T3 1 n m) 32 2 ((firstIdx h (ix3 (0 : Fin 1) i r)).along 2 (sortedFrom (fun a b => FloatOps.cmpfTotal (F := Ideal) (φ := .f32) .gt
          (x ((firstIdx h (ix3 (0 : Fin 1) i r)).along 2 a)) (x ((firstIdx h (ix3 (0 : Fin 1) i r)).along 2 b)) == 1#1)
          (firstIdx h (ix3 (0 : Fin 1) i r) 2))) := rfl
  rw [e, firstIdx_ix3 h hk]
  exact (congrArg (fun z => iotaInDim (T3 1 n m) 32 2 (Shape.Idx.along (s := T3 1 n m) (ix3 (0 : Fin 1) i (r.castLE hk)) 2 z)) (congrFun
    (sortedFrom_top x i _ fun j => congrArg x (along_ix3 i (r.castLE hk) j)) (r.castLE hk))).trans (congrArg (iotaInDim (T3 1 n m) 32 2) (along_ix3 i _ _))

/-- On an axis of extent `n` a broadcast keeps the coordinate (zero where `n` is one). -/
theorem at_axis (n : Nat) (i : Fin n) : i.val = if n = 1 then 0 else i.val := by
  have := i.isLt
  split <;> omega

/-- A vector as a column. -/
theorem col_apply {α : Type} (h1 : (T2 1 n).BroadcastsInDim (T3 1 n 1) ![0, 1]) (y : (T2 1 n).Idx → α) (i : Fin n) :
    broadcastInDim (T3 1 n 1) ![0, 1] h1 y (ix3 (0 : Fin 1) i (0 : Fin 1)) = y (ix2 (0 : Fin 1) i) :=
  broadcastInDim_apply _ h1 _ _ _ fun a => match a with
    | ⟨0, _⟩ => rfl
    | ⟨1, _⟩ => at_axis n i

/-- A one-wide column repeated along the last axis. -/
theorem bcol_apply {α : Type} (h2 : (T3 1 n 1).BroadcastsInDim (T3 1 n k) ![0, 1, 2]) (y : (T3 1 n 1).Idx → α) (i : Fin n) (r : Fin k) :
    broadcastInDim (T3 1 n k) ![0, 1, 2] h2 y (ix3 (0 : Fin 1) i r) = y (ix3 (0 : Fin 1) i (0 : Fin 1)) :=
  broadcastInDim_apply _ h2 _ _ _ fun a => match a with
    | ⟨0, _⟩ => rfl
    | ⟨1, _⟩ => at_axis n i
    | ⟨2, _⟩ => rfl

/-- A vector as a column repeated along the last axis. -/
theorem keep_apply {α : Type} (h1 : (T2 1 n).BroadcastsInDim (T3 1 n 1) ![0, 1])
    (h2 : (T3 1 n 1).BroadcastsInDim (T3 1 n k) ![0, 1, 2]) (y : (T2 1 n).Idx → α) (i : Fin n) (r : Fin k) :
    broadcastInDim (T3 1 n k) ![0, 1, 2] h2 (broadcastInDim (T3 1 n 1) ![0, 1] h1 y) (ix3 (0 : Fin 1) i r) = y (ix2 (0 : Fin 1) i) :=
  (bcol_apply h2 _ i r).trans (col_apply h1 y i)

/-- A vector repeated down the rows. -/
theorem brow_apply {α : Type} (h3 : (T1 768).BroadcastsInDim (T3 1 1 768) ![2]) (h4 : (T3 1 1 768).BroadcastsInDim (T3 1 n 768) ![0, 1, 2])
    (y : (T1 768).Idx → α) (i : Fin n) (d : Fin 768) :
    broadcastInDim (T3 1 n 768) ![0, 1, 2] h4 (broadcastInDim (T3 1 1 768) ![2] h3 y) (ix3 (0 : Fin 1) i d) = y (ix1 d) := by
  rw [broadcastInDim_apply _ h4 _ _ (ix3 (0 : Fin 1) (0 : Fin 1) d) fun a => match a with
    | ⟨0, _⟩ => rfl
    | ⟨1, _⟩ => rfl
    | ⟨2, _⟩ => rfl, broadcastInDim_apply _ h3 _ _ (ix1 d) fun a => match a with
    | ⟨0, _⟩ => rfl]

theorem ofBits_neg_inf : Ideal.ofBits .f32 0xFF800000#32 = ⊥ := by simp [Ideal.ofBits, Ideal.ieee]

/-! ## Softmax along the last axis -/

/-- The exponentials of the distances from the rows' maxima. -/
def expo (h0 : T0.BroadcastsInDim (T2 1 n) ![]) (hr : (T3 1 n k).ReducesTo [2] (T2 1 n)) (hz : 0 < T0.numel)
    (h1 : (T2 1 n).BroadcastsInDim (T3 1 n 1) ![0, 1]) (h2 : (T3 1 n 1).BroadcastsInDim (T3 1 n k) ![0, 1, 2])
    (x : A (T3 1 n k)) : A (T3 1 n k) :=
  Host.exp (subf x (broadcastInDim (T3 1 n k) ![0, 1, 2] h2 (broadcastInDim (T3 1 n 1) ![0, 1] h1
    (maximumf (fill (T2 1 n) 0xFF800000#32 h0)
      (Host.reduce FloatOps.maximumf x (constant T0 .f32 0xFF800000#32) hr hz)))))

theorem expo_apply (h0 : T0.BroadcastsInDim (T2 1 n) ![]) (hr : (T3 1 n k).ReducesTo [2] (T2 1 n)) (hz : 0 < T0.numel)
    (h1 : (T2 1 n).BroadcastsInDim (T3 1 n 1) ![0, 1]) (h2 : (T3 1 n 1).BroadcastsInDim (T3 1 n k) ![0, 1, 2])
    (x : A (T3 1 n k)) (i : Fin n) (r : Fin k) : expo h0 hr hz h1 h2 x (ix3 (0 : Fin 1) i r)
      = Ideal.exp (x (ix3 (0 : Fin 1) i r) - rmax fun r => x (ix3 (0 : Fin 1) i r)) := by
  have e : expo h0 hr hz h1 h2 x (ix3 (0 : Fin 1) i r) = Ideal.exp (x (ix3 (0 : Fin 1) i r) -
      maximumf (fill (T2 1 n) 0xFF800000#32 h0)
        (Host.reduce FloatOps.maximumf x (constant T0 .f32 0xFF800000#32) hr hz) (ix2 (0 : Fin 1) i)) :=
    congrArg (fun z => Ideal.exp (x (ix3 (0 : Fin 1) i r) - z)) (keep_apply h1 h2 _ i r)
  rw [e]
  unfold fill
  pointwise
  rw [ofBits_neg_inf, bot_sup_eq]
  rfl

/-- The exponentials over their rows' sums. -/
def attn (hr : (T3 1 n k).ReducesTo [2] (T2 1 n)) (hz : 0 < T0.numel)
    (h1 : (T2 1 n).BroadcastsInDim (T3 1 n 1) ![0, 1]) (h2 : (T3 1 n 1).BroadcastsInDim (T3 1 n k) ![0, 1, 2])
    (e : A (T3 1 n k)) : A (T3 1 n k) :=
  Host.divf e (broadcastInDim (T3 1 n k) ![0, 1, 2] h2 (broadcastInDim (T3 1 n 1) ![0, 1] h1
    (Host.reduceAdd e (constant T0 .f32 0x00000000#32) hr hz)))

theorem attn_apply (hr : (T3 1 n k).ReducesTo [2] (T2 1 n)) (hz : 0 < T0.numel)
    (h1 : (T2 1 n).BroadcastsInDim (T3 1 n 1) ![0, 1]) (h2 : (T3 1 n 1).BroadcastsInDim (T3 1 n k) ![0, 1, 2])
    (e : A (T3 1 n k)) (i : Fin n) (r : Fin k) : attn hr hz h1 h2 e (ix3 (0 : Fin 1) i r)
      = Ideal.div (e (ix3 (0 : Fin 1) i r)) (∑ r', e (ix3 (0 : Fin 1) i r')) := by
  have e : attn hr hz h1 h2 e (ix3 (0 : Fin 1) i r) = Ideal.div (e (ix3 (0 : Fin 1) i r))
      (Host.reduceAdd e (constant T0 .f32 0x00000000#32) hr hz (ix2 (0 : Fin 1) i)) :=
    congrArg (fun z => Ideal.div (e (ix3 (0 : Fin 1) i r)) z) (keep_apply h1 h2 _ i r)
  rw [e]
  pointwise

/-- Softmax of a row. -/
theorem attn_expo (h0 : T0.BroadcastsInDim (T2 1 n) ![]) (hr : (T3 1 n k).ReducesTo [2] (T2 1 n)) (hz : 0 < T0.numel)
    (h1 : (T2 1 n).BroadcastsInDim (T3 1 n 1) ![0, 1]) (h2 : (T3 1 n 1).BroadcastsInDim (T3 1 n k) ![0, 1, 2])
    (x : A (T3 1 n k)) (i : Fin n) (r : Fin k) : attn hr hz h1 h2 (expo h0 hr hz h1 h2 x) (ix3 (0 : Fin 1) i r)
      = soft (fun r => x (ix3 (0 : Fin 1) i r)) r := by
  rw [attn_apply]
  simp only [expo_apply]
  rfl

/-! ## The picked rows -/

/-- The dimension numbers of the gather of the picked rows. -/
def pickDims (n m : Nat) (wf : GatherDims.WF (T3 1 m 768) (T4 1 n 4 1) (T4 1 n 4 768) [3] [1] [0] [1] [0] 3 ![1, 1, 768]) :
    GatherDims (T3 1 m 768) (T4 1 n 4 1) (T4 1 n 4 768) where
  offsetDims := [3]
  collapsedSliceDims := [1]
  operandBatchingDims := [0]
  startIndicesBatchingDims := [0]
  startIndexMap := [1]
  indexVectorDim := 3
  sliceSizes := ![1, 1, 768]
  wf := wf

theorem gather_pick (wf : GatherDims.WF (T3 1 m 768) (T4 1 n 4 1) (T4 1 n 4 768) [3] [1] [0] [1] [0] 3 ![1, 1, 768])
    (x : A (T3 1 m 768)) (idx : IVec (T4 1 n 4 1) 32) (i : Fin n) (r : Fin 4) (d : Fin 768) (p : Fin m)
    (hp : (idx (ix4 (0 : Fin 1) i r (0 : Fin 1))).toInt.toNat = p.val) :
    Host.gather (pickDims n m wf) x idx (ix4 (0 : Fin 1) i r d) = x (ix3 (0 : Fin 1) p d) := by
  have hsi : (pickDims n m wf).siIdx (ix4 (0 : Fin 1) i r d) ⟨0, Nat.one_pos⟩ = ix4 (0 : Fin 1) i r (0 : Fin 1) := by
    funext a
    match a with
    | ⟨0, _⟩ => rfl
    | ⟨1, _⟩ => rfl
    | ⟨2, _⟩ => rfl
    | ⟨3, _⟩ => rfl
  refine congrArg x (funext fun a => ?_)
  match a with
  | ⟨0, _⟩ => exact Fin.ext (by have := ((pickDims n m wf).operandIdx (ix4 (0 : Fin 1) i r d) idx ⟨0, Nat.succ_pos 2⟩).isLt; change _ < 1 at this; change _ = 0; omega)
  | ⟨1, _⟩ =>
    refine Fin.ext ?_
    change min (idx ((pickDims n m wf).siIdx (ix4 (0 : Fin 1) i r d) ⟨0, Nat.one_pos⟩)).toInt.toNat (m - 1) + 0 + 0 = p.val
    rw [hsi, hp]
    have := p.isLt
    omega
  | ⟨2, _⟩ =>
    refine Fin.ext ?_
    change 0 + 0 + d.val = d.val
    omega

/-- An index word that is not negative stays as it is where negative ones are counted from the end. -/
def wrap (t : Shape) (h0 : T0.BroadcastsInDim t ![]) (mw : BitVec 32) (idx : IVec t 32) : IVec t 32 :=
  select (cmpi .slt idx (broadcastInDim t ![] h0 (constantI T0 32 0#32))) (addi idx (broadcastInDim t ![] h0 (constantI T0 32 mw))) idx

theorem wrap_apply (t : Shape) (h0 : T0.BroadcastsInDim t ![]) (mw : BitVec 32) (idx : IVec t 32) (j : t.Idx)
    (h : 0 ≤ (idx j).toInt) : wrap t h0 mw idx j = idx j := by
  have e : wrap t h0 mw idx j = Scalar.select (IntOp.cmpi .slt (idx j) 0#32) (IntOp.addi (idx j) mw) (idx j) := rfl
  rw [e]
  have hlt : (idx j).slt 0#32 = false := by
    rw [BitVec.slt_eq_decide, BitVec.toInt_zero]; exact decide_eq_false (not_lt.mpr h)
  unfold Scalar.select IntOp.cmpi
  simp only [hlt]
  rfl

/-- The weighted sum of the picked rows. -/
def pickSum (wf : GatherDims.WF (T3 1 m 768) (T4 1 n 4 1) (T4 1 n 4 768) [3] [1] [0] [1] [0] 3 ![1, 1, 768])
    (h1 : (T3 1 n 4).BroadcastsInDim (T4 1 n 4 1) ![0, 1, 2]) (h2 : (T4 1 n 4 1).BroadcastsInDim (T4 1 n 4 768) ![0, 1, 2, 3])
    (hr : (T4 1 n 4 768).ReducesTo [2] (T3 1 n 768)) (hz : 0 < T0.numel) (h0 : T0.BroadcastsInDim (T3 1 n 4) ![]) (mw : BitVec 32)
    (a : A (T3 1 n 4)) (x : A (T3 1 m 768)) (idx : IVec (T3 1 n 4) 32) : A (T3 1 n 768) :=
  Host.reduceAdd (mulf (broadcastInDim (T4 1 n 4 768) ![0, 1, 2, 3] h2 (broadcastInDim (T4 1 n 4 1) ![0, 1, 2] h1 a))
    (Host.gather (pickDims n m wf) x (broadcastInDim (T4 1 n 4 1) ![0, 1, 2] h1 (wrap (T3 1 n 4) h0 mw idx))))
    (constant T0 .f32 0x00000000#32) hr hz

theorem sum_mid (hr : (T4 1 n 4 768).ReducesTo [2] (T3 1 n 768)) (hz : 0 < T0.numel) (y : A (T4 1 n 4 768)) (i : Fin n) (d : Fin 768) :
    Host.reduceAdd y (constant T0 .f32 0x00000000#32) hr hz (ix3 (0 : Fin 1) i d) = ∑ r, y (ix4 (0 : Fin 1) i r d) := by
  pointwise

theorem pickSum_apply (wf : GatherDims.WF (T3 1 m 768) (T4 1 n 4 1) (T4 1 n 4 768) [3] [1] [0] [1] [0] 3 ![1, 1, 768])
    (h1 : (T3 1 n 4).BroadcastsInDim (T4 1 n 4 1) ![0, 1, 2]) (h2 : (T4 1 n 4 1).BroadcastsInDim (T4 1 n 4 768) ![0, 1, 2, 3])
    (hr : (T4 1 n 4 768).ReducesTo [2] (T3 1 n 768)) (hz : 0 < T0.numel) (h0 : T0.BroadcastsInDim (T3 1 n 4) ![]) (mw : BitVec 32)
    (a : A (T3 1 n 4)) (x : A (T3 1 m 768)) (idx : IVec (T3 1 n 4) 32) (i : Fin n) (d : Fin 768) (p : Fin 4 → Fin m)
    (hm : m < 2 ^ 31) (hp : ∀ r, idx (ix3 (0 : Fin 1) i r) = BitVec.ofNat 32 (p r).val) :
    pickSum wf h1 h2 hr hz h0 mw a x idx (ix3 (0 : Fin 1) i d) = ∑ r, a (ix3 (0 : Fin 1) i r) * x (ix3 (0 : Fin 1) (p r) d) := by
  have hb : ∀ {α : Type} (y : (T3 1 n 4).Idx → α) (r : Fin 4),
      broadcastInDim (T4 1 n 4 1) ![0, 1, 2] h1 y (ix4 (0 : Fin 1) i r (0 : Fin 1)) = y (ix3 (0 : Fin 1) i r) := fun y r =>
    broadcastInDim_apply _ h1 _ _ _ fun a => match a with
      | ⟨0, _⟩ => rfl
      | ⟨1, _⟩ => at_axis n i
      | ⟨2, _⟩ => rfl
  have hb2 : ∀ (y : A (T4 1 n 4 1)) (r : Fin 4),
      broadcastInDim (T4 1 n 4 768) ![0, 1, 2, 3] h2 y (ix4 (0 : Fin 1) i r d) = y (ix4 (0 : Fin 1) i r (0 : Fin 1)) := fun y r =>
    broadcastInDim_apply _ h2 _ _ _ fun a => match a with
      | ⟨0, _⟩ => rfl
      | ⟨1, _⟩ => at_axis n i
      | ⟨2, _⟩ => rfl
      | ⟨3, _⟩ => rfl
  have hw : ∀ r, (idx (ix3 (0 : Fin 1) i r)).toInt = ((p r).val : Int) := fun r => by
    have := (p r).isLt
    rw [hp r, BitVec.toInt_ofNat']
    exact Int.bmod_eq_of_le (by omega) (by omega)
  unfold pickSum
  rw [sum_mid]
  refine Finset.sum_congr rfl fun r _ => ?_
  refine congrArg₂ (fun u v : EReal => u * v) ((hb2 _ r).trans (hb a r)) (gather_pick wf x _ i r d (p r) ?_)
  rw [hb, wrap_apply _ _ _ _ _ (by rw [hw r]; exact Int.natCast_nonneg _), hw r, Int.toNat_natCast]

/-! ## A step and the normalisation -/

/-- A base plus a constant times a change. -/
def step (t : Shape) (c : BitVec 32) (h0 : T0.BroadcastsInDim t ![]) (x y : A t) : A t := addf x (mulf (fill t c h0) y)

theorem step_apply (t : Shape) (c : BitVec 32) (h0 : T0.BroadcastsInDim t ![]) (x y : A t) (j : t.Idx) :
    step t c h0 x y j = x j + Ideal.ofBits .f32 c * y j := rfl

/-- The rows' means, one column. -/
def mean (hr : (T3 1 n 768).ReducesTo [2] (T2 1 n)) (hz : 0 < T0.numel) (h1 : (T2 1 n).BroadcastsInDim (T3 1 n 1) ![0, 1])
    (h0 : T0.BroadcastsInDim (T3 1 n 1) ![]) (x : A (T3 1 n 768)) : A (T3 1 n 1) :=
  Host.divf (broadcastInDim (T3 1 n 1) ![0, 1] h1 (Host.reduceAdd x (constant T0 .f32 0x00000000#32) hr hz))
    (fill (T3 1 n 1) 0x44400000#32 h0)

/-- The rows less their means. -/
def centred (h2 : (T3 1 n 1).BroadcastsInDim (T3 1 n 768) ![0, 1, 2]) (x : A (T3 1 n 768)) (mu : A (T3 1 n 1)) : A (T3 1 n 768) :=
  subf x (broadcastInDim (T3 1 n 768) ![0, 1, 2] h2 mu)

/-- Layer normalisation from the means and the centred rows. -/
def norm (hr : (T3 1 n 768).ReducesTo [2] (T2 1 n)) (hz : 0 < T0.numel) (h1 : (T2 1 n).BroadcastsInDim (T3 1 n 1) ![0, 1])
    (h0 : T0.BroadcastsInDim (T3 1 n 1) ![]) (h2 : (T3 1 n 1).BroadcastsInDim (T3 1 n 768) ![0, 1, 2])
    (h3 : (T1 768).BroadcastsInDim (T3 1 1 768) ![2]) (h4 : (T3 1 1 768).BroadcastsInDim (T3 1 n 768) ![0, 1, 2])
    (x : A (T3 1 n 768)) (mu : A (T3 1 n 1)) (xc : A (T3 1 n 768)) (w b : A (T1 768)) : A (T3 1 n 768) :=
  addf (mulf (mulf (centred h2 x mu) (broadcastInDim (T3 1 n 768) ![0, 1, 2] h2
      (Host.rsqrt (addf (mean hr hz h1 h0 (mulf xc xc)) (fill (T3 1 n 1) 0x3727C5AC#32 h0)))))
    (broadcastInDim (T3 1 n 768) ![0, 1, 2] h4 (broadcastInDim (T3 1 1 768) ![2] h3 w)))
    (broadcastInDim (T3 1 n 768) ![0, 1, 2] h4 (broadcastInDim (T3 1 1 768) ![2] h3 b))

theorem mean_apply (hr : (T3 1 n 768).ReducesTo [2] (T2 1 n)) (hz : 0 < T0.numel) (h1 : (T2 1 n).BroadcastsInDim (T3 1 n 1) ![0, 1])
    (h0 : T0.BroadcastsInDim (T3 1 n 1) ![]) (x : A (T3 1 n 768)) (i : Fin n) :
    mean hr hz h1 h0 x (ix3 (0 : Fin 1) i (0 : Fin 1)) = rmean fun d => x (ix3 (0 : Fin 1) i d) := by
  have e : broadcastInDim (T3 1 n 1) ![0, 1] h1 (Host.reduceAdd x (constant T0 .f32 0x00000000#32) hr hz) (ix3 (0 : Fin 1) i (0 : Fin 1))
      = ∑ d, x (ix3 (0 : Fin 1) i d) := by
    rw [col_apply]
    pointwise
  exact congrArg (fun z => Ideal.div z (Ideal.ofBits .f32 0x44400000#32)) e

theorem centred_apply (h2 : (T3 1 n 1).BroadcastsInDim (T3 1 n 768) ![0, 1, 2]) (x : A (T3 1 n 768)) (mu : A (T3 1 n 1))
    (i : Fin n) (d : Fin 768) :
    centred h2 x mu (ix3 (0 : Fin 1) i d) = x (ix3 (0 : Fin 1) i d) - mu (ix3 (0 : Fin 1) i (0 : Fin 1)) :=
  congrArg (fun z => x (ix3 (0 : Fin 1) i d) - z) (bcol_apply h2 mu i d)

theorem norm_apply (hr : (T3 1 n 768).ReducesTo [2] (T2 1 n)) (hz : 0 < T0.numel) (h1 : (T2 1 n).BroadcastsInDim (T3 1 n 1) ![0, 1])
    (h0 : T0.BroadcastsInDim (T3 1 n 1) ![]) (h2 : (T3 1 n 1).BroadcastsInDim (T3 1 n 768) ![0, 1, 2])
    (h3 : (T1 768).BroadcastsInDim (T3 1 1 768) ![2]) (h4 : (T3 1 1 768).BroadcastsInDim (T3 1 n 768) ![0, 1, 2])
    (x : A (T3 1 n 768)) (w b : A (T1 768)) (i : Fin n) (d : Fin 768) :
    norm hr hz h1 h0 h2 h3 h4 x (mean hr hz h1 h0 x) (centred h2 x (mean hr hz h1 h0 x)) w b (ix3 (0 : Fin 1) i d)
      = rnorm (fun d => x (ix3 (0 : Fin 1) i d)) (fun d => w (ix1 d)) (fun d => b (ix1 d)) d := by
  have hc : ∀ d, centred h2 x (mean hr hz h1 h0 x) (ix3 (0 : Fin 1) i d)
      = x (ix3 (0 : Fin 1) i d) - rmean fun d => x (ix3 (0 : Fin 1) i d) := fun d => by rw [centred_apply, mean_apply]
  have hv : mean hr hz h1 h0 (mulf (centred h2 x (mean hr hz h1 h0 x)) (centred h2 x (mean hr hz h1 h0 x))) (ix3 (0 : Fin 1) i (0 : Fin 1))
      = rmean fun d => (x (ix3 (0 : Fin 1) i d) - rmean fun d => x (ix3 (0 : Fin 1) i d)) * (x (ix3 (0 : Fin 1) i d) - rmean fun d => x (ix3 (0 : Fin 1) i d)) := by
    rw [mean_apply]
    exact congrArg rmean (funext fun d => congrArg₂ (fun u v : EReal => u * v) (hc d) (hc d))
  have e : norm hr hz h1 h0 h2 h3 h4 x (mean hr hz h1 h0 x) (centred h2 x (mean hr hz h1 h0 x)) w b (ix3 (0 : Fin 1) i d)
      = centred h2 x (mean hr hz h1 h0 x) (ix3 (0 : Fin 1) i d) * Ideal.rsqrt (mean hr hz h1 h0 (mulf (centred h2 x (mean hr hz h1 h0 x))
          (centred h2 x (mean hr hz h1 h0 x))) (ix3 (0 : Fin 1) i (0 : Fin 1)) + Ideal.ofBits .f32 0x3727C5AC#32) * w (ix1 d) + b (ix1 d) :=
    congrArg₂ (fun u v : EReal => u + v) (congrArg₂ (fun u v : EReal => u * v)
      (congrArg (fun u : EReal => centred h2 x (mean hr hz h1 h0 x) (ix3 (0 : Fin 1) i d) * u) (bcol_apply h2 _ i d))
      (brow_apply h3 h4 w i d)) (brow_apply h3 h4 b i d)
  rw [e, hv, hc]
  rfl

end Cert.HostStage

end
-- ==== Proof.HostWindow.lean ====
/-
  The reference's window step: the clipped positions of the nine neighbours, their gathered rows, the masked scores and the
  softmax against the rows, each read at an index.
-/
module

public import proofs.«01_k».proof.Proof.HostStage

@[expose] public section

set_option maxRecDepth 16384

noncomputable section

namespace Cert.HostStage

open Idealize.ShloMosaic Cert.Spec

/-! ## The positions -/

/-- The positions of the nine neighbours of every row. -/
def winPos : IVec (T2 4096 9) 32 :=
  addi (broadcastInDim (T2 4096 9) ![0, 1] (by decide) (broadcastInDim (T2 4096 1) ![0] (by decide) (iotaInDim (T1 4096) 32 0)))
    (broadcastInDim (T2 4096 9) ![0, 1] (by decide) (broadcastInDim (T2 1 9) ![1] (by decide)
      (addi (broadcastInDim (T1 9) ![] (by decide) (constantI T0 32 4294967292#32)) (iotaInDim (T1 9) 32 0))))

/-- The positions clipped into the sequence. -/
def winClip (pos : IVec (T2 4096 9) 32) : IVec (T2 4096 9) 32 :=
  minsi (broadcastInDim (T2 4096 9) ![] (by decide) (id (constantI T0 32 4095#32)))
    (maxsi (broadcastInDim (T2 4096 9) ![] (by decide) (id (constantI T0 32 0#32))) pos)

theorem winPos_toInt (i : Fin 4096) (k : Fin 9) : (winPos (ix2 i k)).toInt = (i.val : Int) + k.val - 4 := by
  have e : winPos (ix2 i k) = BitVec.ofNat 32 i.val + (4294967292#32 + BitVec.ofNat 32 k.val) := rfl
  have := i.isLt
  have := k.isLt
  rw [e, BitVec.toInt_eq_toNat_cond]
  simp only [BitVec.toNat_add, BitVec.toNat_ofNat]
  split <;> omega

theorem winClip_toInt (i : Fin 4096) (k : Fin 9) : (winClip winPos (ix2 i k)).toInt = ((nb i k).val : Int) := by
  have e : winClip winPos (ix2 i k) = IntOp.minsi 4095#32 (IntOp.maxsi 0#32 (winPos (ix2 i k))) := rfl
  have hp := winPos_toInt i k
  have hn : (nb i k).val = min 4095 (i.val + k.val - 4) := rfl
  have h0 : (0#32 : BitVec 32).toInt = 0 := rfl
  have h1 : (4095#32 : BitVec 32).toInt = 4095 := rfl
  rw [e]
  unfold IntOp.minsi IntOp.maxsi
  simp only [BitVec.slt_eq_decide, decide_eq_true_eq]
  split_ifs <;> simp_all <;> omega

/-! ## The gathered rows -/

/-- The dimension numbers of the gather of the neighbours' rows. -/
def nbDims : GatherDims (T3 1 4096 768) (T3 4096 9 1) (T4 1 4096 9 768) where
  offsetDims := [0, 3]
  collapsedSliceDims := [1]
  operandBatchingDims := []
  startIndicesBatchingDims := []
  startIndexMap := [1]
  indexVectorDim := 2
  sliceSizes := ![1, 1, 768]
  wf := by decide

/-- The neighbours' rows. -/
def nbRows (x : A (T3 1 4096 768)) (pos : IVec (T2 4096 9) 32) : A (T4 1 4096 9 768) :=
  Host.gather nbDims x (broadcastInDim (T3 4096 9 1) ![0, 1] (by decide) (wrap (T2 4096 9) (by decide) 4096#32 pos))

theorem nbRows_apply (x : A (T3 1 4096 768)) (i : Fin 4096) (k : Fin 9) (d : Fin 768) :
    nbRows x (winClip winPos) (ix4 (0 : Fin 1) i k d) = x (ix3 (0 : Fin 1) (nb i k) d) := by
  unfold nbRows
  generalize hidx : broadcastInDim (T3 4096 9 1) ![0, 1] _ (wrap (T2 4096 9) _ 4096#32 (winClip winPos)) = idx
  have hv : (idx (ix3 i k (0 : Fin 1))).toInt.toNat = (nb i k).val := by
    have : idx (ix3 i k (0 : Fin 1)) = wrap (T2 4096 9) (by decide) 4096#32 (winClip winPos) (ix2 i k) := by
      rw [← hidx]
      exact broadcastInDim_apply _ _ _ _ _ fun a => match a with
        | ⟨0, _⟩ => rfl
        | ⟨1, _⟩ => rfl
    rw [this, wrap_apply _ _ _ _ _ (by rw [winClip_toInt]; exact Int.natCast_nonneg _), winClip_toInt, Int.toNat_natCast]
  have hsi : nbDims.siIdx (ix4 (0 : Fin 1) i k d) ⟨0, Nat.one_pos⟩ = ix3 i k (0 : Fin 1) := by
    funext a
    match a with
    | ⟨0, _⟩ => rfl
    | ⟨1, _⟩ => rfl
    | ⟨2, _⟩ => rfl
  refine congrArg x (funext fun a => ?_)
  match a with
  | ⟨0, _⟩ => exact Fin.ext (by have := (nbDims.operandIdx (ix4 (0 : Fin 1) i k d) idx ⟨0, Nat.succ_pos 2⟩).isLt; change _ < 1 at this; change _ = 0; omega)
  | ⟨1, _⟩ =>
    refine Fin.ext ?_
    change min (idx (nbDims.siIdx (ix4 (0 : Fin 1) i k d) ⟨0, Nat.one_pos⟩)).toInt.toNat (4096 - 1) + 0 + 0 = (nb i k).val
    rw [hsi, hv]
    have := (nb i k).isLt
    omega
  | ⟨2, _⟩ =>
    refine Fin.ext ?_
    change 0 + 0 + d.val = d.val
    omega

/-! ## The scores -/

/-- The dimension numbers of the scores of the neighbours. -/
def nbScoreDims : DotDims (T3 1 4096 768) (T4 1 4096 9 768) (T3 1 4096 9) where
  lhsContracting := [2]
  rhsContracting := [3]
  lhsNonContracting := []
  rhsNonContracting := [2]
  lhsBatch := [0, 1]
  rhsBatch := [0, 1]
  wf := by decide

/-- The dimension numbers of the weights against the neighbours' rows. -/
def nbSumDims : DotDims (T3 1 4096 9) (T4 1 4096 9 768) (T3 1 4096 768) where
  lhsContracting := [2]
  rhsContracting := [2]
  lhsNonContracting := []
  rhsNonContracting := [3]
  lhsBatch := [0, 1]
  rhsBatch := [0, 1]
  wf := by decide

/-- Which neighbours lie in the sequence. -/
def nbValid (pos : IVec (T2 4096 9) 32) : IVec (T3 1 4096 9) 1 :=
  broadcastInDim (T3 1 4096 9) ![1, 2] (by decide) (andi
    (cmpi .sge pos (broadcastInDim (T2 4096 9) ![] (by decide) (constantI T0 32 0#32)))
    (cmpi .slt pos (broadcastInDim (T2 4096 9) ![] (by decide) (constantI T0 32 4096#32))))

/-- The masked scores. -/
def nbScores (pos : IVec (T2 4096 9) 32) (x : A (T3 1 4096 768)) (w : A (T1 768)) (rows : A (T4 1 4096 9 768)) : A (T3 1 4096 9) :=
  select (nbValid pos) (Host.dotGeneral nbScoreDims none
    (mulf x (broadcastInDim (T3 1 4096 768) ![0, 1, 2] (by decide) (broadcastInDim (T3 1 1 768) ![2] (by decide) w))) rows)
    (broadcastInDim (T3 1 4096 9) ![] (by decide) (id (constant (F := Ideal) T0 .f32 0xFF800000#32)))

theorem nbValid_apply (i : Fin 4096) (k : Fin 9) :
    nbValid winPos (ix3 (0 : Fin 1) i k) = if InSeq i k then 1#1 else 0#1 := by
  have e : nbValid winPos (ix3 (0 : Fin 1) i k)
      = IntOp.andi (IntOp.cmpi .sge (winPos (ix2 i k)) 0#32) (IntOp.cmpi .slt (winPos (ix2 i k)) 4096#32) := rfl
  have hp := winPos_toInt i k
  have h0 : (0#32 : BitVec 32).toInt = 0 := rfl
  have h1 : (4096#32 : BitVec 32).toInt = 4096 := rfl
  rw [e]
  unfold IntOp.cmpi IntOp.andi
  simp only [BitVec.slt_eq_decide, BitVec.sle_eq_decide, hp, h0, h1]
  by_cases ha : 4 ≤ i.val + k.val
  · by_cases hb : i.val + k.val < 4100
    · rw [if_pos ⟨ha, hb⟩, decide_eq_true (by omega), decide_eq_true (by omega)]; rfl
    · rw [if_neg fun h => hb h.2, decide_eq_true (by omega), decide_eq_false (by omega)]; rfl
  · rw [if_neg fun h => ha h.1, decide_eq_false (by omega), decide_eq_true (by omega)]; rfl

theorem nbScores_apply (x : A (T3 1 4096 768)) (w : A (T1 768)) (i : Fin 4096) (k : Fin 9) :
    nbScores winPos x w (nbRows x (winClip winPos)) (ix3 (0 : Fin 1) i k)
      = wsc (fun d => w (ix1 d)) (fun i d => x (ix3 (0 : Fin 1) i d)) i k := by
  have hdot : Host.dotGeneral nbScoreDims none
      (mulf x (broadcastInDim (T3 1 4096 768) ![0, 1, 2] (by decide) (broadcastInDim (T3 1 1 768) ![2] (by decide) w)))
      (nbRows x (winClip winPos)) (ix3 (0 : Fin 1) i k) = ∑ d, (x (ix3 (0 : Fin 1) i d) * w (ix1 d)) * x (ix3 (0 : Fin 1) (nb i k) d) := by
    generalize hr : nbRows x (winClip winPos) = rows
    have hr' : ∀ d, rows (ix4 (0 : Fin 1) i k d) = x (ix3 (0 : Fin 1) (nb i k) d) := fun d => by rw [← hr]; exact nbRows_apply x i k d
    simp only [← hr']
    unfold nbScoreDims
    pointwise
  have e : nbScores winPos x w (nbRows x (winClip winPos)) (ix3 (0 : Fin 1) i k)
      = Scalar.select (nbValid winPos (ix3 (0 : Fin 1) i k)) (Host.dotGeneral nbScoreDims none
      (mulf x (broadcastInDim (T3 1 4096 768) ![0, 1, 2] (by decide) (broadcastInDim (T3 1 1 768) ![2] (by decide) w)))
      (nbRows x (winClip winPos)) (ix3 (0 : Fin 1) i k)) (Ideal.ofBits .f32 0xFF800000#32) := rfl
  rw [e, nbValid_apply, hdot, ofBits_neg_inf]
  unfold wsc
  by_cases h : InSeq i k
  · rw [if_pos h, if_pos h]; rfl
  · rw [if_neg h, if_neg h]; rfl

/-- The weights against the neighbours' rows. -/
def nbSum (a : A (T3 1 4096 9)) (rows : A (T4 1 4096 9 768)) : A (T3 1 4096 768) := Host.dotGeneral nbSumDims none a rows

theorem nbSum_apply (a : A (T3 1 4096 9)) (x : A (T3 1 4096 768)) (i : Fin 4096) (d : Fin 768) :
    nbSum a (nbRows x (winClip winPos)) (ix3 (0 : Fin 1) i d) = ∑ k, a (ix3 (0 : Fin 1) i k) * x (ix3 (0 : Fin 1) (nb i k) d) := by
  generalize hr : nbRows x (winClip winPos) = rows
  have hr' : ∀ k, rows (ix4 (0 : Fin 1) i k d) = x (ix3 (0 : Fin 1) (nb i k) d) := fun k => by rw [← hr]; exact nbRows_apply x i k d
  simp only [← hr']
  unfold nbSum nbSumDims
  pointwise

end Cert.HostStage

end
-- ==== Proof.HostRef.lean ====
/-
  The reference as a composition of its steps, and every array of it at an index: the rows of `Inputs`.
-/
module

public import proofs.«01_k».proof.Proof.HostWindow

@[expose] public section

set_option maxRecDepth 16384

noncomputable section

namespace Cert.HostStage

open Idealize.ShloMosaic Cert.Spec

variable {n m : Nat}

/-! ## One route -/

/-- What the operations of a route from `m` sources to `n` rows ask of their sizes. -/
structure RouteEv (n m : Nat) : Prop where
  wf : DotDims.WF (T3 1 n 768) (T3 1 m 768) (T3 1 n m) [2] [2] [1] [1] [0] [0]
  w1 : (T1 768).BroadcastsInDim (T3 1 1 768) ![2]
  w2 : (T3 1 1 768).BroadcastsInDim (T3 1 n 768) ![0, 1, 2]
  sl : (T3 1 n m).Slices (fun _ => 0) (T3 1 n 4)
  h0 : T0.BroadcastsInDim (T2 1 n) ![]
  hr : (T3 1 n 4).ReducesTo [2] (T2 1 n)
  hz : 0 < T0.numel
  h1 : (T2 1 n).BroadcastsInDim (T3 1 n 1) ![0, 1]
  h2 : (T3 1 n 1).BroadcastsInDim (T3 1 n 4) ![0, 1, 2]
  gwf : GatherDims.WF (T3 1 m 768) (T4 1 n 4 1) (T4 1 n 4 768) [3] [1] [0] [1] [0] 3 ![1, 1, 768]
  g1 : (T3 1 n 4).BroadcastsInDim (T4 1 n 4 1) ![0, 1, 2]
  g2 : (T4 1 n 4 1).BroadcastsInDim (T4 1 n 4 768) ![0, 1, 2, 3]
  gr : (T4 1 n 4 768).ReducesTo [2] (T3 1 n 768)
  g0 : T0.BroadcastsInDim (T3 1 n 4) ![]
  s0 : T0.BroadcastsInDim (T3 1 n 768) ![]

/-- The scores of a route. -/
def rsc (E : RouteEv n m) (q : A (T3 1 n 768)) (w : A (T1 768)) (s : A (T3 1 m 768)) : A (T3 1 n m) := scores E.wf E.w1 E.w2 q w s

/-- The softmax of the four greatest scores of every row. -/
def rattn (E : RouteEv n m) (x : A (T3 1 n m)) : A (T3 1 n 4) :=
  attn E.hr E.hz E.h1 E.h2 (expo E.h0 E.hr E.hz E.h1 E.h2 (Host.topK (T3 1 n 4) 2 (FloatOps.cmpfTotal (F := Ideal) .gt) x E.sl).1)

/-- A base and a constant times the picked rows against the weights. -/
def rstep (E : RouteEv n m) (c mw : BitVec 32) (b : A (T3 1 n 768)) (x : A (T3 1 n m)) (v : A (T3 1 m 768)) : A (T3 1 n 768) :=
  step (T3 1 n 768) c E.s0 b (pickSum E.gwf E.g1 E.g2 E.gr E.hz E.g0 mw (rattn E x) v
    (Host.topK (T3 1 n 4) 2 (FloatOps.cmpfTotal (F := Ideal) .gt) x E.sl).2)

/-- An array's rows. -/
def rows3 (x : A (T3 1 n 768)) : Rows n := fun i d => x (ix3 (0 : Fin 1) i d)
def mat3 (x : A (T3 1 n m)) : Fin n → Fin m → EReal := fun i j => x (ix3 (0 : Fin 1) i j)
def feat (w : A (T1 768)) : Feat := fun d => w (ix1 d)

theorem rsc_mat (E : RouteEv n m) (q : A (T3 1 n 768)) (w : A (T1 768)) (s : A (T3 1 m 768)) :
    mat3 (rsc E q w s) = sc (rows3 q) (feat w) (rows3 s) := by
  funext i j
  exact scores_apply _ _ _ q w s i j

theorem rattn_apply (E : RouteEv n m) (hm : 5 ≤ m) (x : A (T3 1 n m)) (i : Fin n) (r : Fin 4) :
    rattn E x (ix3 (0 : Fin 1) i r) = soft (fun k => mat3 x i (pick hm (mat3 x i) k)) r := by
  unfold rattn
  rw [attn_expo]
  exact congrArg (fun t => soft t r) (funext fun k => topK_values E.sl (Nat.le_of_succ_le hm) x i k)

theorem rstep_rows (E : RouteEv n m) (c mw : BitVec 32) (hm : 5 ≤ m) (hm' : m < 2 ^ 31) (b : A (T3 1 n 768)) (x : A (T3 1 n m)) (v : A (T3 1 m 768)) :
    rows3 (rstep E c mw b x v) = chg c (rows3 b) (routed hm (mat3 x) (rows3 v)) := by
  funext i d
  have h := pickSum_apply E.gwf E.g1 E.g2 E.gr E.hz E.g0 mw (rattn E x) v
    (Host.topK (T3 1 n 4) 2 (FloatOps.cmpfTotal (F := Ideal) .gt) x E.sl).2 i d (pick hm (mat3 x i)) hm'
    (fun r => topK_indices E.sl (Nat.le_of_succ_le hm) x i r)
  refine congrArg (fun z => b (ix3 (0 : Fin 1) i d) + Ideal.ofBits .f32 c * z) (h.trans ?_)
  exact Finset.sum_congr rfl fun r _ => congrArg (fun z => z * v (ix3 (0 : Fin 1) (pick hm (mat3 x i) r) d)) (rattn_apply E hm x i r)

/-! ## One normalisation -/

/-- What the operations of a normalisation of `n` rows ask of their sizes. -/
structure NormEv (n : Nat) : Prop where
  hr : (T3 1 n 768).ReducesTo [2] (T2 1 n)
  hz : 0 < T0.numel
  h1 : (T2 1 n).BroadcastsInDim (T3 1 n 1) ![0, 1]
  h0 : T0.BroadcastsInDim (T3 1 n 1) ![]
  h2 : (T3 1 n 1).BroadcastsInDim (T3 1 n 768) ![0, 1, 2]
  h3 : (T1 768).BroadcastsInDim (T3 1 1 768) ![2]
  h4 : (T3 1 1 768).BroadcastsInDim (T3 1 n 768) ![0, 1, 2]

/-- Layer normalisation of every row. -/
def rln (E : NormEv n) (x : A (T3 1 n 768)) (w b : A (T1 768)) : A (T3 1 n 768) :=
  norm E.hr E.hz E.h1 E.h0 E.h2 E.h3 E.h4 x (mean E.hr E.hz E.h1 E.h0 x) (centred E.h2 x (mean E.hr E.hz E.h1 E.h0 x)) w b

theorem rln_rows (E : NormEv n) (x : A (T3 1 n 768)) (w b : A (T1 768)) : rows3 (rln E x w b) = lnorm (rows3 x) (feat w) (feat b) := by
  funext i d
  exact norm_apply _ _ _ _ _ _ _ x w b i d

/-! ## The sizes -/

theorem ev1 : RouteEv 1024 4096 := by constructor <;> decide
theorem ev2 : RouteEv 1024 1024 := by constructor <;> decide
theorem ev3 : RouteEv 256 1024 := by constructor <;> decide
theorem ev4 : RouteEv 256 256 := by constructor <;> decide
theorem ev5 : RouteEv 4096 256 := by constructor <;> decide
theorem nev1024 : NormEv 1024 := by constructor <;> decide
theorem nev256 : NormEv 256 := by constructor <;> decide
theorem nev4096 : NormEv 4096 := by constructor <;> decide

/-! ## The reference -/

/-- The reference's sixteen arguments. -/
structure Args where
  s : A (T3 1 4096 768)
  v : A (T3 1 4096 768)
  wps : A (T1 768)
  wpe : A (T1 768)
  wpc : A (T1 768)
  ws2b : A (T1 768)
  we2c : A (T1 768)
  wb2s : A (T1 768)
  e : A (T2 1024 768)
  c : A (T2 256 768)
  lnsw : A (T1 768)
  lnsb : A (T1 768)
  lnew : A (T1 768)
  lneb : A (T1 768)
  lncw : A (T1 768)
  lncb : A (T1 768)

namespace Args

variable (a : Args)

/-- The arguments' rows. -/
def inp : Inputs where
  s0 := rows3 a.s
  v0 := rows3 a.v
  wps := feat a.wps
  wpe := feat a.wpe
  wpc := feat a.wpc
  ws2b := feat a.ws2b
  we2c := feat a.we2c
  wb2s := feat a.wb2s
  e0 := fun i d => a.e (ix2 i d)
  c0 := fun i d => a.c (ix2 i d)
  lnsw := feat a.lnsw
  lnsb := feat a.lnsb
  lnew := feat a.lnew
  lneb := feat a.lneb
  lncw := feat a.lncw
  lncb := feat a.lncb

def hE0 : A (T3 1 1024 768) := broadcastInDim (T3 1 1024 768) ![1, 2] (by decide) a.e
def hC0 : A (T3 1 256 768) := broadcastInDim (T3 1 256 768) ![1, 2] (by decide) a.c
/-- The window's weights. -/
def hWin : A (T3 1 4096 9) :=
  attn (n := 4096) (k := 9) (by decide) (by decide) (by decide) (by decide) (expo (by decide) (by decide) (by decide) (by decide) (by decide)
    (nbScores winPos a.s a.wps (nbRows a.s (winClip winPos))))
/-- A window step of `x`. -/
def hStep (x : A (T3 1 4096 768)) : A (T3 1 4096 768) :=
  step (T3 1 4096 768) 0x3E800000#32 (by decide) x (nbSum a.hWin (nbRows x (winClip winPos)))
def hS1 : A (T3 1 4096 768) := a.hStep a.s
def hV1 : A (T3 1 4096 768) := a.hStep a.v
def hQ1 : A (T3 1 1024 4096) := rsc ev1 a.hE0 a.ws2b a.hS1
def hE1 : A (T3 1 1024 768) := rstep ev1 0x3E19999A#32 4096#32 a.hE0 a.hQ1 a.hS1
def hF1 : A (T3 1 1024 768) := rstep ev1 0x3E19999A#32 4096#32 a.hE0 a.hQ1 a.hV1
def hQ2 : A (T3 1 1024 1024) := rsc ev2 a.hE1 a.wpe a.hE1
def hE2 : A (T3 1 1024 768) := rstep ev2 0x3E4CCCCD#32 1024#32 a.hE1 a.hQ2 a.hE1
def hF2 : A (T3 1 1024 768) := rstep ev2 0x3E4CCCCD#32 1024#32 a.hF1 a.hQ2 a.hF1
def hF3 : A (T3 1 1024 768) := rln nev1024 a.hF2 a.lnew a.lneb
def hQ3 : A (T3 1 256 1024) := rsc ev3 a.hC0 a.we2c a.hE2
def hC1 : A (T3 1 256 768) := rstep ev3 0x3E19999A#32 1024#32 a.hC0 a.hQ3 a.hE2
def hG1 : A (T3 1 256 768) := rstep ev3 0x3E19999A#32 1024#32 a.hC0 a.hQ3 a.hF3
def hQ4 : A (T3 1 256 256) := rsc ev4 a.hC1 a.wpc a.hC1
def hC2 : A (T3 1 256 768) := rstep ev4 0x3E4CCCCD#32 256#32 a.hC1 a.hQ4 a.hC1
def hG2 : A (T3 1 256 768) := rstep ev4 0x3E4CCCCD#32 256#32 a.hG1 a.hQ4 a.hG1
def hG3 : A (T3 1 256 768) := rln nev256 a.hG2 a.lncw a.lncb
def hQ5 : A (T3 1 4096 256) := rsc ev5 a.hS1 a.wb2s a.hC2
def hS2 : A (T3 1 4096 768) := rstep ev5 0x3E19999A#32 256#32 a.hS1 a.hQ5 a.hC2
def hV2 : A (T3 1 4096 768) := rstep ev5 0x3E19999A#32 256#32 a.hV1 a.hQ5 a.hG3
/-- The two closing maps stacked. -/
def hOut : A (T4 2 1 4096 768) :=
  concatenate (T4 2 1 4096 768) 0
    [⟨T4 1 1 4096 768, broadcastInDim (T4 1 1 4096 768) ![1, 2, 3] (by decide) (Host.tanh (F := Ideal) (φ := .f32) a.hS2)⟩,
     ⟨T4 1 1 4096 768, broadcastInDim (T4 1 1 4096 768) ![1, 2, 3] (by decide) (rln nev4096 a.hV2 a.lnsw a.lnsb)⟩]
    (show Shape.Concatenates [T4 1 1 4096 768, T4 1 1 4096 768] (T4 2 1 4096 768) 0 by decide)

/-! ## Its rows -/

theorem hE0_rows : rows3 a.hE0 = a.inp.e0 := by
  funext i d
  exact broadcastInDim_apply (s := T2 1024 768) ![1, 2] (by decide) a.e (ix3 (0 : Fin 1) i d) (ix2 i d) fun a => match a with
    | ⟨0, _⟩ => rfl
    | ⟨1, _⟩ => rfl
theorem hC0_rows : rows3 a.hC0 = a.inp.c0 := by
  funext i d
  exact broadcastInDim_apply (s := T2 256 768) ![1, 2] (by decide) a.c (ix3 (0 : Fin 1) i d) (ix2 i d) fun a => match a with
    | ⟨0, _⟩ => rfl
    | ⟨1, _⟩ => rfl

theorem hWin_apply (i : Fin 4096) (k : Fin 9) : a.hWin (ix3 (0 : Fin 1) i k) = soft (wsc a.inp.wps a.inp.s0 i) k := by
  unfold hWin
  rw [attn_expo]
  exact congrArg (fun t => soft t k) (funext fun k => nbScores_apply a.s a.wps i k)

theorem hStep_rows (x : A (T3 1 4096 768)) :
    rows3 (a.hStep x) = chg 0x3E800000#32 (rows3 x) (win (wsc a.inp.wps a.inp.s0) (rows3 x)) := by
  funext i d
  refine congrArg (fun z => x (ix3 (0 : Fin 1) i d) + Ideal.ofBits .f32 0x3E800000#32 * z) ((nbSum_apply a.hWin x i d).trans ?_)
  exact Finset.sum_congr rfl fun k _ => congrArg (fun z => z * x (ix3 (0 : Fin 1) (nb i k) d)) (a.hWin_apply i k)

theorem hS1_rows : rows3 a.hS1 = a.inp.s1 := a.hStep_rows a.s
theorem hV1_rows : rows3 a.hV1 = a.inp.v1 := a.hStep_rows a.v
theorem hQ1_mat : mat3 a.hQ1 = a.inp.q1 := (rsc_mat _ _ _ _).trans (by rw [hE0_rows, hS1_rows]; rfl)
theorem hE1_rows : rows3 a.hE1 = a.inp.e1 := (rstep_rows _ _ _ Inputs.h4096 (by decide) _ _ _).trans (by rw [hE0_rows, hQ1_mat, hS1_rows]; rfl)
theorem hF1_rows : rows3 a.hF1 = a.inp.f1 := (rstep_rows _ _ _ Inputs.h4096 (by decide) _ _ _).trans (by rw [hE0_rows, hQ1_mat, hV1_rows]; rfl)
theorem hQ2_mat : mat3 a.hQ2 = a.inp.q2 := (rsc_mat _ _ _ _).trans (by rw [hE1_rows]; rfl)
theorem hE2_rows : rows3 a.hE2 = a.inp.e2 := (rstep_rows _ _ _ Inputs.h1024 (by decide) _ _ _).trans (by rw [hE1_rows, hQ2_mat]; rfl)
theorem hF2_rows : rows3 a.hF2 = a.inp.f2 := (rstep_rows _ _ _ Inputs.h1024 (by decide) _ _ _).trans (by rw [hF1_rows, hQ2_mat]; rfl)
theorem hF3_rows : rows3 a.hF3 = a.inp.f3 := (rln_rows _ _ _ _).trans (by rw [hF2_rows]; rfl)
theorem hQ3_mat : mat3 a.hQ3 = a.inp.q3 := (rsc_mat _ _ _ _).trans (by rw [hC0_rows, hE2_rows]; rfl)
theorem hC1_rows : rows3 a.hC1 = a.inp.c1 := (rstep_rows _ _ _ Inputs.h1024 (by decide) _ _ _).trans (by rw [hC0_rows, hQ3_mat, hE2_rows]; rfl)
theorem hG1_rows : rows3 a.hG1 = a.inp.g1 := (rstep_rows _ _ _ Inputs.h1024 (by decide) _ _ _).trans (by rw [hC0_rows, hQ3_mat, hF3_rows]; rfl)
theorem hQ4_mat : mat3 a.hQ4 = a.inp.q4 := (rsc_mat _ _ _ _).trans (by rw [hC1_rows]; rfl)
theorem hC2_rows : rows3 a.hC2 = a.inp.c2 := (rstep_rows _ _ _ Inputs.h256 (by decide) _ _ _).trans (by rw [hC1_rows, hQ4_mat]; rfl)
theorem hG2_rows : rows3 a.hG2 = a.inp.g2 := (rstep_rows _ _ _ Inputs.h256 (by decide) _ _ _).trans (by rw [hG1_rows, hQ4_mat]; rfl)
theorem hG3_rows : rows3 a.hG3 = a.inp.g3 := (rln_rows _ _ _ _).trans (by rw [hG2_rows]; rfl)
theorem hQ5_mat : mat3 a.hQ5 = a.inp.q5 := (rsc_mat _ _ _ _).trans (by rw [hS1_rows, hC2_rows]; rfl)
theorem hS2_rows : rows3 a.hS2 = a.inp.s2 := (rstep_rows _ _ _ Inputs.h256 (by decide) _ _ _).trans (by rw [hS1_rows, hQ5_mat, hC2_rows]; rfl)
theorem hV2_rows : rows3 a.hV2 = a.inp.v2 := (rstep_rows _ _ _ Inputs.h256 (by decide) _ _ _).trans (by rw [hV1_rows, hQ5_mat, hG3_rows]; rfl)

/-- The result at an index: the state's map in front, the value's behind. -/
theorem hOut_apply (o : Fin 2) (i : Fin 4096) (d : Fin 768) :
    a.hOut (ix4 o (0 : Fin 1) i d) = if o = 0 then a.inp.outS i d else a.inp.outV i d := by
  have hs : Host.tanh (F := Ideal) (φ := .f32) a.hS2 (ix3 (0 : Fin 1) i d) = a.inp.outS i d :=
    congrArg Ideal.tanh (congrFun (congrFun a.hS2_rows i) d)
  have hv : rln nev4096 a.hV2 a.lnsw a.lnsb (ix3 (0 : Fin 1) i d) = a.inp.outV i d :=
    (congrFun (congrFun (rln_rows nev4096 a.hV2 a.lnsw a.lnsb) i) d).trans (by rw [hV2_rows]; rfl)
  rw [← hs, ← hv]
  unfold hOut
  match o with
  | ⟨0, _⟩ => pointwise
  | ⟨1, _⟩ => pointwise

end Args

end Cert.HostStage

end
-- ==== Proof.PreDecode.lean ====
/-
  What the precondition says of the arguments: every float of the nine arrays it reads is real, and in every row of the
  five score matrices the first five of the sorted scores fall strictly.
-/
module

public import proofs.«01_k».proof.Proof.HostRef
public import proofs.«01_k».proof.Pre_finite_and_distinct
public import Idealize.ShloMosaic.Lib.ReduceAll

@[expose] public section

set_option maxRecDepth 16384

noncomputable section

namespace Cert.HostStage

open Idealize.ShloMosaic Cert.Spec

/-- The side conditions of the precondition's operations. -/
theorem preFacts : Cert.Pre_finite_and_distinct.Facts := by
  constructor <;> decide

/-! ## The two questions it asks -/

/-- Is every entry of `x` smaller in size than +∞? -/
def finQ {s : Shape} {axes : List (Fin s.rank)} (hb : T0.BroadcastsInDim s ![]) (hr : s.ReducesTo axes T0) (hz : 0 < T0.numel)
    (x : A s) : IVec T0 1 :=
  Host.reduce IntOp.andi (cmpf (F := Ideal) (φ := .f32) .olt (Host.absf (F := Ideal) (φ := .f32) x)
    (broadcastInDim s ![] hb (constant (F := Ideal) T0 .f32 0x7F800000#32))) (constantI T0 1 1#1) hr hz

/-- Do the first five of every row's sorted scores fall strictly? -/
def disQ {n m : Nat} (hs : (T3 1 n m).Slices (fun _ => 0) (T3 1 n 5)) (h0 : (T3 1 n 5).Slices ![0, 0, 0] (T3 1 n 4))
    (h1 : (T3 1 n 5).Slices ![0, 0, 1] (T3 1 n 4)) (hr : (T3 1 n 4).ReducesTo [0, 1, 2] T0) (hz : 0 < T0.numel)
    (x : A (T3 1 n m)) : IVec T0 1 :=
  Host.reduce IntOp.andi (cmpf (F := Ideal) (φ := .f32) .ogt
    (extractStridedSlice (T3 1 n 4) ![0, 0, 0] (Host.topK (T3 1 n 5) 2 (FloatOps.cmpfTotal (F := Ideal) .gt) x hs).1 h0)
    (extractStridedSlice (T3 1 n 4) ![0, 0, 1] (Host.topK (T3 1 n 5) 2 (FloatOps.cmpfTotal (F := Ideal) .gt) x hs).1 h1))
    (constantI T0 1 1#1) hr hz

theorem ofBits_pos_inf : Ideal.ofBits .f32 0x7F800000#32 = ⊤ := by simp [Ideal.ofBits, Ideal.ieee]

instance : Subsingleton T0.Idx := ⟨fun a b => funext fun i => i.elim0⟩

/-- A decided proposition whose bit is one holds. -/
theorem bit_true {p : Prop} [Decidable p] (h : BitVec.ofBool (decide p) = 1#1) : p := by
  by_contra hp
  rw [decide_eq_false hp] at h
  exact absurd h (by decide)

/-- An array asked to be finite and found so is real at every index. -/
theorem finQ_real {s : Shape} {axes : List (Fin s.rank)} (hb : T0.BroadcastsInDim s ![]) (hr : s.ReducesTo axes T0) (hz : 0 < T0.numel)
    (x : A s) (j : T0.Idx) (e : finQ hb hr hz x j = 1#1) (i : s.Idx) : IsReal (x i) := by
  have h := Host.reduce_andi_all _ _ hr hz j e i
  have h' : Ideal.cmp .olt (max (x i) (-(x i))) (Ideal.ofBits .f32 0x7F800000#32) = 1#1 := h
  rw [ofBits_pos_inf] at h'
  exact isReal_of_abs_lt (bit_true h')

/-- Scores asked to fall strictly and found so do. -/
theorem disQ_distinct {n m : Nat} (hm : 5 ≤ m) (hs : (T3 1 n m).Slices (fun _ => 0) (T3 1 n 5)) (h0 : (T3 1 n 5).Slices ![0, 0, 0] (T3 1 n 4))
    (h1 : (T3 1 n 5).Slices ![0, 0, 1] (T3 1 n 4)) (hr : (T3 1 n 4).ReducesTo [0, 1, 2] T0) (hz : 0 < T0.numel)
    (x : A (T3 1 n m)) (j : T0.Idx) (e : disQ hs h0 h1 hr hz x j = 1#1) : Distinct hm (mat3 x) := by
  intro i k
  have h := Host.reduce_andi_all _ _ hr hz j e (ix3 (0 : Fin 1) i k)
  have e0 : extractStridedSlice (T3 1 n 4) ![0, 0, 0] (Host.topK (T3 1 n 5) 2 (FloatOps.cmpfTotal (F := Ideal) .gt) x hs).1 h0 (ix3 (0 : Fin 1) i k)
      = mat3 x i (top (mat3 x i) ((Fin.castSucc k).castLE hm)) :=
    (extractStridedSlice_apply (s := T3 1 n 5) (t := T3 1 n 4) ![0, 0, 0] _ h0 (ix3 (0 : Fin 1) i k) (ix3 (0 : Fin 1) i (Fin.castSucc k)) (fun a => match a with
      | ⟨0, _⟩ => rfl
      | ⟨1, _⟩ => (Nat.zero_add _).symm
      | ⟨2, _⟩ => (Nat.zero_add _).symm)).trans (topK_values hs hm x i (Fin.castSucc k))
  have e1 : extractStridedSlice (T3 1 n 4) ![0, 0, 1] (Host.topK (T3 1 n 5) 2 (FloatOps.cmpfTotal (F := Ideal) .gt) x hs).1 h1 (ix3 (0 : Fin 1) i k)
      = mat3 x i (top (mat3 x i) (k.succ.castLE hm)) :=
    (extractStridedSlice_apply (s := T3 1 n 5) (t := T3 1 n 4) ![0, 0, 1] _ h1 (ix3 (0 : Fin 1) i k) (ix3 (0 : Fin 1) i k.succ) (fun a => match a with
      | ⟨0, _⟩ => rfl
      | ⟨1, _⟩ => (Nat.zero_add _).symm
      | ⟨2, _⟩ => (Nat.add_comm _ _))).trans (topK_values hs hm x i k.succ)
  have h' : Ideal.cmp .ogt (mat3 x i (top (mat3 x i) ((Fin.castSucc k).castLE hm))) (mat3 x i (top (mat3 x i) (k.succ.castLE hm))) = 1#1 := by
    rw [← e0, ← e1]; exact h
  exact bit_true h'

/-- Both of two answers. -/
theorem both {x y : IVec T0 1} {j : T0.Idx} (h : andi x y j = 1#1) : x j = 1#1 ∧ y j = 1#1 := by
  have h' : x j &&& y j = 1#1 := h
  rcases BitVec.eq_zero_or_eq_one (x j) with hx | hx <;> rcases BitVec.eq_zero_or_eq_one (y j) with hy | hy <;> simp_all

/-! ## The precondition -/

namespace Args
variable (a : Args)

/-- The nine arrays' finiteness, as one answer. -/
def finAll : IVec T0 1 :=
  andi (andi (andi (andi (andi (andi (andi (andi
    (finQ (axes := [0, 1, 2]) (by decide) (by decide) (by decide) a.s) (finQ (axes := [0]) (by decide) (by decide) (by decide) a.wps))
    (finQ (axes := [0]) (by decide) (by decide) (by decide) a.wpe)) (finQ (axes := [0]) (by decide) (by decide) (by decide) a.wpc))
    (finQ (axes := [0]) (by decide) (by decide) (by decide) a.ws2b)) (finQ (axes := [0]) (by decide) (by decide) (by decide) a.we2c))
    (finQ (axes := [0]) (by decide) (by decide) (by decide) a.wb2s)) (finQ (axes := [0, 1]) (by decide) (by decide) (by decide) a.e))
    (finQ (axes := [0, 1]) (by decide) (by decide) (by decide) a.c)

/-- The five score matrices' question. -/
def dis1 : IVec T0 1 := disQ (by decide) (by decide) (by decide) (by decide) (by decide) a.hQ1
def dis2 : IVec T0 1 := disQ (by decide) (by decide) (by decide) (by decide) (by decide) a.hQ2
def dis3 : IVec T0 1 := disQ (by decide) (by decide) (by decide) (by decide) (by decide) a.hQ3
def dis4 : IVec T0 1 := disQ (by decide) (by decide) (by decide) (by decide) (by decide) a.hQ4
def dis5 : IVec T0 1 := disQ (by decide) (by decide) (by decide) (by decide) (by decide) a.hQ5

/-- The precondition is the finiteness of the arrays and the five matrices' question. -/
theorem pre_eq [Cert.Pre_finite_and_distinct.Facts] :
    Cert.Pre_finite_and_distinct.fn (F := Ideal) a.s a.v a.wps a.wpe a.wpc a.ws2b a.we2c a.wb2s a.e a.c a.lnsw a.lnsb a.lnew a.lneb a.lncw a.lncb
      = andi (andi (andi a.finAll (andi (andi a.dis1 a.dis2) a.dis3)) a.dis4) a.dis5 := rfl

/-- Where the precondition holds the inputs are real and their scores distinct. -/
theorem good [Cert.Pre_finite_and_distinct.Facts]
    (h : Cert.Pre_finite_and_distinct.fn (F := Ideal) a.s a.v a.wps a.wpe a.wpc a.ws2b a.we2c a.wb2s a.e a.c a.lnsw a.lnsb a.lnew a.lneb a.lncw a.lncb
      = fun _ => 1#1) : a.inp.Good := by
  have j : T0.Idx := fun i => i.elim0
  have h := (congrFun (a.pre_eq.symm.trans h) j)
  obtain ⟨h, h5⟩ := both h
  obtain ⟨h, h4⟩ := both h
  obtain ⟨h, h123⟩ := both h
  obtain ⟨h12, h3⟩ := both h123
  obtain ⟨h1, h2⟩ := both h12
  obtain ⟨h, fc⟩ := both h
  obtain ⟨h, fe⟩ := both h
  obtain ⟨h, fwb2s⟩ := both h
  obtain ⟨h, fwe2c⟩ := both h
  obtain ⟨h, fws2b⟩ := both h
  obtain ⟨h, fwpc⟩ := both h
  obtain ⟨h, fwpe⟩ := both h
  obtain ⟨fs, fwps⟩ := both h
  exact {
    hs0 := fun i d => finQ_real _ _ _ a.s j fs (ix3 (0 : Fin 1) i d)
    he0 := fun i d => finQ_real _ _ _ a.e j fe (ix2 i d)
    hc0 := fun i d => finQ_real _ _ _ a.c j fc (ix2 i d)
    hwps := fun d => finQ_real _ _ _ a.wps j fwps (ix1 d)
    hwpe := fun d => finQ_real _ _ _ a.wpe j fwpe (ix1 d)
    hwpc := fun d => finQ_real _ _ _ a.wpc j fwpc (ix1 d)
    hws2b := fun d => finQ_real _ _ _ a.ws2b j fws2b (ix1 d)
    hwe2c := fun d => finQ_real _ _ _ a.we2c j fwe2c (ix1 d)
    hwb2s := fun d => finQ_real _ _ _ a.wb2s j fwb2s (ix1 d)
    d1 := a.hQ1_mat ▸ disQ_distinct Inputs.h4096 _ _ _ _ _ a.hQ1 j h1
    d2 := a.hQ2_mat ▸ disQ_distinct Inputs.h1024 _ _ _ _ _ a.hQ2 j h2
    d3 := a.hQ3_mat ▸ disQ_distinct Inputs.h1024 _ _ _ _ _ a.hQ3 j h3
    d4 := a.hQ4_mat ▸ disQ_distinct Inputs.h256 _ _ _ _ _ a.hQ4 j h4
    d5 := a.hQ5_mat ▸ disQ_distinct Inputs.h256 _ _ _ _ _ a.hQ5 j h5 }

end Args
end Cert.HostStage

end
-- ==== Proof.RefValue.lean ====
/-
  The reference's run ends with the composition of its steps in its result.
-/
module

public import proofs.«01_k».proof.Proof.HostRef
public import proofs.«01_k».proof.Proof.Gen.ReferenceIdeal.Run

@[expose] public section

set_option maxRecDepth 16384

noncomputable section

namespace Cert.HostStage

open Idealize.ShloMosaic Idealize.ShloMosaic.StableHlo Cert.ReferenceIdeal Cert.ReferenceIdeal.Value

/-- The arguments a valuation of the reference's buffers holds. -/
def refArgs (V : Valuation τ sig (Elt Ideal)) : Args where
  s := V (Proc.devRef .tc main_arg0)
  v := V (Proc.devRef .tc main_arg1)
  wps := V (Proc.devRef .tc main_arg2)
  wpe := V (Proc.devRef .tc main_arg3)
  wpc := V (Proc.devRef .tc main_arg4)
  ws2b := V (Proc.devRef .tc main_arg5)
  we2c := V (Proc.devRef .tc main_arg6)
  wb2s := V (Proc.devRef .tc main_arg7)
  e := V (Proc.devRef .tc main_arg8)
  c := V (Proc.devRef .tc main_arg9)
  lnsw := V (Proc.devRef .tc main_arg10)
  lnsb := V (Proc.devRef .tc main_arg11)
  lnew := V (Proc.devRef .tc main_arg12)
  lneb := V (Proc.devRef .tc main_arg13)
  lncw := V (Proc.devRef .tc main_arg14)
  lncb := V (Proc.devRef .tc main_arg15)

variable (V : Valuation τ sig (Elt Ideal))

theorem ref_E0 : res_main_v0 V = (refArgs V).hE0 := rfl
theorem ref_C0 : res_main_v1 V = (refArgs V).hC0 := rfl
theorem ref_Win : res_main_v47 V = (refArgs V).hWin := rfl
theorem ref_S1 : res_main_v52 V = (refArgs V).hS1 := rfl
theorem ref_V1 : res_main_v55 V = (refArgs V).hV1 := rfl
theorem ref_Q1 : res_main_v59 V = (refArgs V).hQ1 := rfl
theorem ref_E1 : res_main_v95 V = (refArgs V).hE1 := rfl
theorem ref_F1 : res_main_v98 V = (refArgs V).hF1 := rfl
theorem ref_Q2 : res_main_v102 V = (refArgs V).hQ2 := rfl
theorem ref_E2 : res_main_v138 V = (refArgs V).hE2 := rfl
theorem ref_F2 : res_main_v141 V = (refArgs V).hF2 := rfl
theorem ref_Q3 : res_main_v169 V = (refArgs V).hQ3 := rfl
theorem ref_C1 : res_main_v205 V = (refArgs V).hC1 := rfl
theorem ref_G1 : res_main_v208 V = (refArgs V).hG1 := rfl
theorem ref_Q4 : res_main_v212 V = (refArgs V).hQ4 := rfl
theorem ref_C2 : res_main_v248 V = (refArgs V).hC2 := rfl
theorem ref_G2 : res_main_v251 V = (refArgs V).hG2 := rfl
theorem ref_Q5 : res_main_v279 V = (refArgs V).hQ5 := rfl
theorem ref_V2 : res_main_v318 V = (refArgs V).hV2 := rfl

end Cert.HostStage

end
-- ==== Proof.KStage.lean ====
/-
  The kernel's vector steps as functions of their sizes, and what each reads at an index: a route by four masked rounds of
  row maxima, the normalisation of rows.
-/
module

public import proofs.«01_k».proof.Proof.HostStage
public import Idealize.ShloMosaic.Lib.Routing.Ops

@[expose] public section

set_option maxRecDepth 16384

noncomputable section

namespace Cert.KStage

open Idealize.ShloMosaic Cert.Spec Cert.HostStage

variable {n m : Nat}

/-- An array's rows. -/
def rows (x : A (T2 n 768)) : Rows n := fun i d => x (ix2 i d)
def mat (x : A (T2 n m)) : Fin n → Fin m → EReal := fun i j => x (ix2 i j)
/-- A one-row array's entries. -/
def row (w : A (T2 1 768)) : Feat := fun d => w (ix2 (0 : Fin 1) d)

/-- What the operations of a route from `m` sources to `n` rows ask of their sizes. -/
structure KEv (n m : Nat) : Prop where
  dwf : DotDims.WF (T2 n 768) (T2 m 768) (T2 n m) [1] [1] [0] [0] [] []
  swf : DotDims.WF (T2 n m) (T2 m 768) (T2 n 768) [1] [0] [0] [1] [] []
  bw : (T2 1 768).Broadcasts (T2 n 768)
  hr : (T2 n m).Reduces [1] (T1 n)
  hc : (T1 n).ShapeCasts (T2 n 1)
  hb : (T2 n 1).Broadcasts (T2 n m)
  hb' : (T2 n 1).Broadcasts (T2 n 768)

/-- The dimension numbers of the scores. -/
def kDots (E : KEv n m) : DotDims (T2 n 768) (T2 m 768) (T2 n m) where
  lhsContracting := [1]
  rhsContracting := [1]
  lhsNonContracting := [0]
  rhsNonContracting := [0]
  lhsBatch := []
  rhsBatch := []
  wf := E.dwf

/-- The dimension numbers of the weights against the sources. -/
def kSums (E : KEv n m) : DotDims (T2 n m) (T2 m 768) (T2 n 768) where
  lhsContracting := [1]
  rhsContracting := [0]
  lhsNonContracting := [0]
  rhsNonContracting := [1]
  lhsBatch := []
  rhsBatch := []
  wf := E.swf

theorem lt16 : FTy.bits .bf16 < FTy.bits .f32 := by decide

/-- Over the reals a narrower format is no change. -/
theorem trunc_eq {s : Shape} (x : A s) : (truncf (F := Ideal) .bf16 x lt16 : s.Idx → EReal) = x := rfl

/-- An index is its two coordinates. -/
theorem exists_ix2 {k l : Nat} (x : (T2 k l).Idx) : ∃ i d, x = ix2 i d := ⟨x 0, x 1, Shape.idx_ext₂ rfl rfl⟩

/-- The scores. -/
def kSc (E : KEv n m) (q : A (T2 n 768)) (w : A (T2 1 768)) (s : FVec Ideal (T2 m 768) .bf16) : A (T2 n m) :=
  matmul (kDots E) none (truncf .bf16 (mulf q (broadcastTo (T2 n 768) w E.bw)) lt16) s (constant (T2 n m) .f32 0x00000000#32)

/-- The rows' maxima, one column. -/
def kCol (E : KEv n m) (x : A (T2 n m)) : A (T2 n 1) :=
  shapeCast (T2 n 1) (multiReduction .maximumf [1] (T1 n) x 0xFF800000#32 E.hr (.inl rfl) rfl) E.hc

/-- The entries equal to the column replaced by the mask. -/
def kMask (E : KEv n m) (mk : Ideal .f32) (x : A (T2 n m)) (c : A (T2 n 1)) : A (T2 n m) :=
  select (cmpf .oeq x (broadcastTo (T2 n m) c E.hb)) (broadcast (T2 n m) mk) x

/-- Which entries are not below the fourth round's maximum. -/
def kKeep (E : KEv n m) (mk : Ideal .f32) (x : A (T2 n m)) : IVec (T2 n m) 1 :=
  cmpf .oge x (broadcastTo (T2 n m) (kCol E (kMask E mk (kMask E mk (kMask E mk x (kCol E x))
    (kCol E (kMask E mk x (kCol E x)))) (kCol E (kMask E mk (kMask E mk x (kCol E x)) (kCol E (kMask E mk x (kCol E x))))))) E.hb)

/-- The exponentials of the distances from the rows' maxima. -/
def kExp (E : KEv n m) (x : A (T2 n m)) : A (T2 n m) := exp (subf x (broadcastTo (T2 n m) (kCol E x) E.hb))

/-- The exponentials of the kept entries, zero elsewhere. -/
def kP (k : IVec (T2 n m) 1) (e : A (T2 n m)) : A (T2 n m) :=
  select k e (broadcast (T2 n m) (Scalar.ofBits (F := Ideal) .f32 0x00000000#32))

/-- One over the rows' sums. -/
def kInv (E : KEv n m) (p : A (T2 n m)) : A (T2 n 1) :=
  divf (broadcast (T2 n 1) (Scalar.ofBits (F := Ideal) .f32 0x3F800000#32))
    (shapeCast (T2 n 1) (multiReduction .add [1] (T1 n) p 0x00000000#32 E.hr (.inl rfl) rfl) E.hc)

/-- The weights against the sources, scaled. -/
def kSum {φ : FTy} (E : KEv n m) (pr : Option ContractPrecision) (p : FVec Ideal (T2 n m) φ) (inv : A (T2 n 1)) (v : FVec Ideal (T2 m 768) φ) : A (T2 n 768) :=
  mulf (matmul (kSums E) pr p v (constant (T2 n 768) .f32 0x00000000#32)) (broadcastTo (T2 n 768) inv E.hb')

/-- A base and a constant times a change. -/
def kStep (c : BitVec 32) (b y : A (T2 n 768)) : A (T2 n 768) := addf b (mulf (broadcast (T2 n 768) (Scalar.ofBits (F := Ideal) .f32 c)) y)

/-! ## At an index -/

theorem spread (hb : (T2 n 1).Broadcasts (T2 n m)) (y : A (T2 n 1)) (i : Fin n) (j : Fin m) :
    broadcastTo (T2 n m) y hb (ix2 i j) = y (ix2 i (0 : Fin 1)) := by
  unfold broadcastTo
  refine congrArg y (funext fun a => Fin.ext ?_)
  match a with
  | ⟨0, _⟩ =>
    have := i.isLt
    by_cases h1 : n = 1
    · refine (congrArg Fin.val (dif_pos h1)).trans ?_
      change 0 = i.val
      omega
    · exact congrArg Fin.val (dif_neg h1)
  | ⟨1, _⟩ => rfl

theorem spreadRow (hb : (T2 1 768).Broadcasts (T2 n 768)) (y : A (T2 1 768)) (i : Fin n) (d : Fin 768) :
    broadcastTo (T2 n 768) y hb (ix2 i d) = y (ix2 (0 : Fin 1) d) := by
  unfold broadcastTo
  refine congrArg y (funext fun a => Fin.ext ?_)
  match a with
  | ⟨0, _⟩ => rfl
  | ⟨1, _⟩ => rfl

theorem kSc_mat (E : KEv n m) (q : A (T2 n 768)) (w : A (T2 1 768)) (s : A (T2 m 768)) :
    mat (kSc E q w s) = sc (rows q) (row w) (rows s) := by
  funext i j
  have e : ∀ y : A (T2 n 768), matmul (F := Ideal) (φ₁ := .bf16) (φ₂ := .bf16) (kDots E) none y s (constant (T2 n m) .f32 0x00000000#32) (ix2 i j)
      = ∑ d, y (ix2 i d) * s (ix2 j d) := fun y => by unfold kDots; pointwise
  unfold mat kSc
  refine (e _).trans (Finset.sum_congr rfl fun d _ => ?_)
  exact congrArg (fun z => q (ix2 i d) * z * s (ix2 j d)) (spreadRow E.bw w i d)

theorem castCol (h : (T1 n).ShapeCasts (T2 n 1)) (y : A (T1 n)) (i : Fin n) :
    shapeCast (T2 n 1) y h (ix2 i (0 : Fin 1)) = y (ix1 i) :=
  Idealize.ShloMosaic.Routing.cast12 y h i 0 i (Nat.mul_one _).symm

theorem kCol_apply (E : KEv n m) (x : A (T2 n m)) (i : Fin n) : kCol E x (ix2 i (0 : Fin 1)) = rmax (mat x i) := by
  unfold kCol
  refine (castCol E.hc _ i).trans ((Ideal.multiReduction_maximumf_single x 0xFF800000#32 E.hr (.inl rfl) rfl (ix1 i)).trans ?_)
  have hl : ∀ j : Fin m, E.hr.lift (ix1 i) j = ix2 i j := fun j => by
    funext a
    match a with
    | ⟨0, _⟩ => rfl
    | ⟨1, _⟩ => rfl
  exact congrArg₂ (fun b f => (Finset.univ : Finset (Fin m)).fold max b f) ofBits_neg_inf (funext fun j => congrArg x (hl j))

theorem rowSum (hr : (T2 n m).Reduces [1] (T1 n)) (hc : (T1 n).ShapeCasts (T2 n 1)) (x : A (T2 n m)) (i : Fin n) :
    shapeCast (T2 n 1) (multiReduction .add [1] (T1 n) x 0x00000000#32 hr (.inl rfl) rfl) hc (ix2 i (0 : Fin 1)) = ∑ j, x (ix2 i j) := by
  refine (castCol hc _ i).trans ((Ideal.multiReduction_add_single x 0x00000000#32 hr (.inl rfl) rfl (ix1 i)).trans ?_)
  exact Finset.sum_congr rfl fun j _ => congrArg x (by
    funext a
    match a with
    | ⟨0, _⟩ => rfl
    | ⟨1, _⟩ => rfl)

theorem cmp_oeq (a b : EReal) : FloatOps.cmpf (F := Ideal) (φ := .f32) .oeq a b = if a = b then 1#1 else 0#1 := by
  rw [Ideal.cmpf_def]
  unfold Ideal.cmp
  by_cases h : a = b <;> simp [h]

theorem cmp_oge (a b : EReal) : FloatOps.cmpf (F := Ideal) (φ := .f32) .oge a b = if b ≤ a then 1#1 else 0#1 := by
  rw [Ideal.cmpf_def]
  unfold Ideal.cmp
  by_cases h : b ≤ a <;> simp [h]

theorem select_if {α : Type} (p : Prop) [Decidable p] (x y : α) : Scalar.select (if p then 1#1 else 0#1) x y = if p then x else y := by
  by_cases h : p <;> simp [h, Scalar.select]

theorem kMask_mat (E : KEv n m) (mk : Ideal .f32) (hmk : mk = (⊥ : EReal)) (x : A (T2 n m)) (i : Fin n) :
    mat (kMask E mk x (kCol E x)) i = mask (mat x i) := by
  funext j
  have e : kMask E mk x (kCol E x) (ix2 i j)
      = Scalar.select (FloatOps.cmpf (F := Ideal) (φ := .f32) .oeq (x (ix2 i j)) (broadcastTo (T2 n m) (kCol E x) E.hb (ix2 i j))) mk (x (ix2 i j)) := rfl
  unfold mat
  rw [e, spread, kCol_apply, cmp_oeq, select_if, hmk]
  rfl

theorem kKeep_apply (E : KEv n m) (mk : Ideal .f32) (hmk : mk = (⊥ : EReal)) (x : A (T2 n m)) (i : Fin n) (j : Fin m) :
    kKeep E mk x (ix2 i j) = if rmax (mask (mask (mask (mat x i)))) ≤ mat x i j then 1#1 else 0#1 := by
  unfold kKeep
  generalize hx1 : kMask E mk x (kCol E x) = x1
  have h1 : mat x1 i = mask (mat x i) := by rw [← hx1]; exact kMask_mat E mk hmk x i
  generalize hx2 : kMask E mk x1 (kCol E x1) = x2
  have h2 : mat x2 i = mask (mask (mat x i)) := by rw [← hx2, ← h1]; exact kMask_mat E mk hmk x1 i
  generalize hx3 : kMask E mk x2 (kCol E x2) = x3
  have h3 : mat x3 i = mask (mask (mask (mat x i))) := by rw [← hx3, ← h2]; exact kMask_mat E mk hmk x2 i
  have e : cmpf .oge x (broadcastTo (T2 n m) (kCol E x3) E.hb) (ix2 i j)
      = FloatOps.cmpf (F := Ideal) (φ := .f32) .oge (x (ix2 i j)) (broadcastTo (T2 n m) (kCol E x3) E.hb (ix2 i j)) := rfl
  rw [e, spread, kCol_apply, h3, cmp_oge]
  rfl

theorem kExp_apply (E : KEv n m) (x : A (T2 n m)) (i : Fin n) (j : Fin m) :
    kExp E x (ix2 i j) = Ideal.exp (mat x i j - rmax (mat x i)) :=
  congrArg (fun z => Ideal.exp (x (ix2 i j) - z)) ((spread E.hb _ i j).trans (kCol_apply E x i))

/-- A route's weights. -/
def kW (E : KEv n m) (mk : Ideal .f32) (x : A (T2 n m)) : A (T2 n m) := kP (kKeep E mk x) (kExp E x)

theorem zero_bits : Ideal.ofBits .f32 0x00000000#32 = 0 := by simp [Ideal.ofBits, Ideal.ieee]
theorem one_bits : Ideal.ofBits .f32 0x3F800000#32 = 1 := by
  rw [show (1 : EReal) = ((1 : ℝ) : EReal) by norm_cast]
  simp [Ideal.ofBits, Ideal.ieee, -EReal.coe_mul]
  norm_num

theorem kW_apply (E : KEv n m) (mk : Ideal .f32) (hmk : mk = (⊥ : EReal)) (x : A (T2 n m)) (i : Fin n) (j : Fin m) :
    kW E mk x (ix2 i j) = kp (mat x i) j := by
  have e : kW E mk x (ix2 i j) = Scalar.select (kKeep E mk x (ix2 i j)) (kExp E x (ix2 i j)) (Ideal.ofBits .f32 0x00000000#32) := rfl
  rw [e, kKeep_apply E mk hmk, kExp_apply, select_if, zero_bits]
  rfl

theorem kInv_apply (E : KEv n m) (p : A (T2 n m)) (i : Fin n) : kInv E p (ix2 i (0 : Fin 1)) = Ideal.div 1 (∑ j, p (ix2 i j)) :=
  congrArg₂ Ideal.div one_bits (rowSum E.hr E.hc p i)

theorem kSum_apply {φ : FTy} (E : KEv n m) (pr : Option ContractPrecision) (p : FVec Ideal (T2 n m) φ) (inv : A (T2 n 1)) (v : FVec Ideal (T2 m 768) φ)
    (i : Fin n) (d : Fin 768) :
    kSum E pr p inv v (ix2 i d) = ((∑ j, (p (ix2 i j) : EReal) * (v (ix2 j d) : EReal) : EReal) * inv (ix2 i (0 : Fin 1)) : EReal) := by
  have e : matmul (kSums E) pr p v (constant (T2 n 768) .f32 0x00000000#32) (ix2 i d) = (∑ j, (p (ix2 i j) : EReal) * (v (ix2 j d) : EReal) : EReal) := by
    refine (Ideal.matmul_apply₁_of (kSums E) rfl (K := m) rfl p v _ (ix2 i d) (fun j => ix2 i j) (fun j => ix2 j d) (fun j => ?_) (fun j => ?_)).trans ?_
    · funext a
      match a with
      | ⟨0, _⟩ => rfl
      | ⟨1, _⟩ => rfl
    · funext a
      match a with
      | ⟨0, _⟩ => rfl
      | ⟨1, _⟩ => rfl
    · exact (congrArg (fun z : EReal => z + ∑ j, (p (ix2 i j) : EReal) * (v (ix2 j d) : EReal)) zero_bits).trans (zero_add _)
  exact congrArg₂ (fun u v : EReal => u * v) e (spread E.hb' inv i d)

/-- A route's step on rows. -/
theorem kRoute_rows {φ : FTy} (E : KEv n m) (pr : Option ContractPrecision) (mk : Ideal .f32) (hmk : mk = (⊥ : EReal)) (c : BitVec 32)
    (b : A (T2 n 768)) (x : A (T2 n m)) (p : FVec Ideal (T2 n m) φ) (hp : p = (kW E mk x : (T2 n m).Idx → EReal)) (v : FVec Ideal (T2 m 768) φ) :
    rows (kStep c b (kSum E pr p (kInv E (kW E mk x)) v)) = chg c (rows b) (kroute (mat x) fun j d => v (ix2 j d)) := by
  funext i d
  refine congrArg (fun z : EReal => b (ix2 i d) + Ideal.ofBits .f32 c * z) ((kSum_apply E pr p _ v i d).trans ?_)
  subst hp
  rw [kInv_apply]
  simp only [kW_apply E mk hmk]
  rfl

/-- A route of sources in the scores' format. -/
def kRt (E : KEv n m) (mk : Ideal .f32) (c : BitVec 32) (b : A (T2 n 768)) (x : A (T2 n m)) (v : A (T2 m 768)) : A (T2 n 768) :=
  kStep c b (kSum E (some .fp32) (kW E mk x) (kInv E (kW E mk x)) v)

/-- A route of sources in the narrower format. -/
def kRtB (E : KEv n m) (mk : Ideal .f32) (c : BitVec 32) (b : A (T2 n 768)) (x : A (T2 n m)) (v : FVec Ideal (T2 m 768) .bf16) : A (T2 n 768) :=
  kStep c b (kSum E none (truncf .bf16 (kW E mk x) lt16) (kInv E (kW E mk x)) v)

theorem kRt_rows (E : KEv n m) {mk : Ideal .f32} (hmk : mk = (⊥ : EReal)) (c : BitVec 32) (b : A (T2 n 768)) (x : A (T2 n m)) (v : A (T2 m 768)) :
    rows (kRt E mk c b x v) = chg c (rows b) (kroute (mat x) (rows v)) := kRoute_rows E _ mk hmk c b x _ rfl v

theorem kRtB_rows (E : KEv n m) {mk : Ideal .f32} (hmk : mk = (⊥ : EReal)) (c : BitVec 32) (b : A (T2 n 768)) (x : A (T2 n m))
    (v : FVec Ideal (T2 m 768) .bf16) : rows (kRtB E mk c b x v) = chg c (rows b) (kroute (mat x) (rows (n := m) v)) :=
  kRoute_rows E _ mk hmk c b x _ (trunc_eq _) v

/-! ## Normalisation -/

/-- What the operations of a normalisation of `n` rows ask of their sizes. -/
structure KLn (n : Nat) : Prop where
  hr : (T2 n 768).Reduces [1] (T1 n)
  hc : (T1 n).ShapeCasts (T2 n 1)
  hb : (T2 n 1).Broadcasts (T2 n 768)
  bw : (T2 1 768).Broadcasts (T2 n 768)

/-- The rows' means, one column. -/
def kMean (E : KLn n) (x : A (T2 n 768)) : A (T2 n 1) :=
  divf (shapeCast (T2 n 1) (multiReduction .add [1] (T1 n) x 0x00000000#32 E.hr (.inl rfl) rfl) E.hc)
    (broadcast (T2 n 1) (Scalar.ofBits (F := Ideal) .f32 0x44400000#32))

/-- The rows less a column. -/
def kCent (E : KLn n) (x : A (T2 n 768)) (mu : A (T2 n 1)) : A (T2 n 768) := subf x (broadcastTo (T2 n 768) mu E.hb)

/-- Layer normalisation of every row. -/
def kNorm (E : KLn n) (x : A (T2 n 768)) (w b : A (T2 1 768)) : A (T2 n 768) :=
  addf (mulf (mulf (kCent E x (kMean E x)) (broadcastTo (T2 n 768) (rsqrt (addf (kMean E (mulf (kCent E x (kMean E x)) (kCent E x (kMean E x))))
    (broadcast (T2 n 1) (Scalar.ofBits (F := Ideal) .f32 0x3727C5AC#32)))) E.hb)) (broadcastTo (T2 n 768) w E.bw)) (broadcastTo (T2 n 768) b E.bw)

theorem kMean_apply (E : KLn n) (x : A (T2 n 768)) (i : Fin n) : kMean E x (ix2 i (0 : Fin 1)) = rmean (rows x i) :=
  congrArg (fun z => Ideal.div z (Ideal.ofBits .f32 0x44400000#32)) (rowSum E.hr E.hc x i)

theorem kCent_apply (E : KLn n) (x : A (T2 n 768)) (i : Fin n) (d : Fin 768) : kCent E x (kMean E x) (ix2 i d) = rows x i d - rmean (rows x i) :=
  congrArg (fun z => x (ix2 i d) - z) ((spread E.hb _ i d).trans (kMean_apply E x i))

theorem kNorm_rows (E : KLn n) (x : A (T2 n 768)) (w b : A (T2 1 768)) : rows (kNorm E x w b) = lnorm (rows x) (row w) (row b) := by
  funext i d
  have hv : kMean E (mulf (kCent E x (kMean E x)) (kCent E x (kMean E x))) (ix2 i (0 : Fin 1))
      = rmean fun d => (rows x i d - rmean (rows x i)) * (rows x i d - rmean (rows x i)) :=
    (kMean_apply E _ i).trans (congrArg rmean (funext fun d => congrArg₂ (fun u v : EReal => u * v) (kCent_apply E x i d) (kCent_apply E x i d)))
  exact congrArg₂ (fun u v : EReal => u + v) (congrArg₂ (fun u v : EReal => u * v)
    (congrArg₂ (fun u v : EReal => u * v) (kCent_apply E x i d) ((spread E.hb _ i d).trans
      (congrArg (fun z => Ideal.rsqrt (z + Ideal.ofBits .f32 0x3727C5AC#32)) hv))) (spreadRow E.bw w i d)) (spreadRow E.bw b i d)

end Cert.KStage

end
-- ==== Proof.KMask.lean ====
/-
  The mask of the kernel's routes, and its starts of whole blocks.
-/
module

public import proofs.«01_k».proof.Proof.KStage
public import proofs.«01_k».proof.Proof.Gen.KernelIdeal.Frame
public import Idealize.ShloMosaic.Lib.Pipeline.Value

@[expose] public section

set_option maxRecDepth 16384

noncomputable section

namespace Cert.KernelIdeal

open Idealize.ShloMosaic Idealize.ShloMosaic.TcCoe Cert.KernelIdeal Cert.KernelIdeal.Gen Cert.KStage Cert.Spec Cert.HostStage
open Idealize.ShloMosaic.Pipeline (Dat)

/-- The mask a route puts in place of an entry already found. -/
abbrev mk : Ideal .f32 := Named.named (F := Ideal) (φ := .f32) κ "mask" 0xF149F2CA#32

/-- The named mask reads as the bottom of the order. -/
theorem mask_bot : mk = (⊥ : EReal) := IdealRules.named_const.ideal_named_scalar _ _ _ _ rfl

theorem hz : (![0, 0] : Fin 2 → Nat) = fun _ => 0 := funext fun a => by fin_cases a <;> rfl

end Cert.KernelIdeal

end
-- ==== Proof.KWin.lean ====
/-
  The window block of the kernel: 512 rows against the 528 rows around them, the scores outside the window masked, is the
  softmax of the nine neighbours.
-/
module

public import proofs.«01_k».proof.Proof.KMask
public import Idealize.ShloMosaic.Lib.WordArith
public import Idealize.ShloMosaic.Lib.WordCmp

@[expose] public section

set_option maxRecDepth 16384

noncomputable section

namespace Cert.KernelIdeal.CallWin

open Idealize.ShloMosaic Idealize.ShloMosaic.TcCoe Cert.KernelIdeal Cert.KernelIdeal.Gen Cert.KStage Cert.Spec Cert.HostStage
open Idealize.ShloMosaic.WordArith Idealize.ShloMosaic.WordCmp

/-! ## The masked row -/

/-- A row's place in the whole sequence. -/
def tileRow (t : Fin 8) (i : Fin 512) : Fin 4096 := ⟨t * 512 + i, by omega⟩

/-- Row `j` of the rows around block `t` is one of the nine neighbours of the block's row `i`, and lies in the sequence. -/
abbrev Near (t : Fin 8) (i : Fin 512) (j : Fin 528) : Prop :=
  (i.val + 4 ≤ j.val ∧ j.val ≤ i.val + 12) ∧ 8 ≤ t.val * 512 + j.val ∧ t.val * 512 + j.val < 4104

/-- Neighbour `k` of row `i` among the 528 rows. -/
def place (i : Fin 512) (k : Fin 9) : Fin 528 := ⟨i + k + 4, by omega⟩

/-- `X` holds the rows of `a` around block `t`, wherever those exist. -/
def Around (t : Fin 8) (a : Rows 4096) (X : Rows 528) : Prop :=
  ∀ (j : Fin 528) (h : 8 ≤ t.val * 512 + j.val ∧ t.val * 512 + j.val < 4104) (d : Fin 768), X j d = a ⟨t.val * 512 + j.val - 8, by omega⟩ d

theorem Around.place {t : Fin 8} {a : Rows 4096} {X : Rows 528} (h : Around t a X) (i : Fin 512) (k : Fin 9)
    (hk : InSeq (tileRow t i) k) (d : Fin 768) : X (place i k) d = a (nb (tileRow t i) k) d := by
  have h1 : 4 ≤ t.val * 512 + i.val + k.val ∧ t.val * 512 + i.val + k.val < 4100 := hk
  refine (h (CallWin.place i k) (by show 8 ≤ t.val * 512 + (i.val + k.val + 4) ∧ t.val * 512 + (i.val + k.val + 4) < 4104; omega) d).trans ?_
  refine congrArg (fun p => a p d) (Fin.ext ?_)
  show t.val * 512 + (i.val + k.val + 4) - 8 = min 4095 (t.val * 512 + i.val + k.val - 4)
  omega

/-- The softmax of the masked row of 528 is the softmax of the nine neighbours. -/
theorem masked_row (t : Fin 8) (i : Fin 512) {w : Feat} {a v : Rows 4096} (hw : ∀ d, IsReal (w d)) (ha : AllReal a)
    {X Y : Rows 528} (hX : Around t a X) (hY : Around t v Y) (d : Fin 768) :
    softsum (fun j => if Near t i j then ∑ d, (a (tileRow t i) d * w d) * X j d else ⊥) (fun j => Y j d) = win (wsc w a) v (tileRow t i) d := by
  have hs : ∀ k, (if Near t i (place i k) then ∑ d, (a (tileRow t i) d * w d) * X (place i k) d else ⊥ : EReal) = wsc w a (tileRow t i) k := fun k => by
    unfold wsc
    by_cases hk : InSeq (tileRow t i) k
    · have h1 : 4 ≤ t.val * 512 + i.val + k.val ∧ t.val * 512 + i.val + k.val < 4100 := hk
      rw [if_pos hk, if_pos (by
        show (i.val + 4 ≤ i.val + k.val + 4 ∧ i.val + k.val + 4 ≤ i.val + 12) ∧ 8 ≤ t.val * 512 + (i.val + k.val + 4) ∧ t.val * 512 + (i.val + k.val + 4) < 4104
        have := k.isLt; omega)]
      exact Finset.sum_congr rfl fun d _ => congrArg (fun z => a (tileRow t i) d * w d * z) (hX.place i k hk d)
    · rw [if_neg hk, if_neg (by
        have h1 : ¬(4 ≤ t.val * 512 + i.val + k.val ∧ t.val * 512 + i.val + k.val < 4100) := hk
        show ¬((i.val + 4 ≤ i.val + k.val + 4 ∧ i.val + k.val + 4 ≤ i.val + 12) ∧ 8 ≤ t.val * 512 + (i.val + k.val + 4) ∧ t.val * 512 + (i.val + k.val + 4) < 4104)
        omega)]
  refine (softsum_inj (place i) (fun k l h => Fin.ext ?_) _ _ (fun j hj => if_neg fun hn => ?_) 4 (hs 4 ▸ wsc_self hw ha _) (fun j => ?_)).trans ?_
  · have : i.val + k.val + 4 = i.val + l.val + 4 := congrArg Fin.val h
    omega
  · have h1 := hn.1
    exact hj ⟨j.val - i.val - 4, by omega⟩ (Fin.ext (by show i.val + (j.val - i.val - 4) + 4 = j.val; omega))
  · by_cases hn : Near t i j
    · rw [if_pos hn]
      exact IsReal.ne_top (.sum _ fun d _ => ((ha _ _).mul (hw d)).mul (hX j hn.2 d ▸ ha _ _))
    · rw [if_neg hn]
      exact bot_ne_top
  · simp only [hs]
    unfold win softsum
    refine Finset.sum_congr rfl fun k _ => ?_
    by_cases hk : InSeq (tileRow t i) k
    · rw [hY.place i k hk d]
    · rw [soft_bot _ 4 (wsc_self hw ha _) (fun k => wsc_ne_top hw ha _ k) k (if_neg hk), zero_mul, zero_mul]

/-! ## The words of the mask -/

theorem near_word (t : Fin 8) (i : Fin 512) (j : Fin 528) :
    IntOp.andi (IntOp.andi (IntOp.cmpi .sle (IntOp.absi (IntOp.subi (BitVec.ofNat 32 i.val) (IntOp.subi (BitVec.ofNat 32 j.val) 8#32))) 4#32)
      (IntOp.cmpi .sge (IntOp.subi (IntOp.addi (Scalar.muli (BitVec.ofNat 32 t.val) 512#32) (BitVec.ofNat 32 j.val)) 8#32) 0#32))
      (IntOp.cmpi .slt (IntOp.subi (IntOp.addi (Scalar.muli (BitVec.ofNat 32 t.val) 512#32) (BitVec.ofNat 32 j.val)) 8#32) 4096#32)
      = if Near t i j then 1#1 else 0#1 := by
  have ht := t.isLt
  have hi := i.isLt
  have hj := j.isLt
  have e0 : (BitVec.ofNat 32 i.val).toInt = i.val := toInt_ofNat_small _ (by omega)
  have e1 : (BitVec.ofNat 32 j.val).toInt = j.val := toInt_ofNat_small _ (by omega)
  have e8 : (8#32 : BitVec 32).toInt = 8 := by decide
  have e2 : (IntOp.subi (BitVec.ofNat 32 j.val) 8#32).toInt = (j.val : Int) - 8 := by
    refine (toInt_sub_of_bounds _ _ ?_ ?_).trans (by rw [e1, e8]) <;> rw [e1, e8] <;> omega
  have e3 : (IntOp.subi (BitVec.ofNat 32 i.val) (IntOp.subi (BitVec.ofNat 32 j.val) 8#32)).toInt = (i.val : Int) - (j.val - 8) := by
    refine (toInt_sub_of_bounds _ _ ?_ ?_).trans (by rw [e0, e2]) <;> rw [e0, e2] <;> omega
  have e4 : Scalar.muli (BitVec.ofNat 32 t.val) 512#32 = BitVec.ofNat 32 (t.val * 512) := muli_ofNat _ _
  have e5 : IntOp.addi (BitVec.ofNat 32 (t.val * 512)) (BitVec.ofNat 32 j.val) = BitVec.ofNat 32 (t.val * 512 + j.val) := addi_ofNat _ _
  have e6 : (BitVec.ofNat 32 (t.val * 512 + j.val)).toInt = ((t.val * 512 + j.val : Nat) : Int) := toInt_ofNat_small _ (by omega)
  have e7 : (IntOp.subi (BitVec.ofNat 32 (t.val * 512 + j.val)) 8#32).toInt = ((t.val * 512 + j.val : Nat) : Int) - 8 := by
    refine (toInt_sub_of_bounds _ _ ?_ ?_).trans (by rw [e6, e8]) <;> rw [e6, e8] <;> omega
  have eabs : ∀ x : BitVec 32, (-1000 ≤ x.toInt ∧ x.toInt ≤ 1000) → (IntOp.absi x).toInt = |x.toInt| := fun x hx => by
    have h0 : (0#32 : BitVec 32).toInt = 0 := by decide
    unfold IntOp.absi
    by_cases hm : x.msb = true
    · have hneg : x.toInt < 0 := of_decide_eq_true ((BitVec.msb_eq_toInt (x := x)).symm.trans hm)
      have e : (0#32 - x).toInt = (0#32 : BitVec 32).toInt - x.toInt := toInt_sub_of_bounds _ _ (by rw [h0]; omega) (by rw [h0]; omega)
      rw [if_pos hm, ← BitVec.zero_sub, e, h0, abs_of_neg hneg, Int.zero_sub]
    · have hpos : ¬x.toInt < 0 := fun h => hm ((BitVec.msb_eq_toInt (x := x)).trans (decide_eq_true h))
      rw [if_neg hm, abs_of_nonneg (Int.not_lt.mp hpos)]
  rw [e4, e5, cmpi_sle_eq, cmpi_sge_eq, cmpi_slt_eq, WordArith.andi_ofBool, WordArith.andi_ofBool, eabs _ (by rw [e3]; omega), e3, e7]
  rw [← ofBool_decide_eq_ite, ← Bool.decide_and, ← Bool.decide_and]
  refine congrArg BitVec.ofBool (decide_eq_decide.mpr ?_)
  have e9 : (4#32 : BitVec 32).toInt = 4 := by decide
  have e10 : (0#32 : BitVec 32).toInt = 0 := by decide
  have e11 : (4096#32 : BitVec 32).toInt = 4096 := by decide
  rw [e9, e10, e11, abs_le]
  unfold Near
  omega

/-! ## The vectors -/

theorem ev : KEv 512 528 where
  dwf := by decide
  swf := by decide
  bw := by decide
  hr := by decide
  hc := by decide
  hb := by decide
  hb' := by decide

/-- The rows around a block: the last eight of the block before, the block, the first eight of the block after. -/
def kCat (x0 x1 x2 : A (T2 512 768)) : A (T2 528 768) :=
  concatenate (T2 528 768) 0 [⟨T2 8 768, View.ld (Val := Elt Ideal) (e' := .f32) x0 r0_1⟩, ⟨T2 512 768, x1⟩, ⟨T2 8 768, View.ld (Val := Elt Ideal) (e' := .f32) x2 r0_2⟩]
    concatenates_S8x768_S512x768_S8x768_S528x768_d0

theorem ld_1 (x : A (T2 512 768)) (j : Fin 8) (d : Fin 768) : View.ld (Val := Elt Ideal) (e' := .f32) x r0_1 (ix2 j d) = x (ix2 (⟨504 + j, by omega⟩ : Fin 512) d) := by
  refine congrArg x (Shape.idx_ext₂ ?_ ?_)
  · exact congrArg (504 + ·) (Nat.one_mul j.val)
  · exact (Nat.zero_add _).trans (Nat.one_mul d.val)

theorem ld_2 (x : A (T2 512 768)) (j : Fin 8) (d : Fin 768) : View.ld (Val := Elt Ideal) (e' := .f32) x r0_2 (ix2 j d) = x (ix2 (⟨j, by omega⟩ : Fin 512) d) := by
  refine congrArg x (Shape.idx_ext₂ ?_ ?_)
  · exact (Nat.zero_add _).trans (Nat.one_mul j.val)
  · exact (Nat.zero_add _).trans (Nat.one_mul d.val)

/-- If the three blocks are the array's, clipped at its ends, their rows are the array's around the block. -/
theorem kCat_around (t : Fin 8) (a : Rows 4096) (x0 x1 x2 : A (T2 512 768))
    (h0 : ∀ i d, rows x0 i d = a (tileRow ⟨t - 1, by omega⟩ i) d) (h1 : ∀ i d, rows x1 i d = a (tileRow t i) d)
    (h2 : ∀ i d, rows x2 i d = a (tileRow ⟨min (t + 1) 7, by omega⟩ i) d) : Around t a (rows (kCat x0 x1 x2)) := by
  intro j hj d
  unfold rows kCat
  have hjl := j.isLt
  by_cases c0 : j.val < 8
  · refine (concatenate_apply_piece (t := T2 528 768) 0 _ _ (ix2 j d) 0 (by simp) (T2 8 768) _ rfl rfl 0 rfl (ix2 (⟨j, c0⟩ : Fin 8) d) ?_ ?_).trans ?_
    · intro b hb
      match b with
      | ⟨0, _⟩ => exact absurd rfl hb
      | ⟨1, _⟩ => rfl
    · exact Nat.zero_add _
    · refine (ld_1 x0 _ d).trans ((h0 _ d).trans (congrArg (fun p => a p d) (Fin.ext ?_)))
      show (t.val - 1) * 512 + (504 + j.val) = t.val * 512 + j.val - 8
      omega
  · by_cases c1 : j.val < 520
    · refine (concatenate_apply_piece (t := T2 528 768) 0 _ _ (ix2 j d) 1 (by simp) (T2 512 768) _ rfl rfl 8 rfl (ix2 (⟨j - 8, by omega⟩ : Fin 512) d) ?_ ?_).trans ?_
      · intro b hb
        match b with
        | ⟨0, _⟩ => exact absurd rfl hb
        | ⟨1, _⟩ => rfl
      · show 8 + (j.val - 8) = j.val
        omega
      · refine (h1 _ d).trans (congrArg (fun p => a p d) (Fin.ext ?_))
        show t.val * 512 + (j.val - 8) = t.val * 512 + j.val - 8
        omega
    · refine (concatenate_apply_piece (t := T2 528 768) 0 _ _ (ix2 j d) 2 (by simp) (T2 8 768) _ rfl rfl 520 rfl (ix2 (⟨j - 520, by omega⟩ : Fin 8) d) ?_ ?_).trans ?_
      · intro b hb
        match b with
        | ⟨0, _⟩ => exact absurd rfl hb
        | ⟨1, _⟩ => rfl
      · show 520 + (j.val - 520) = j.val
        omega
      · refine (ld_2 x2 _ d).trans ((h2 _ d).trans (congrArg (fun p => a p d) (Fin.ext ?_)))
        show min (t.val + 1) 7 * 512 + (j.val - 520) = t.val * 512 + j.val - 8
        have := hj.2
        omega

/-- The exponentials over the rows' sums. -/
def kSoft (x : A (T2 512 528)) : A (T2 512 528) :=
  divf (kExp ev x) (broadcastTo (T2 512 528)
    (shapeCast (T2 512 1) (multiReduction .add [1] (T1 512) (kExp ev x) 0x00000000#32 ev.hr (.inl rfl) rfl) ev.hc) ev.hb)

theorem kSoft_apply (x : A (T2 512 528)) (i : Fin 512) (j : Fin 528) : kSoft x (ix2 i j) = soft (mat x i) j := by
  refine congrArg₂ Ideal.div (kExp_apply ev x i j) ((spread ev.hb _ i j).trans ((rowSum ev.hr ev.hc _ i).trans ?_))
  exact Finset.sum_congr rfl fun j _ => kExp_apply ev x i j

/-- The masked scores. -/
def kMsk (k : IVec (T2 512 528) 1) (x : A (T2 512 528)) : A (T2 512 528) := select k x (broadcast (T2 512 528) mk)

/-- The block's result: the base and a constant times the softmax against the rows around. -/
def kOut (b : A (T2 512 768)) (x : A (T2 512 528)) (v : A (T2 528 768)) : A (T2 512 768) :=
  kStep 0x3E800000#32 b (matmul (φ₁ := .bf16) (φ₂ := .bf16) (kSums ev) none (truncf .bf16 (kSoft x) lt16) v (constant (T2 512 768) .f32 0x00000000#32))

theorem kOut_rows (b : A (T2 512 768)) (x : A (T2 512 528)) (v : A (T2 528 768)) (i : Fin 512) (d : Fin 768) :
    rows (kOut b x v) i d = rows b i d + Ideal.ofBits .f32 0x3E800000#32 * softsum (mat x i) fun j => rows v j d := by
  refine congrArg (fun z : EReal => b (ix2 i d) + Ideal.ofBits .f32 0x3E800000#32 * z) ?_
  have e : ∀ p : A (T2 512 528), matmul (F := Ideal) (φ₁ := .bf16) (φ₂ := .bf16) (kSums ev) none p v (constant (T2 512 768) .f32 0x00000000#32) (ix2 i d)
      = (∑ j, p (ix2 i j) * v (ix2 j d) : EReal) := fun p => by unfold kSums; pointwise
  refine (e _).trans (Finset.sum_congr rfl fun j _ => ?_)
  exact congrArg (fun z : EReal => z * v (ix2 j d)) (kSoft_apply x i j)

/-- The block's result where the mask keeps the neighbours: the window's step on the block's rows. -/
theorem kOut_win (t : Fin 8) {w : A (T2 1 768)} {a v : Rows 4096} (hw : ∀ d, IsReal (row w d)) (ha : AllReal a) (b : A (T2 512 768))
    (k : IVec (T2 512 528) 1) (hk : ∀ i j, k (ix2 i j) = if Near t i j then 1#1 else 0#1) (x1 : A (T2 512 768)) (s u : A (T2 528 768))
    (h1 : ∀ i d, rows x1 i d = a (tileRow t i) d) (hs : Around t a (rows s)) (hu : Around t v (rows u)) (i : Fin 512) (d : Fin 768) :
    rows (kOut b (kMsk k (kSc ev x1 w s)) u) i d = rows b i d + Ideal.ofBits .f32 0x3E800000#32 * win (wsc (row w) a) v (tileRow t i) d := by
  rw [kOut_rows, ← masked_row t i hw ha hs hu d]
  refine congrArg (fun f => rows b i d + Ideal.ofBits .f32 0x3E800000#32 * softsum f fun j => rows u j d) (funext fun j => ?_)
  have e : mat (kMsk k (kSc ev x1 w s)) i j = Scalar.select (k (ix2 i j)) (mat (kSc ev x1 w s) i j) mk := rfl
  rw [e, hk, select_if, kSc_mat, mask_bot]
  refine if_congr Iff.rfl (Finset.sum_congr rfl fun d _ => ?_) rfl
  rw [h1]

end Cert.KernelIdeal.CallWin

end
-- ==== Proof.KRegionWin.lean ====
/-
  The first call's four result arrays: the window's step on the state and on the value, each also in the narrower format.
-/
module

public import proofs.«01_k».proof.Proof.KWin

@[expose] public section

set_option maxRecDepth 16384

noncomputable section

namespace Cert.KernelIdeal.CallWin

open Idealize.ShloMosaic Idealize.ShloMosaic.TcCoe Cert.KernelIdeal Cert.KernelIdeal.Gen Cert.KStage Cert.Spec Cert.HostStage
open Idealize.ShloMosaic.Pipeline (Dat)

/-- The mask's words. -/
def word (g : grid0.Coords) : IVec (T2 512 528) 1 := andi (k0_pay12 g) (cmpi .slt (k0_pay11 g) (broadcast (T2 512 528) 4096#32))

theorem word_apply (t : Fin 8) (g : grid0.Coords) (hg : (g 0).val = t.val) (i : Fin 512) (j : Fin 528) :
    word g (ix2 i j) = if Near t i j then 1#1 else 0#1 := by
  refine Eq.trans ?_ (near_word t i j)
  rw [← hg]
  have e0 : iota .tc S512x528 32 [0] iota_S512x528_d0_w32 (ix2 i j) = BitVec.ofNat 32 i.val := iota_single_apply _ _ _ _ _ _
  have e1 : iota .tc S512x528 32 [1] iota_S512x528_d1_w32 (ix2 i j) = BitVec.ofNat 32 j.val := iota_single_apply _ _ _ _ _ _
  rw [← e0, ← e1]
  rfl

/-- The masked scores of a block. -/
def scores (g : grid0.Coords) (x0 x1 x2 : A (T2 512 768)) (w : A (T2 1 768)) : A (T2 512 528) :=
  kMsk (word g) (kSc ev x1 w (truncf .bf16 (kCat x0 x1 x2) lt16))

theorem pay1_eq (g : grid0.Coords) (x : A (T2 512 528)) :
    k0_pay1 (F := Ideal) x (k0_pay11 g) (k0_pay12 g) 4096#32 = truncf .bf16 (kSoft (kMsk (word g) x)) lt16 := by
  unfold k0_pay1
  rfl

theorem cat_congr {y0 z0 y2 z2 : A (T2 8 768)} {y1 z1 : A (T2 512 768)} (h0 : y0 = z0) (h1 : y1 = z1) (h2 : y2 = z2) :
    concatenate S528x768 0 [⟨S8x768, y0⟩, ⟨S512x768, y1⟩, ⟨S8x768, y2⟩] concatenates_S8x768_S512x768_S8x768_S528x768_d0
      = concatenate (T2 528 768) 0 [⟨T2 8 768, z0⟩, ⟨T2 512 768, z1⟩, ⟨T2 8 768, z2⟩] concatenates_S8x768_S512x768_S8x768_S528x768_d0 := by
  subst h0 h1 h2
  rfl

theorem ld_0 (x : A (T2 512 768)) : View.ld (Val := Elt Ideal) (e' := .f32) x r0_0 = x := View.ld_unit_zero (Val := Elt Ideal) (e := .f32) (S := S512x768) hz _ x

theorem ld_3 (x : A (T2 1 768)) : View.ld (Val := Elt Ideal) (e' := .f32) x r0_3 = x := View.ld_unit_zero (Val := Elt Ideal) (e := .f32) (S := S1x768) hz _ x

theorem pay8_eq (x0 x1 x2 : A (T2 512 768)) : k0_pay8 (F := Ideal) x1 (View.ld (Val := Elt Ideal) (e' := .f32) x0 r0_1) (View.ld (Val := Elt Ideal) (e' := .f32) x2 r0_2)
    = truncf .bf16 (kCat x0 x1 x2) lt16 := by
  unfold k0_pay8 k0_pay6 kCat
  exact congrArg (fun z : A (T2 528 768) => (truncf .bf16 z lt16 : FVec Ideal (T2 528 768) .bf16)) (cat_congr (shapeCast_self _ _) (shapeCast_self _ _) (shapeCast_self _ _))

theorem pay9_eq (x0 x1 x2 : A (T2 512 768)) : k0_pay9 (F := Ideal) x1 (View.ld (Val := Elt Ideal) (e' := .f32) x0 r0_1) (View.ld (Val := Elt Ideal) (e' := .f32) x2 r0_2)
    = truncf .bf16 (kCat x0 x1 x2) lt16 := by
  unfold k0_pay9 k0_pay7 kCat
  exact congrArg (fun z : A (T2 528 768) => (truncf .bf16 z lt16 : FVec Ideal (T2 528 768) .bf16)) (cat_congr (shapeCast_self _ _) (shapeCast_self _ _) (shapeCast_self _ _))

theorem pay10_eq (x0 x1 x2 : A (T2 512 768)) (w : A (T2 1 768)) :
    k0_pay10 (F := Ideal) x1 (View.ld (Val := Elt Ideal) (e' := .f32) x0 r0_1) (View.ld (Val := Elt Ideal) (e' := .f32) x2 r0_2) w
    = kSc ev x1 w (truncf .bf16 (kCat x0 x1 x2) lt16) := by
  unfold k0_pay10
  rw [pay8_eq]
  unfold k0_pay6
  simp only [shapeCast_self]
  rfl

/-- What a step leaves, its operands in the narrower format. -/
theorem pay2_eq (g : grid0.Coords) (b : A (T2 512 768)) (x : A (T2 512 528)) (v : A (T2 528 768)) :
    k0_pay2 (F := Ideal) b (truncf .bf16 v lt16) x (k0_pay11 g) (k0_pay12 g) 4096#32 = kOut b (kMsk (word g) x) v := by
  unfold k0_pay2
  rw [pay1_eq]
  unfold kOut
  rw [← trunc_eq v]
  rfl

theorem pay3_eq (g : grid0.Coords) (b : A (T2 512 768)) (x : A (T2 512 528)) (v : A (T2 528 768)) :
    k0_pay3 (F := Ideal) b (truncf .bf16 v lt16) x (k0_pay11 g) (k0_pay12 g) 4096#32 = kOut b (kMsk (word g) x) v :=
  pay2_eq g b x v

/-- What the body leaves in the state's block. -/
theorem out_state (g : grid0.Coords) (x0 x1 x2 x3 x4 x5 : A (T2 512 768)) (x6 : A (T2 1 768)) :
    rows (n := 512) (out0_7 (F := Ideal) g x0 x1 x2 x3 x4 x5 x6) = rows (n := 512) (kOut x1 (scores g x0 x1 x2 x6) (kCat x0 x1 x2)) := by
  unfold_out out0_7
  rw [View.canon_unit_zero hz]
  simp only [ld_0, ld_3]
  rw [pay10_eq, pay8_eq, k0_pay6, shapeCast_self]
  exact congrArg (rows (n := 512)) (pay2_eq g _ _ _)

/-- What the body leaves in the value's block. -/
theorem out_value (g : grid0.Coords) (x0 x1 x2 x3 x4 x5 : A (T2 512 768)) (x6 : A (T2 1 768)) :
    rows (n := 512) (out0_8 (F := Ideal) g x0 x1 x2 x3 x4 x5 x6) = rows (n := 512) (kOut x4 (scores g x0 x1 x2 x6) (kCat x3 x4 x5)) := by
  unfold_out out0_8
  rw [View.canon_unit_zero hz]
  simp only [ld_0, ld_3]
  rw [pay10_eq, pay9_eq, k0_pay7, shapeCast_self]
  exact congrArg (rows (n := 512)) (pay3_eq g _ _ _)

/-- What the body leaves in the state in the narrower format's block. -/
theorem out_state16 (g : grid0.Coords) (x0 x1 x2 x3 x4 x5 : A (T2 512 768)) (x6 : A (T2 1 768)) :
    rows (n := 512) (out0_9 (F := Ideal) g x0 x1 x2 x3 x4 x5 x6) = rows (n := 512) (kOut x1 (scores g x0 x1 x2 x6) (kCat x0 x1 x2)) := by
  unfold_out out0_9
  rw [View.canon_unit_zero hz]
  simp only [ld_0, ld_3]
  unfold k0_pay4
  change rows (n := 512) (k0_pay2 (F := Ideal) _ _ _ _ _ _) = _
  rw [pay10_eq, pay8_eq, k0_pay6, shapeCast_self]
  exact congrArg (rows (n := 512)) (pay2_eq g _ _ _)

/-- What the body leaves in the value in the narrower format's block. -/
theorem out_value16 (g : grid0.Coords) (x0 x1 x2 x3 x4 x5 : A (T2 512 768)) (x6 : A (T2 1 768)) :
    rows (n := 512) (out0_10 (F := Ideal) g x0 x1 x2 x3 x4 x5 x6) = rows (n := 512) (kOut x4 (scores g x0 x1 x2 x6) (kCat x3 x4 x5)) := by
  unfold_out out0_10
  rw [View.canon_unit_zero hz]
  simp only [ld_0, ld_3]
  unfold k0_pay5
  change rows (n := 512) (k0_pay3 (F := Ideal) _ _ _ _ _ _) = _
  rw [pay10_eq, pay9_eq, k0_pay7, shapeCast_self]
  exact congrArg (rows (n := 512)) (pay3_eq g _ _ _)

variable (V : (c : Dev nD) → (b : Ref sig .tc) → Buf (Elt Ideal) ((c : Thread nD τ).loc b))

theorem coord (t : Fin cfg0.N) : (grid0.coords t 0).val = t.val := by
  rcases fin_N0 t with rfl | rfl | rfl | rfl | rfl | rfl | rfl | rfl <;> rfl

theorem blk_0 (c : Dev nD) (t : Fin cfg0.N) (i : Fin 512) (d : Fin 768) :
    rows (n := 512) (iblk0 V c 0 t) i d = rows (n := 4096) (V c main_v0) (tileRow ⟨t - 1, by have : t.val < 8 := t.isLt; omega⟩ i) d := by
  refine congrArg (V c main_v0) (?_ : ((cfg0.win 0).blk t).view.emb (ix2 i d) = _)
  refine Shape.idx_ext₂ ((Pipeline.Window.rect_emb_val (cfg0.win 0) t _ 0).trans ?_) ((Pipeline.Window.rect_emb_val (cfg0.win 0) t _ 1).trans (Nat.zero_add _))
  rcases fin_N0 t with rfl | rfl | rfl | rfl | rfl | rfl | rfl | rfl <;> rfl

theorem blk_1 (c : Dev nD) (t : Fin cfg0.N) (i : Fin 512) (d : Fin 768) :
    rows (n := 512) (iblk0 V c 1 t) i d = rows (n := 4096) (V c main_v0) (tileRow t i) d := by
  refine congrArg (V c main_v0) (?_ : ((cfg0.win 1).blk t).view.emb (ix2 i d) = _)
  refine Shape.idx_ext₂ ((Pipeline.Window.rect_emb_val (cfg0.win 1) t _ 0).trans ?_) ((Pipeline.Window.rect_emb_val (cfg0.win 1) t _ 1).trans (Nat.zero_add _))
  rcases fin_N0 t with rfl | rfl | rfl | rfl | rfl | rfl | rfl | rfl <;> rfl

theorem blk_2 (c : Dev nD) (t : Fin cfg0.N) (i : Fin 512) (d : Fin 768) :
    rows (n := 512) (iblk0 V c 2 t) i d = rows (n := 4096) (V c main_v0) (tileRow ⟨min (t + 1) 7, by omega⟩ i) d := by
  refine congrArg (V c main_v0) (?_ : ((cfg0.win 2).blk t).view.emb (ix2 i d) = _)
  refine Shape.idx_ext₂ ((Pipeline.Window.rect_emb_val (cfg0.win 2) t _ 0).trans ?_) ((Pipeline.Window.rect_emb_val (cfg0.win 2) t _ 1).trans (Nat.zero_add _))
  rcases fin_N0 t with rfl | rfl | rfl | rfl | rfl | rfl | rfl | rfl <;> rfl

theorem blk_3 (c : Dev nD) (t : Fin cfg0.N) (i : Fin 512) (d : Fin 768) :
    rows (n := 512) (iblk0 V c 3 t) i d = rows (n := 4096) (V c main_v1) (tileRow ⟨t - 1, by have : t.val < 8 := t.isLt; omega⟩ i) d := by
  refine congrArg (V c main_v1) (?_ : ((cfg0.win 3).blk t).view.emb (ix2 i d) = _)
  refine Shape.idx_ext₂ ((Pipeline.Window.rect_emb_val (cfg0.win 3) t _ 0).trans ?_) ((Pipeline.Window.rect_emb_val (cfg0.win 3) t _ 1).trans (Nat.zero_add _))
  rcases fin_N0 t with rfl | rfl | rfl | rfl | rfl | rfl | rfl | rfl <;> rfl

theorem blk_4 (c : Dev nD) (t : Fin cfg0.N) (i : Fin 512) (d : Fin 768) :
    rows (n := 512) (iblk0 V c 4 t) i d = rows (n := 4096) (V c main_v1) (tileRow t i) d := by
  refine congrArg (V c main_v1) (?_ : ((cfg0.win 4).blk t).view.emb (ix2 i d) = _)
  refine Shape.idx_ext₂ ((Pipeline.Window.rect_emb_val (cfg0.win 4) t _ 0).trans ?_) ((Pipeline.Window.rect_emb_val (cfg0.win 4) t _ 1).trans (Nat.zero_add _))
  rcases fin_N0 t with rfl | rfl | rfl | rfl | rfl | rfl | rfl | rfl <;> rfl

theorem blk_5 (c : Dev nD) (t : Fin cfg0.N) (i : Fin 512) (d : Fin 768) :
    rows (n := 512) (iblk0 V c 5 t) i d = rows (n := 4096) (V c main_v1) (tileRow ⟨min (t + 1) 7, by omega⟩ i) d := by
  refine congrArg (V c main_v1) (?_ : ((cfg0.win 5).blk t).view.emb (ix2 i d) = _)
  refine Shape.idx_ext₂ ((Pipeline.Window.rect_emb_val (cfg0.win 5) t _ 0).trans ?_) ((Pipeline.Window.rect_emb_val (cfg0.win 5) t _ 1).trans (Nat.zero_add _))
  rcases fin_N0 t with rfl | rfl | rfl | rfl | rfl | rfl | rfl | rfl <;> rfl

theorem blk_6 (c : Dev nD) (t : Fin cfg0.N) : iblk0 V c 6 t = V c main_v2 :=
  funext fun y => congrArg (V c main_v2) (Shape.idx_ext₂ (Pipeline.Window.rect_emb_val_of_index_zero (cfg0.win 6) t 0 rfl y)
    (Pipeline.Window.rect_emb_val_of_index_zero (cfg0.win 6) t 1 rfl y))

/-- Every row lies in some block. -/
theorem in_tile (i : Fin 4096) : ∃ (t : Fin cfg0.N) (r : Fin 512), tileRow t r = i :=
  ⟨⟨i / 512, by have := i.isLt; show i.val / 512 < 8; omega⟩, ⟨i % 512, Nat.mod_lt _ (by decide)⟩, Fin.ext (Nat.div_add_mod' i.val 512)⟩

/-- A block of the state's step. -/
theorem step_state (c : Dev nD) (hw : ∀ d, IsReal (row (V c main_v2) d)) (ha : AllReal (rows (n := 4096) (V c main_v0))) (t : Fin cfg0.N) (i : Fin 512) (d : Fin 768) :
    rows (kOut (iblk0 V c 1 t) (scores (grid0.coords t) (iblk0 V c 0 t) (iblk0 V c 1 t) (iblk0 V c 2 t) (iblk0 V c 6 t)) (kCat (iblk0 V c 0 t) (iblk0 V c 1 t) (iblk0 V c 2 t))) i d
      = chg 0x3E800000#32 (rows (n := 4096) (V c main_v0)) (win (wsc (row (V c main_v2)) (rows (n := 4096) (V c main_v0))) (rows (n := 4096) (V c main_v0))) (tileRow t i) d := by
  have hA := kCat_around t _ _ _ _ (blk_0 V c t) (blk_1 V c t) (blk_2 V c t)
  rw [blk_6]
  refine (kOut_win t hw ha _ (word (grid0.coords t)) (word_apply t _ (coord t)) _ (truncf .bf16 (kCat _ _ _) lt16) _ (blk_1 V c t) hA hA i d).trans ?_
  rw [blk_1]
  rfl

/-- A block of the value's step. -/
theorem step_value (c : Dev nD) (hw : ∀ d, IsReal (row (V c main_v2) d)) (ha : AllReal (rows (n := 4096) (V c main_v0))) (t : Fin cfg0.N) (i : Fin 512) (d : Fin 768) :
    rows (kOut (iblk0 V c 4 t) (scores (grid0.coords t) (iblk0 V c 0 t) (iblk0 V c 1 t) (iblk0 V c 2 t) (iblk0 V c 6 t)) (kCat (iblk0 V c 3 t) (iblk0 V c 4 t) (iblk0 V c 5 t))) i d
      = chg 0x3E800000#32 (rows (n := 4096) (V c main_v1)) (win (wsc (row (V c main_v2)) (rows (n := 4096) (V c main_v0))) (rows (n := 4096) (V c main_v1))) (tileRow t i) d := by
  have hA := kCat_around t _ _ _ _ (blk_0 V c t) (blk_1 V c t) (blk_2 V c t)
  have hV := kCat_around t _ _ _ _ (blk_3 V c t) (blk_4 V c t) (blk_5 V c t)
  rw [blk_6]
  refine (kOut_win t hw ha _ (word (grid0.coords t)) (word_apply t _ (coord t)) _ (truncf .bf16 (kCat _ _ _) lt16) _ (blk_1 V c t) hA hV i d).trans ?_
  rw [blk_4]
  rfl

theorem emb_state (t : Fin cfg0.N) (i : Fin 512) (d : Fin 768) : ((cfg0.win 7).blk t).view.emb (ix2 i d) = ix2 (tileRow t i) d := by
  refine Shape.idx_ext₂ ((Pipeline.Window.rect_emb_val (cfg0.win 7) t _ 0).trans ?_) ((Pipeline.Window.rect_emb_val (cfg0.win 7) t _ 1).trans (Nat.zero_add _))
  rcases fin_N0 t with rfl | rfl | rfl | rfl | rfl | rfl | rfl | rfl <;> rfl

theorem state_arr (c : Dev nD) (G : Rows 4096) (hG : ∀ t i d, rows (n := 512) ((dat0 V c).after 7 t) i d = G (tileRow t i) d) :
    rows (n := 4096) ((dat0 V c).arrAt 7 cfg0.N) = G := by
  have h := (dat0 V c).arrAt_eq_of_cover 7 (fun x => G (x 0) (x 1)) (fun t _ => funext fun y => by
    obtain ⟨i, d, rfl⟩ := exists_ix2 y
    exact (hG t i d).trans (congrArg (fun x : (T2 4096 768).Idx => G (x 0) (x 1)) (emb_state t i d).symm)) (fun x => by
    obtain ⟨i, d, rfl⟩ := exists_ix2 x
    obtain ⟨t, r, rfl⟩ := in_tile i
    exact ⟨t, flush0_7 t, emb_state t r d ▸ View.emb_mem_set _ _⟩)
  exact funext fun i => funext fun d => congrFun h (ix2 i d)

/-- The state the call leaves: the base and a constant times the window's softmax. -/
theorem state_rows (c : Dev nD) (hw : ∀ d, IsReal (row (V c main_v2) d)) (ha : AllReal (rows (n := 4096) (V c main_v0))) :
    rows (n := 4096) ((dat0 V c).arrAt 7 cfg0.N)
      = chg 0x3E800000#32 (rows (n := 4096) (V c main_v0)) (win (wsc (row (V c main_v2)) (rows (n := 4096) (V c main_v0))) (rows (n := 4096) (V c main_v0))) := by
  refine state_arr V c _ fun t i d => ?_
  rw [after0_7]
  refine (congrFun (congrFun (out_state _ _ _ _ _ _ _ _) i) d).trans ?_
  exact step_state V c hw ha t i d

theorem emb_value (t : Fin cfg0.N) (i : Fin 512) (d : Fin 768) : ((cfg0.win 8).blk t).view.emb (ix2 i d) = ix2 (tileRow t i) d := by
  refine Shape.idx_ext₂ ((Pipeline.Window.rect_emb_val (cfg0.win 8) t _ 0).trans ?_) ((Pipeline.Window.rect_emb_val (cfg0.win 8) t _ 1).trans (Nat.zero_add _))
  rcases fin_N0 t with rfl | rfl | rfl | rfl | rfl | rfl | rfl | rfl <;> rfl

theorem value_arr (c : Dev nD) (G : Rows 4096) (hG : ∀ t i d, rows (n := 512) ((dat0 V c).after 8 t) i d = G (tileRow t i) d) :
    rows (n := 4096) ((dat0 V c).arrAt 8 cfg0.N) = G := by
  have h := (dat0 V c).arrAt_eq_of_cover 8 (fun x => G (x 0) (x 1)) (fun t _ => funext fun y => by
    obtain ⟨i, d, rfl⟩ := exists_ix2 y
    exact (hG t i d).trans (congrArg (fun x : (T2 4096 768).Idx => G (x 0) (x 1)) (emb_value t i d).symm)) (fun x => by
    obtain ⟨i, d, rfl⟩ := exists_ix2 x
    obtain ⟨t, r, rfl⟩ := in_tile i
    exact ⟨t, flush0_8 t, emb_value t r d ▸ View.emb_mem_set _ _⟩)
  exact funext fun i => funext fun d => congrFun h (ix2 i d)

/-- The value the call leaves: the base and a constant times the window's softmax. -/
theorem value_rows (c : Dev nD) (hw : ∀ d, IsReal (row (V c main_v2) d)) (ha : AllReal (rows (n := 4096) (V c main_v0))) :
    rows (n := 4096) ((dat0 V c).arrAt 8 cfg0.N)
      = chg 0x3E800000#32 (rows (n := 4096) (V c main_v1)) (win (wsc (row (V c main_v2)) (rows (n := 4096) (V c main_v0))) (rows (n := 4096) (V c main_v1))) := by
  refine value_arr V c _ fun t i d => ?_
  rw [after0_8]
  refine (congrFun (congrFun (out_value _ _ _ _ _ _ _ _) i) d).trans ?_
  exact step_value V c hw ha t i d

theorem emb_state16 (t : Fin cfg0.N) (i : Fin 512) (d : Fin 768) : ((cfg0.win 9).blk t).view.emb (ix2 i d) = ix2 (tileRow t i) d := by
  refine Shape.idx_ext₂ ((Pipeline.Window.rect_emb_val (cfg0.win 9) t _ 0).trans ?_) ((Pipeline.Window.rect_emb_val (cfg0.win 9) t _ 1).trans (Nat.zero_add _))
  rcases fin_N0 t with rfl | rfl | rfl | rfl | rfl | rfl | rfl | rfl <;> rfl

theorem state16_arr (c : Dev nD) (G : Rows 4096) (hG : ∀ t i d, rows (n := 512) ((dat0 V c).after 9 t) i d = G (tileRow t i) d) :
    rows (n := 4096) ((dat0 V c).arrAt 9 cfg0.N) = G := by
  have h := (dat0 V c).arrAt_eq_of_cover 9 (fun x => G (x 0) (x 1)) (fun t _ => funext fun y => by
    obtain ⟨i, d, rfl⟩ := exists_ix2 y
    exact (hG t i d).trans (congrArg (fun x : (T2 4096 768).Idx => G (x 0) (x 1)) (emb_state16 t i d).symm)) (fun x => by
    obtain ⟨i, d, rfl⟩ := exists_ix2 x
    obtain ⟨t, r, rfl⟩ := in_tile i
    exact ⟨t, flush0_9 t, emb_state16 t r d ▸ View.emb_mem_set _ _⟩)
  exact funext fun i => funext fun d => congrFun h (ix2 i d)

/-- The state in the narrower format the call leaves: the base and a constant times the window's softmax. -/
theorem state16_rows (c : Dev nD) (hw : ∀ d, IsReal (row (V c main_v2) d)) (ha : AllReal (rows (n := 4096) (V c main_v0))) :
    rows (n := 4096) ((dat0 V c).arrAt 9 cfg0.N)
      = chg 0x3E800000#32 (rows (n := 4096) (V c main_v0)) (win (wsc (row (V c main_v2)) (rows (n := 4096) (V c main_v0))) (rows (n := 4096) (V c main_v0))) := by
  refine state16_arr V c _ fun t i d => ?_
  rw [after0_9]
  refine (congrFun (congrFun (out_state16 _ _ _ _ _ _ _ _) i) d).trans ?_
  exact step_state V c hw ha t i d

theorem emb_value16 (t : Fin cfg0.N) (i : Fin 512) (d : Fin 768) : ((cfg0.win 10).blk t).view.emb (ix2 i d) = ix2 (tileRow t i) d := by
  refine Shape.idx_ext₂ ((Pipeline.Window.rect_emb_val (cfg0.win 10) t _ 0).trans ?_) ((Pipeline.Window.rect_emb_val (cfg0.win 10) t _ 1).trans (Nat.zero_add _))
  rcases fin_N0 t with rfl | rfl | rfl | rfl | rfl | rfl | rfl | rfl <;> rfl

theorem value16_arr (c : Dev nD) (G : Rows 4096) (hG : ∀ t i d, rows (n := 512) ((dat0 V c).after 10 t) i d = G (tileRow t i) d) :
    rows (n := 4096) ((dat0 V c).arrAt 10 cfg0.N) = G := by
  have h := (dat0 V c).arrAt_eq_of_cover 10 (fun x => G (x 0) (x 1)) (fun t _ => funext fun y => by
    obtain ⟨i, d, rfl⟩ := exists_ix2 y
    exact (hG t i d).trans (congrArg (fun x : (T2 4096 768).Idx => G (x 0) (x 1)) (emb_value16 t i d).symm)) (fun x => by
    obtain ⟨i, d, rfl⟩ := exists_ix2 x
    obtain ⟨t, r, rfl⟩ := in_tile i
    exact ⟨t, flush0_10 t, emb_value16 t r d ▸ View.emb_mem_set _ _⟩)
  exact funext fun i => funext fun d => congrFun h (ix2 i d)

/-- The value in the narrower format the call leaves: the base and a constant times the window's softmax. -/
theorem value16_rows (c : Dev nD) (hw : ∀ d, IsReal (row (V c main_v2) d)) (ha : AllReal (rows (n := 4096) (V c main_v0))) :
    rows (n := 4096) ((dat0 V c).arrAt 10 cfg0.N)
      = chg 0x3E800000#32 (rows (n := 4096) (V c main_v1)) (win (wsc (row (V c main_v2)) (rows (n := 4096) (V c main_v0))) (rows (n := 4096) (V c main_v1))) := by
  refine value16_arr V c _ fun t i d => ?_
  rw [after0_10]
  refine (congrFun (congrFun (out_value16 _ _ _ _ _ _ _ _) i) d).trans ?_
  exact step_value V c hw ha t i d

end Cert.KernelIdeal.CallWin

end
-- ==== Proof.KRegionS2b.lean ====
/-
  The second call's two result arrays: every row of the state and of the value is the base row and a constant times the routed
  sources.
-/
module

public import proofs.«01_k».proof.Proof.KMask

@[expose] public section

set_option maxRecDepth 16384

noncomputable section

namespace Cert.KernelIdeal.CallS2b

open Idealize.ShloMosaic Idealize.ShloMosaic.TcCoe Cert.KernelIdeal Cert.KernelIdeal.Gen Cert.KStage Cert.Spec Cert.HostStage
open Idealize.ShloMosaic.Pipeline (Dat)

theorem ev : KEv 256 4096 where
  dwf := by decide
  swf := by decide
  bw := by decide
  hr := by decide
  hc := by decide
  hb := by decide
  hb' := by decide

variable (V : (c : Dev nD) → (b : Ref sig .tc) → Buf (Elt Ideal) ((c : Thread nD τ).loc b))

theorem pay3_eq (v0 : A (T2 256 768)) (v1 : A (T2 1 768)) (v6 : FVec Ideal (T2 4096 768) .bf16) :
    k1_pay3 (F := Ideal) v0 v1 v6 = kW ev mk (kSc ev v0 v1 v6) := by
  unfold k1_pay3
  simp only [shapeCast_self]
  rfl

/-- What the body leaves in the state's block. -/
theorem out_state (x0 : A (T2 256 768)) (x1 : A (T2 4096 768)) (x2 x3 : FVec Ideal (T2 4096 768) .bf16) (x4 : A (T2 1 768)) :
    rows (n := 256) (out1_5 (F := Ideal) x0 x1 x2 x3 x4) = chg 0x3E19999A#32 (rows x0) (kroute (sc (rows x0) (row x4) (rows (n := 4096) x2)) (rows x1)) := by
  unfold_out out1_5
  rw [View.canon_unit_zero hz, View.ld_unit_zero hz, View.ld_unit_zero hz, View.ld_unit_zero hz, View.ld_unit_zero hz]
  rw [← kSc_mat ev, ← kRt_rows ev mask_bot]
  unfold k1_pay1 k1_pay4
  simp only [shapeCast_self, pay3_eq]
  rfl

/-- What the body leaves in the value's block. -/
theorem out_value (x0 : A (T2 256 768)) (x1 : A (T2 4096 768)) (x2 x3 : FVec Ideal (T2 4096 768) .bf16) (x4 : A (T2 1 768)) :
    rows (n := 256) (out1_6 (F := Ideal) x0 x1 x2 x3 x4) = chg 0x3E19999A#32 (rows x0) (kroute (sc (rows x0) (row x4) (rows (n := 4096) x2)) (rows (n := 4096) x3)) := by
  unfold_out out1_6
  rw [View.canon_unit_zero hz, View.ld_unit_zero hz, View.ld_unit_zero hz, View.ld_unit_zero hz, View.ld_unit_zero hz]
  rw [← kSc_mat ev, ← kRtB_rows ev mask_bot]
  unfold k1_pay2 k1_pay4
  simp only [shapeCast_self, pay3_eq]
  rfl

/-- A row's place in the whole array. -/
def tileRow (t : Fin 4) (i : Fin 256) : Fin 1024 := ⟨t * 256 + i, by omega⟩

theorem emb_base (t : Fin cfg1.N) (i : Fin 256) (d : Fin 768) : ((cfg1.win 0).blk t).view.emb (ix2 i d) = ix2 (tileRow t i) d := by
  refine Shape.idx_ext₂ ((Pipeline.Window.rect_emb_val (cfg1.win 0) t _ 0).trans ?_) ((Pipeline.Window.rect_emb_val (cfg1.win 0) t _ 1).trans (Nat.zero_add _))
  rcases fin_N1 t with rfl | rfl | rfl | rfl <;> rfl

theorem emb_state (t : Fin cfg1.N) (i : Fin 256) (d : Fin 768) : ((cfg1.win 5).blk t).view.emb (ix2 i d) = ix2 (tileRow t i) d := by
  refine Shape.idx_ext₂ ((Pipeline.Window.rect_emb_val (cfg1.win 5) t _ 0).trans ?_) ((Pipeline.Window.rect_emb_val (cfg1.win 5) t _ 1).trans (Nat.zero_add _))
  rcases fin_N1 t with rfl | rfl | rfl | rfl <;> rfl

theorem emb_value (t : Fin cfg1.N) (i : Fin 256) (d : Fin 768) : ((cfg1.win 6).blk t).view.emb (ix2 i d) = ix2 (tileRow t i) d := by
  refine Shape.idx_ext₂ ((Pipeline.Window.rect_emb_val (cfg1.win 6) t _ 0).trans ?_) ((Pipeline.Window.rect_emb_val (cfg1.win 6) t _ 1).trans (Nat.zero_add _))
  rcases fin_N1 t with rfl | rfl | rfl | rfl <;> rfl

theorem blk_base (c : Dev nD) (t : Fin cfg1.N) : rows (n := 256) (iblk1 V c 0 t) = fun i => rows (n := 1024) (V c main_arg8) (tileRow t i) :=
  funext fun i => funext fun d => congrArg (V c main_arg8) (emb_base t i d)

theorem blk_1 (c : Dev nD) (t : Fin cfg1.N) : iblk1 V c 1 t = V c main_v14_0 :=
  funext fun y => congrArg (V c main_v14_0) (Shape.idx_ext₂ (Pipeline.Window.rect_emb_val_of_index_zero (cfg1.win 1) t 0 rfl y)
    (Pipeline.Window.rect_emb_val_of_index_zero (cfg1.win 1) t 1 rfl y))

theorem blk_2 (c : Dev nD) (t : Fin cfg1.N) : iblk1 V c 2 t = V c main_v14_2 :=
  funext fun y => congrArg (V c main_v14_2) (Shape.idx_ext₂ (Pipeline.Window.rect_emb_val_of_index_zero (cfg1.win 2) t 0 rfl y)
    (Pipeline.Window.rect_emb_val_of_index_zero (cfg1.win 2) t 1 rfl y))

theorem blk_3 (c : Dev nD) (t : Fin cfg1.N) : iblk1 V c 3 t = V c main_v14_3 :=
  funext fun y => congrArg (V c main_v14_3) (Shape.idx_ext₂ (Pipeline.Window.rect_emb_val_of_index_zero (cfg1.win 3) t 0 rfl y)
    (Pipeline.Window.rect_emb_val_of_index_zero (cfg1.win 3) t 1 rfl y))

theorem blk_4 (c : Dev nD) (t : Fin cfg1.N) : iblk1 V c 4 t = V c main_v5 :=
  funext fun y => congrArg (V c main_v5) (Shape.idx_ext₂ (Pipeline.Window.rect_emb_val_of_index_zero (cfg1.win 4) t 0 rfl y)
    (Pipeline.Window.rect_emb_val_of_index_zero (cfg1.win 4) t 1 rfl y))

/-- Every row lies in some block. -/
theorem in_tile (i : Fin 1024) : ∃ (t : Fin cfg1.N) (r : Fin 256), tileRow t r = i :=
  ⟨⟨i / 256, by have := i.isLt; show i.val / 256 < 4; omega⟩, ⟨i % 256, Nat.mod_lt _ (by decide)⟩, Fin.ext (Nat.div_add_mod' i.val 256)⟩

/-- The state's array from its blocks. -/
theorem state_arr (c : Dev nD) (G : Rows 1024) (hG : ∀ t i d, rows (n := 256) ((dat1 V c).after 5 t) i d = G (tileRow t i) d) :
    rows (n := 1024) ((dat1 V c).arrAt 5 cfg1.N) = G := by
  have h := (dat1 V c).arrAt_eq_of_cover 5 (fun x => G (x 0) (x 1)) (fun t _ => funext fun y => by
    obtain ⟨i, d, rfl⟩ := exists_ix2 y
    exact (hG t i d).trans (congrArg (fun x : (T2 1024 768).Idx => G (x 0) (x 1)) (emb_state t i d).symm)) (fun x => by
    obtain ⟨i, d, rfl⟩ := exists_ix2 x
    obtain ⟨t, r, rfl⟩ := in_tile i
    exact ⟨t, flush1_5 t, emb_state t r d ▸ View.emb_mem_set _ _⟩)
  exact funext fun i => funext fun d => congrFun h (ix2 i d)

/-- The value's array from its blocks. -/
theorem value_arr (c : Dev nD) (G : Rows 1024) (hG : ∀ t i d, rows (n := 256) ((dat1 V c).after 6 t) i d = G (tileRow t i) d) :
    rows (n := 1024) ((dat1 V c).arrAt 6 cfg1.N) = G := by
  have h := (dat1 V c).arrAt_eq_of_cover 6 (fun x => G (x 0) (x 1)) (fun t _ => funext fun y => by
    obtain ⟨i, d, rfl⟩ := exists_ix2 y
    exact (hG t i d).trans (congrArg (fun x : (T2 1024 768).Idx => G (x 0) (x 1)) (emb_value t i d).symm)) (fun x => by
    obtain ⟨i, d, rfl⟩ := exists_ix2 x
    obtain ⟨t, r, rfl⟩ := in_tile i
    exact ⟨t, flush1_6 t, emb_value t r d ▸ View.emb_mem_set _ _⟩)
  exact funext fun i => funext fun d => congrFun h (ix2 i d)

/-- The state the call leaves: each row of the base and a constant times the routed sources. -/
theorem state_rows (c : Dev nD) : rows (n := 1024) ((dat1 V c).arrAt 5 cfg1.N)
    = chg 0x3E19999A#32 (rows (n := 1024) (V c main_arg8)) (kroute (sc (rows (n := 1024) (V c main_arg8)) (row (V c main_v5)) (rows (n := 4096) (V c main_v14_2)))
      (rows (n := 4096) (V c main_v14_0))) := by
  refine state_arr V c _ fun t i d => ?_
  rw [after1_5]
  refine (congrFun (congrFun (out_state _ _ _ _ _) i) d).trans ?_
  rw [blk_base, blk_1, blk_2, blk_4]
  rfl

/-- The value the call leaves: each row of the base state and a constant times the routed source values. -/
theorem value_rows (c : Dev nD) : rows (n := 1024) ((dat1 V c).arrAt 6 cfg1.N)
    = chg 0x3E19999A#32 (rows (n := 1024) (V c main_arg8)) (kroute (sc (rows (n := 1024) (V c main_arg8)) (row (V c main_v5)) (rows (n := 4096) (V c main_v14_2)))
      (rows (n := 4096) (V c main_v14_3))) := by
  refine value_arr V c _ fun t i d => ?_
  rw [after1_6]
  refine (congrFun (congrFun (out_value _ _ _ _ _) i) d).trans ?_
  rw [blk_base, blk_2, blk_3, blk_4]
  rfl

end Cert.KernelIdeal.CallS2b

end
-- ==== Proof.KRegionE.lean ====
/-
  The third call's two result arrays: the state is a self route of its state, the value the normalised route of its value by
  the state's scores.
-/
module

public import proofs.«01_k».proof.Proof.KMask

@[expose] public section

set_option maxRecDepth 16384

noncomputable section

namespace Cert.KernelIdeal.CallE

open Idealize.ShloMosaic Idealize.ShloMosaic.TcCoe Cert.KernelIdeal Cert.KernelIdeal.Gen Cert.KStage Cert.Spec Cert.HostStage
open Idealize.ShloMosaic.Pipeline (Dat)

theorem ev : KEv 1024 1024 where
  dwf := by decide
  swf := by decide
  bw := by decide
  hr := by decide
  hc := by decide
  hb := by decide
  hb' := by decide

theorem ln : KLn 1024 where
  hr := by decide
  hc := by decide
  hb := by decide
  bw := by decide

theorem pay3_eq (v0 : A (T2 1024 768)) (v4 : A (T2 1 768)) :
    k2_pay3 (F := Ideal) v0 v4 = kW ev mk (kSc ev v0 v4 (truncf .bf16 v0 lt16)) := by
  unfold k2_pay3 k2_pay1
  simp only [shapeCast_self]
  rfl

/-- What the body leaves in the state's block. -/
theorem out_state (x0 x1 : A (T2 1024 768)) (x2 x3 x4 : A (T2 1 768)) :
    rows (n := 1024) (out2_5 (F := Ideal) x0 x1 x2 x3 x4) = chg 0x3E4CCCCD#32 (rows x0) (kroute (sc (rows x0) (row x2) (rows x0)) (rows x0)) := by
  unfold_out out2_5
  rw [View.canon_unit_zero hz, View.ld_unit_zero hz, View.ld_unit_zero hz]
  refine Eq.trans ?_ ((kRt_rows ev mask_bot _ _ _ _).trans (congrArg (fun s => chg 0x3E4CCCCD#32 (rows x0) (kroute s (rows x0)))
    (kSc_mat ev x0 x2 (truncf .bf16 x0 lt16))))
  unfold k2_pay4 k2_pay1
  simp only [shapeCast_self, pay3_eq]
  rfl

/-- What the body leaves in the value's block. -/
theorem out_value (x0 x1 : A (T2 1024 768)) (x2 x3 x4 : A (T2 1 768)) :
    rows (n := 1024) (out2_6 (F := Ideal) x0 x1 x2 x3 x4)
      = lnorm (chg 0x3E4CCCCD#32 (rows x1) (kroute (sc (rows x0) (row x2) (rows x0)) (rows x1))) (row x3) (row x4) := by
  unfold_out out2_6
  rw [View.canon_unit_zero hz, View.ld_unit_zero hz, View.ld_unit_zero hz, View.ld_unit_zero hz, View.ld_unit_zero hz, View.ld_unit_zero hz]
  refine Eq.trans ?_ ((kNorm_rows ln _ _ _).trans (congrArg (fun s => lnorm s (row x3) (row x4)) ((kRtB_rows ev mask_bot _ _ _ (truncf .bf16 x1 lt16)).trans
    (congrArg (fun s => chg 0x3E4CCCCD#32 (rows x1) (kroute s (rows x1))) (kSc_mat ev x0 x2 (truncf .bf16 x0 lt16))))))
  unfold k2_pay6 k2_pay4 k2_pay2
  simp only [shapeCast_self, pay3_eq]
  rfl

variable (V : (c : Dev nD) → (b : Ref sig .tc) → Buf (Elt Ideal) ((c : Thread nD τ).loc b))

theorem blk_0 (c : Dev nD) (t : Fin cfg2.N) : iblk2 V c 0 t = V c main_v15_0 :=
  funext fun y => congrArg (V c main_v15_0) (Shape.idx_ext₂ (Pipeline.Window.rect_emb_val_of_index_zero (cfg2.win 0) t 0 rfl y)
    (Pipeline.Window.rect_emb_val_of_index_zero (cfg2.win 0) t 1 rfl y))

theorem blk_1 (c : Dev nD) (t : Fin cfg2.N) : iblk2 V c 1 t = V c main_v15_1 :=
  funext fun y => congrArg (V c main_v15_1) (Shape.idx_ext₂ (Pipeline.Window.rect_emb_val_of_index_zero (cfg2.win 1) t 0 rfl y)
    (Pipeline.Window.rect_emb_val_of_index_zero (cfg2.win 1) t 1 rfl y))

theorem blk_2 (c : Dev nD) (t : Fin cfg2.N) : iblk2 V c 2 t = V c main_v3 :=
  funext fun y => congrArg (V c main_v3) (Shape.idx_ext₂ (Pipeline.Window.rect_emb_val_of_index_zero (cfg2.win 2) t 0 rfl y)
    (Pipeline.Window.rect_emb_val_of_index_zero (cfg2.win 2) t 1 rfl y))

theorem blk_3 (c : Dev nD) (t : Fin cfg2.N) : iblk2 V c 3 t = V c main_v10 :=
  funext fun y => congrArg (V c main_v10) (Shape.idx_ext₂ (Pipeline.Window.rect_emb_val_of_index_zero (cfg2.win 3) t 0 rfl y)
    (Pipeline.Window.rect_emb_val_of_index_zero (cfg2.win 3) t 1 rfl y))

theorem blk_4 (c : Dev nD) (t : Fin cfg2.N) : iblk2 V c 4 t = V c main_v11 :=
  funext fun y => congrArg (V c main_v11) (Shape.idx_ext₂ (Pipeline.Window.rect_emb_val_of_index_zero (cfg2.win 4) t 0 rfl y)
    (Pipeline.Window.rect_emb_val_of_index_zero (cfg2.win 4) t 1 rfl y))

theorem emb_state (t : Fin cfg2.N) (y : ((cfg2.win 5).xblock (cfg2.grid.coords t)).Idx) : ((cfg2.win 5).blk t).view.emb y = y :=
  Shape.idx_ext₂ (Pipeline.Window.rect_emb_val_of_index_zero (cfg2.win 5) t 0 rfl y) (Pipeline.Window.rect_emb_val_of_index_zero (cfg2.win 5) t 1 rfl y)

/-- The one block is the whole array. -/
theorem state_arr (c : Dev nD) : (dat2 V c).arrAt 5 cfg2.N = (dat2 V c).after 5 t2_0 :=
  (dat2 V c).arrAt_eq_of_cover 5 _ (fun t _ => funext fun y => by
    obtain rfl := fin_N2 t
    exact congrArg ((dat2 V c).after 5 t2_0) (emb_state t2_0 y).symm) fun x => ⟨t2_0, flush2_5 _, emb_state t2_0 x ▸ View.emb_mem_set _ _⟩

theorem emb_value (t : Fin cfg2.N) (y : ((cfg2.win 6).xblock (cfg2.grid.coords t)).Idx) : ((cfg2.win 6).blk t).view.emb y = y :=
  Shape.idx_ext₂ (Pipeline.Window.rect_emb_val_of_index_zero (cfg2.win 6) t 0 rfl y) (Pipeline.Window.rect_emb_val_of_index_zero (cfg2.win 6) t 1 rfl y)

/-- The one block is the whole array. -/
theorem value_arr (c : Dev nD) : (dat2 V c).arrAt 6 cfg2.N = (dat2 V c).after 6 t2_0 :=
  (dat2 V c).arrAt_eq_of_cover 6 _ (fun t _ => funext fun y => by
    obtain rfl := fin_N2 t
    exact congrArg ((dat2 V c).after 6 t2_0) (emb_value t2_0 y).symm) fun x => ⟨t2_0, flush2_6 _, emb_value t2_0 x ▸ View.emb_mem_set _ _⟩

/-- The state the call leaves. -/
theorem state_rows (c : Dev nD) : rows (n := 1024) ((dat2 V c).arrAt 5 cfg2.N)
    = chg 0x3E4CCCCD#32 (rows (n := 1024) (V c main_v15_0)) (kroute (sc (rows (n := 1024) (V c main_v15_0)) (row (V c main_v3)) (rows (n := 1024) (V c main_v15_0)))
      (rows (n := 1024) (V c main_v15_0))) := by
  rw [state_arr, after2_5]
  refine (out_state _ _ _ _ _).trans ?_
  rw [blk_0, blk_2]

/-- The value the call leaves. -/
theorem value_rows (c : Dev nD) : rows (n := 1024) ((dat2 V c).arrAt 6 cfg2.N)
    = lnorm (chg 0x3E4CCCCD#32 (rows (n := 1024) (V c main_v15_1)) (kroute (sc (rows (n := 1024) (V c main_v15_0)) (row (V c main_v3)) (rows (n := 1024) (V c main_v15_0)))
      (rows (n := 1024) (V c main_v15_1)))) (row (V c main_v10)) (row (V c main_v11)) := by
  rw [value_arr, after2_6]
  refine (out_value _ _ _ _ _).trans ?_
  rw [blk_0, blk_1, blk_2, blk_3, blk_4]

end Cert.KernelIdeal.CallE

end
-- ==== Proof.KRegionC.lean ====
/-
  The fourth call's two result arrays: a route from its sources to its base, then a self route by the new state's scores, the
  value normalised.
-/
module

public import proofs.«01_k».proof.Proof.KMask

@[expose] public section

set_option maxRecDepth 16384

noncomputable section

namespace Cert.KernelIdeal.CallC

open Idealize.ShloMosaic Idealize.ShloMosaic.TcCoe Cert.KernelIdeal Cert.KernelIdeal.Gen Cert.KStage Cert.Spec Cert.HostStage
open Idealize.ShloMosaic.Pipeline (Dat)

theorem evA : KEv 256 1024 where
  dwf := by decide
  swf := by decide
  bw := by decide
  hr := by decide
  hc := by decide
  hb := by decide
  hb' := by decide

theorem evB : KEv 256 256 where
  dwf := by decide
  swf := by decide
  bw := by decide
  hr := by decide
  hc := by decide
  hb := by decide
  hb' := by decide

theorem ln : KLn 256 where
  hr := by decide
  hc := by decide
  hb := by decide
  bw := by decide

theorem pay4_eq (v0 : A (T2 256 768)) (v1 : A (T2 1 768)) (v5 : A (T2 1024 768)) :
    k3_pay4 (F := Ideal) v0 v1 v5 = kW evA mk (kSc evA v0 v1 (truncf .bf16 v5 lt16)) := by
  unfold k3_pay4 k3_pay2
  simp only [shapeCast_self]
  rfl

/-- The base state after the first route. -/
def mid (x0 : A (T2 256 768)) (x1 : A (T2 1024 768)) (x3 : A (T2 1 768)) : A (T2 256 768) :=
  kRt evA mk 0x3E19999A#32 x0 (kSc evA x0 x3 (truncf .bf16 x1 lt16)) x1

/-- The value after the first route. -/
def midV (x0 : A (T2 256 768)) (x1 x2 : A (T2 1024 768)) (x3 : A (T2 1 768)) : A (T2 256 768) :=
  kRtB evA mk 0x3E19999A#32 x0 (kSc evA x0 x3 (truncf .bf16 x1 lt16)) (truncf .bf16 x2 lt16)

theorem mid_rows (x0 : A (T2 256 768)) (x1 : A (T2 1024 768)) (x3 : A (T2 1 768)) :
    rows (mid x0 x1 x3) = chg 0x3E19999A#32 (rows x0) (kroute (sc (rows x0) (row x3) (rows x1)) (rows x1)) :=
  (kRt_rows evA mask_bot _ _ _ _).trans (congrArg (fun s => chg 0x3E19999A#32 (rows x0) (kroute s (rows x1))) (kSc_mat evA x0 x3 (truncf .bf16 x1 lt16)))

theorem midV_rows (x0 : A (T2 256 768)) (x1 x2 : A (T2 1024 768)) (x3 : A (T2 1 768)) :
    rows (midV x0 x1 x2 x3) = chg 0x3E19999A#32 (rows x0) (kroute (sc (rows x0) (row x3) (rows x1)) (rows x2)) :=
  (kRtB_rows evA mask_bot _ _ _ (truncf .bf16 x2 lt16)).trans
    (congrArg (fun s => chg 0x3E19999A#32 (rows x0) (kroute s (rows x2))) (kSc_mat evA x0 x3 (truncf .bf16 x1 lt16)))

theorem pay7_eq (x0 : A (T2 256 768)) (x1 : A (T2 1024 768)) (x3 : A (T2 1 768)) :
    k3_pay7 (F := Ideal) x0 (k3_pay2 x1) (k3_pay4 x0 x3 x1) (k3_pay5 x0 x3 x1) (Scalar.ofBits .f32 0x3F800000#32) = mid x0 x1 x3 := by
  unfold k3_pay5 k3_pay2
  simp only [shapeCast_self, pay4_eq]
  rfl

theorem pay8_eq (x0 : A (T2 256 768)) (x1 x2 : A (T2 1024 768)) (x3 : A (T2 1 768)) :
    k3_pay8 (F := Ideal) x0 (k3_pay3 x2) (k3_pay4 x0 x3 x1) (k3_pay5 x0 x3 x1) (Scalar.ofBits .f32 0x3F800000#32) = midV x0 x1 x2 x3 := by
  unfold k3_pay5 k3_pay3
  simp only [shapeCast_self, pay4_eq]
  rfl

theorem pay9_eq (x0 : A (T2 256 768)) (x1 : A (T2 1024 768)) (x3 x4 : A (T2 1 768)) :
    k3_pay9 (F := Ideal) x0 (k3_pay2 x1) (k3_pay4 x0 x3 x1) (k3_pay5 x0 x3 x1) (Scalar.ofBits .f32 0x3F800000#32) x4
      = kSc evB (mid x0 x1 x3) x4 (truncf .bf16 (mid x0 x1 x3) lt16) := by
  unfold k3_pay9
  simp only [shapeCast_self, pay7_eq]
  rfl

/-- What the body leaves in the state's block. -/
theorem out_state (x0 : A (T2 256 768)) (x1 x2 : A (T2 1024 768)) (x3 x4 x5 x6 : A (T2 1 768)) :
    rows (n := 256) (out3_7 (F := Ideal) x0 x1 x2 x3 x4 x5 x6)
      = chg 0x3E4CCCCD#32 (rows (mid x0 x1 x3)) (kroute (sc (rows (mid x0 x1 x3)) (row x4) (rows (mid x0 x1 x3))) (rows (mid x0 x1 x3))) := by
  unfold_out out3_7
  rw [View.canon_unit_zero hz, View.ld_unit_zero hz, View.ld_unit_zero hz, View.ld_unit_zero hz, View.ld_unit_zero hz]
  refine Eq.trans ?_ ((kRt_rows evB mask_bot _ _ _ _).trans (congrArg (fun s => chg 0x3E4CCCCD#32 (rows (mid x0 x1 x3)) (kroute s (rows (mid x0 x1 x3))))
    (kSc_mat evB (mid x0 x1 x3) x4 (truncf .bf16 (mid x0 x1 x3) lt16))))
  unfold k3_pay12 k3_pay11 k3_pay10
  rw [pay7_eq, pay9_eq]
  rfl

/-- What the body leaves in the value's block. -/
theorem out_value (x0 : A (T2 256 768)) (x1 x2 : A (T2 1024 768)) (x3 x4 x5 x6 : A (T2 1 768)) :
    rows (n := 256) (out3_8 (F := Ideal) x0 x1 x2 x3 x4 x5 x6)
      = lnorm (chg 0x3E4CCCCD#32 (rows (midV x0 x1 x2 x3)) (kroute (sc (rows (mid x0 x1 x3)) (row x4) (rows (mid x0 x1 x3))) (rows (midV x0 x1 x2 x3))))
        (row x5) (row x6) := by
  unfold_out out3_8
  rw [View.canon_unit_zero hz, View.ld_unit_zero hz, View.ld_unit_zero hz, View.ld_unit_zero hz, View.ld_unit_zero hz, View.ld_unit_zero hz, View.ld_unit_zero hz, View.ld_unit_zero hz]
  refine Eq.trans ?_ ((kNorm_rows ln _ _ _).trans (congrArg (fun s => lnorm s (row x5) (row x6))
    ((kRtB_rows evB mask_bot _ _ _ (truncf .bf16 (midV x0 x1 x2 x3) lt16)).trans (congrArg (fun s => chg 0x3E4CCCCD#32 (rows (midV x0 x1 x2 x3)) (kroute s (rows (midV x0 x1 x2 x3))))
    (kSc_mat evB (mid x0 x1 x3) x4 (truncf .bf16 (mid x0 x1 x3) lt16))))))
  unfold k3_pay12 k3_pay11 k3_pay10 k3_pay17 k3_pay18
  simp only [shapeCast_self, pay8_eq, pay9_eq]
  rfl

variable (V : (c : Dev nD) → (b : Ref sig .tc) → Buf (Elt Ideal) ((c : Thread nD τ).loc b))

theorem blk_0 (c : Dev nD) (t : Fin cfg3.N) : iblk3 V c 0 t = V c main_arg9 :=
  funext fun y => congrArg (V c main_arg9) (Shape.idx_ext₂ (Pipeline.Window.rect_emb_val_of_index_zero (cfg3.win 0) t 0 rfl y)
    (Pipeline.Window.rect_emb_val_of_index_zero (cfg3.win 0) t 1 rfl y))

theorem blk_1 (c : Dev nD) (t : Fin cfg3.N) : iblk3 V c 1 t = V c main_v16_0 :=
  funext fun y => congrArg (V c main_v16_0) (Shape.idx_ext₂ (Pipeline.Window.rect_emb_val_of_index_zero (cfg3.win 1) t 0 rfl y)
    (Pipeline.Window.rect_emb_val_of_index_zero (cfg3.win 1) t 1 rfl y))

theorem blk_2 (c : Dev nD) (t : Fin cfg3.N) : iblk3 V c 2 t = V c main_v16_1 :=
  funext fun y => congrArg (V c main_v16_1) (Shape.idx_ext₂ (Pipeline.Window.rect_emb_val_of_index_zero (cfg3.win 2) t 0 rfl y)
    (Pipeline.Window.rect_emb_val_of_index_zero (cfg3.win 2) t 1 rfl y))

theorem blk_3 (c : Dev nD) (t : Fin cfg3.N) : iblk3 V c 3 t = V c main_v6 :=
  funext fun y => congrArg (V c main_v6) (Shape.idx_ext₂ (Pipeline.Window.rect_emb_val_of_index_zero (cfg3.win 3) t 0 rfl y)
    (Pipeline.Window.rect_emb_val_of_index_zero (cfg3.win 3) t 1 rfl y))

theorem blk_4 (c : Dev nD) (t : Fin cfg3.N) : iblk3 V c 4 t = V c main_v4 :=
  funext fun y => congrArg (V c main_v4) (Shape.idx_ext₂ (Pipeline.Window.rect_emb_val_of_index_zero (cfg3.win 4) t 0 rfl y)
    (Pipeline.Window.rect_emb_val_of_index_zero (cfg3.win 4) t 1 rfl y))

theorem blk_5 (c : Dev nD) (t : Fin cfg3.N) : iblk3 V c 5 t = V c main_v12 :=
  funext fun y => congrArg (V c main_v12) (Shape.idx_ext₂ (Pipeline.Window.rect_emb_val_of_index_zero (cfg3.win 5) t 0 rfl y)
    (Pipeline.Window.rect_emb_val_of_index_zero (cfg3.win 5) t 1 rfl y))

theorem blk_6 (c : Dev nD) (t : Fin cfg3.N) : iblk3 V c 6 t = V c main_v13 :=
  funext fun y => congrArg (V c main_v13) (Shape.idx_ext₂ (Pipeline.Window.rect_emb_val_of_index_zero (cfg3.win 6) t 0 rfl y)
    (Pipeline.Window.rect_emb_val_of_index_zero (cfg3.win 6) t 1 rfl y))

theorem emb_state (t : Fin cfg3.N) (y : ((cfg3.win 7).xblock (cfg3.grid.coords t)).Idx) : ((cfg3.win 7).blk t).view.emb y = y :=
  Shape.idx_ext₂ (Pipeline.Window.rect_emb_val_of_index_zero (cfg3.win 7) t 0 rfl y) (Pipeline.Window.rect_emb_val_of_index_zero (cfg3.win 7) t 1 rfl y)

/-- The one block is the whole array. -/
theorem state_arr (c : Dev nD) : (dat3 V c).arrAt 7 cfg3.N = (dat3 V c).after 7 t3_0 :=
  (dat3 V c).arrAt_eq_of_cover 7 _ (fun t _ => funext fun y => by
    obtain rfl := fin_N3 t
    exact congrArg ((dat3 V c).after 7 t3_0) (emb_state t3_0 y).symm) fun x => ⟨t3_0, flush3_7 _, emb_state t3_0 x ▸ View.emb_mem_set _ _⟩

theorem emb_value (t : Fin cfg3.N) (y : ((cfg3.win 8).xblock (cfg3.grid.coords t)).Idx) : ((cfg3.win 8).blk t).view.emb y = y :=
  Shape.idx_ext₂ (Pipeline.Window.rect_emb_val_of_index_zero (cfg3.win 8) t 0 rfl y) (Pipeline.Window.rect_emb_val_of_index_zero (cfg3.win 8) t 1 rfl y)

/-- The one block is the whole array. -/
theorem value_arr (c : Dev nD) : (dat3 V c).arrAt 8 cfg3.N = (dat3 V c).after 8 t3_0 :=
  (dat3 V c).arrAt_eq_of_cover 8 _ (fun t _ => funext fun y => by
    obtain rfl := fin_N3 t
    exact congrArg ((dat3 V c).after 8 t3_0) (emb_value t3_0 y).symm) fun x => ⟨t3_0, flush3_8 _, emb_value t3_0 x ▸ View.emb_mem_set _ _⟩

/-- The state the call leaves. -/
theorem state_rows (c : Dev nD) (S : Rows 256) (hS : S = chg 0x3E19999A#32 (rows (n := 256) (V c main_arg9))
      (kroute (sc (rows (n := 256) (V c main_arg9)) (row (V c main_v6)) (rows (n := 1024) (V c main_v16_0))) (rows (n := 1024) (V c main_v16_0)))) :
    rows (n := 256) ((dat3 V c).arrAt 7 cfg3.N) = chg 0x3E4CCCCD#32 S (kroute (sc S (row (V c main_v4)) S) S) := by
  rw [state_arr, after3_7]
  refine (out_state _ _ _ _ _ _ _).trans ?_
  rw [mid_rows, blk_0, blk_1, blk_3, blk_4, ← hS]

/-- The value the call leaves. -/
theorem value_rows (c : Dev nD) (S U : Rows 256) (hS : S = chg 0x3E19999A#32 (rows (n := 256) (V c main_arg9))
      (kroute (sc (rows (n := 256) (V c main_arg9)) (row (V c main_v6)) (rows (n := 1024) (V c main_v16_0))) (rows (n := 1024) (V c main_v16_0))))
    (hU : U = chg 0x3E19999A#32 (rows (n := 256) (V c main_arg9))
      (kroute (sc (rows (n := 256) (V c main_arg9)) (row (V c main_v6)) (rows (n := 1024) (V c main_v16_0))) (rows (n := 1024) (V c main_v16_1)))) :
    rows (n := 256) ((dat3 V c).arrAt 8 cfg3.N)
      = lnorm (chg 0x3E4CCCCD#32 U (kroute (sc S (row (V c main_v4)) S) U)) (row (V c main_v12)) (row (V c main_v13)) := by
  rw [value_arr, after3_8]
  refine (out_value _ _ _ _ _ _ _).trans ?_
  rw [mid_rows, midV_rows, blk_0, blk_1, blk_2, blk_3, blk_4, blk_5, blk_6, ← hS, ← hU]

end Cert.KernelIdeal.CallC

end
-- ==== Proof.KRegionB2s.lean ====
/-
  The fifth call's result array: the sequence's state after the last route under `tanh`, and its value normalised.
-/
module

public import proofs.«01_k».proof.Proof.KMask

@[expose] public section

set_option maxRecDepth 16384

noncomputable section

namespace Cert.KernelIdeal.CallB2s

open Idealize.ShloMosaic Idealize.ShloMosaic.TcCoe Cert.KernelIdeal Cert.KernelIdeal.Gen Cert.KStage Cert.Spec Cert.HostStage
open Idealize.ShloMosaic.Pipeline (Dat)

theorem ev : KEv 1024 256 where
  dwf := by decide
  swf := by decide
  bw := by decide
  hr := by decide
  hc := by decide
  hb := by decide
  hb' := by decide

theorem ln : KLn 1024 where
  hr := by decide
  hc := by decide
  hb := by decide
  bw := by decide

theorem pay6_eq (v0 : A (T2 1024 768)) (v4 : A (T2 1 768)) (v8 : A (T2 256 768)) :
    k4_pay6 (F := Ideal) v0 v4 v8 = kSc ev v0 v4 (truncf .bf16 v8 lt16) := by
  unfold k4_pay6 k4_pay4 k4_pay2
  simp only [shapeCast_self]
  rfl

theorem pay8_eq (v0 : A (T2 1024 768)) (v4 : A (T2 1 768)) (v8 : A (T2 256 768)) :
    k4_pay8 (F := Ideal) v0 v4 v8 = kKeep ev mk (kSc ev v0 v4 (truncf .bf16 v8 lt16)) := by
  unfold k4_pay8 k4_pay7
  rw [pay6_eq]
  rfl

theorem pay9_eq (v0 : A (T2 1024 768)) (v4 : A (T2 1 768)) (v8 : A (T2 256 768)) :
    k4_pay9 (F := Ideal) v0 v4 v8 = kExp ev (kSc ev v0 v4 (truncf .bf16 v8 lt16)) := by
  unfold k4_pay9 k4_pay7
  rw [pay6_eq]
  rfl

/-- The last route of `v` onto `b`. -/
def last (x0 : A (T2 1024 768)) (x2 : A (T2 256 768)) (x4 : A (T2 1 768)) (b : A (T2 1024 768)) (v : A (T2 256 768)) : A (T2 1024 768) :=
  kRtB ev mk 0x3E19999A#32 b (kSc ev x0 x4 (truncf .bf16 x2 lt16)) (truncf .bf16 v lt16)

theorem last_rows (x0 : A (T2 1024 768)) (x2 : A (T2 256 768)) (x4 : A (T2 1 768)) (b : A (T2 1024 768)) (v : A (T2 256 768)) :
    rows (last x0 x2 x4 b v) = chg 0x3E19999A#32 (rows b) (kroute (sc (rows x0) (row x4) (rows x2)) (rows v)) :=
  (kRtB_rows ev mask_bot _ _ _ (truncf .bf16 v lt16)).trans (congrArg (fun s => chg 0x3E19999A#32 (rows b) (kroute s (rows v)))
    (kSc_mat ev x0 x4 (truncf .bf16 x2 lt16)))

/-- One of two layers. -/
def layer {n : Nat} (S U : Rows n) (o : Fin 2) : Rows n := if o = 0 then S else U

theorem layer_congr {n m : Nat} {S U : Rows n} {S' U' : Rows m} {i : Fin n} {j : Fin m} {d : Fin 768} (hS : S i d = S' j d) (hU : U i d = U' j d) (o : Fin 2) :
    layer S U o i d = layer S' U' o j d := by
  unfold layer
  split
  exacts [hS, hU]

/-- The two layers of the block. -/
def two (S U : A (T2 1024 768)) : A (T3 2 1024 768) := fun y => layer (rows S) (rows U) (y 0) (y 1) (y 2)

theorem cast_apply (h : S1024x768.ShapeCasts S1x1024x768) (v : A (T2 1024 768)) (x : S1x1024x768.Idx) : shapeCast S1x1024x768 v h x = v (ix2 (x 1) (x 2)) :=
  (shapeCast_addUnit_apply ![1024, 768] v h x).trans (congrArg v (Shape.idx_ext₂ rfl rfl))

theorem two_hi (S U : A (T2 1024 768)) (x : S1x1024x768.Idx) : two S U (r4_4.emb x) = U (ix2 (x 1) (x 2)) := by
  have h : ∀ o : Fin 2, o.val = 1 + 1 * (x 0 : Nat) → layer (rows S) (rows U) o = rows U := fun o ho => if_neg fun e => by
    rw [e] at ho
    change 0 = 1 + 1 * (x 0 : Nat) at ho
    omega
  refine (congrFun (congrFun (h (r4_4.emb x 0) rfl) (r4_4.emb x 1)) (r4_4.emb x 2)).trans (congrArg U (Shape.idx_ext₂ ?_ ?_))
  · exact (Nat.zero_add (1 * (x 1 : Nat))).trans (Nat.one_mul _)
  · exact (Nat.zero_add (1 * (x 2 : Nat))).trans (Nat.one_mul _)

theorem two_lo (S U : A (T2 1024 768)) (x : S1x1024x768.Idx) : two S U (r4_3.emb x) = S (ix2 (x 1) (x 2)) := by
  have h0 : (x 0 : Nat) < 1 := (x 0).isLt
  have h : ∀ o : Fin 2, o.val = 0 + 1 * (x 0 : Nat) → layer (rows S) (rows U) o = rows S := fun o ho => if_pos (Fin.ext (ho.trans (by
    show 0 + 1 * (x 0 : Nat) = 0
    omega)))
  refine (congrFun (congrFun (h (r4_3.emb x 0) rfl) (r4_3.emb x 1)) (r4_3.emb x 2)).trans (congrArg S (Shape.idx_ext₂ ?_ ?_))
  · exact (Nat.zero_add (1 * (x 1 : Nat))).trans (Nat.one_mul _)
  · exact (Nat.zero_add (1 * (x 2 : Nat))).trans (Nat.one_mul _)

theorem pay12_eq (x0 : A (T2 1024 768)) (x2 : A (T2 256 768)) (x4 : A (T2 1 768)) :
    k4_pay12 (F := Ideal) (k4_pay2 (F := Ideal) x0) (k4_pay4 (F := Ideal) x2) (k4_pay8 (F := Ideal) x0 x4 x2) (k4_pay9 (F := Ideal) x0 x4 x2) (Scalar.ofBits .f32 0x00000000#32)
      = shapeCast S1x1024x768 (tanh (last x0 x2 x4 x0 x2)) shapeCasts_S1024x768_S1x1024x768 := by
  unfold k4_pay2 k4_pay4
  simp only [shapeCast_self, pay8_eq, pay9_eq]
  rfl

theorem pay1_eq (x0 x1 : A (T2 1024 768)) (x2 x3 : A (T2 256 768)) (x4 x5 x6 : A (T2 1 768)) :
    k4_pay1 (F := Ideal) (k4_pay13 (F := Ideal) (k4_pay3 (F := Ideal) x1) (k4_pay5 (F := Ideal) x3) (k4_pay8 (F := Ideal) x0 x4 x2) (k4_pay9 (F := Ideal) x0 x4 x2) (Scalar.ofBits .f32 0x00000000#32)) (k4_pay14 (F := Ideal) x5) (k4_pay15 (F := Ideal) x6)
      (k4_pay17 (F := Ideal) (k4_pay3 (F := Ideal) x1) (k4_pay5 (F := Ideal) x3) (k4_pay8 (F := Ideal) x0 x4 x2) (k4_pay9 (F := Ideal) x0 x4 x2) (Scalar.ofBits .f32 0x00000000#32))
      (k4_pay18 (F := Ideal) (k4_pay3 (F := Ideal) x1) (k4_pay5 (F := Ideal) x3) (k4_pay8 (F := Ideal) x0 x4 x2) (k4_pay9 (F := Ideal) x0 x4 x2) (Scalar.ofBits .f32 0x00000000#32))
      = shapeCast S1x1024x768 (kNorm ln (last x0 x2 x4 x1 x3) x5 x6) shapeCasts_S1024x768_S1x1024x768 := by
  unfold k4_pay14 k4_pay15 k4_pay3 k4_pay5
  simp only [shapeCast_self, pay8_eq, pay9_eq]
  rfl

/-- What the body leaves in the result's block. -/
theorem out_two (x0 x1 : A (T2 1024 768)) (x2 x3 : A (T2 256 768)) (x4 x5 x6 : A (T2 1 768)) :
    out4_7 (F := Ideal) x0 x1 x2 x3 x4 x5 x6 = two (tanh (last x0 x2 x4 x0 x2)) (kNorm ln (last x0 x2 x4 x1 x3) x5 x6) := by
  funext y
  unfold_out out4_7
  rw [View.ld_unit_zero hz, View.ld_unit_zero hz, View.ld_unit_zero hz, View.ld_unit_zero hz, View.ld_unit_zero hz, View.ld_unit_zero hz, View.ld_unit_zero hz, pay1_eq, pay12_eq]
  refine View.canon_apply_of_pieces (Val := Elt Ideal) (e := .f32) (two (tanh (last x0 x2 x4 x0 x2)) (kNorm ln (last x0 x2 x4 x1 x3) x5 x6)) _ ?_ y (cover4_7 _ _ y)
  intro p hp x
  rcases List.mem_cons.1 hp with rfl | hp
  · exact (cast_apply shapeCasts_S1024x768_S1x1024x768 (kNorm ln (last x0 x2 x4 x1 x3) x5 x6) x).trans (two_hi (tanh (last x0 x2 x4 x0 x2)) _ x).symm
  · obtain rfl := List.mem_singleton.1 hp
    exact (cast_apply shapeCasts_S1024x768_S1x1024x768 (tanh (last x0 x2 x4 x0 x2)) x).trans (two_lo _ (kNorm ln (last x0 x2 x4 x1 x3) x5 x6) x).symm

variable (V : (c : Dev nD) → (b : Ref sig .tc) → Buf (Elt Ideal) ((c : Thread nD τ).loc b))

/-- A row's place in the whole array. -/
def tileRow (t : Fin 4) (i : Fin 1024) : Fin 4096 := ⟨t * 1024 + i, by omega⟩

/-- Every row lies in some block. -/
theorem in_tile (i : Fin 4096) : ∃ (t : Fin cfg4.N) (r : Fin 1024), tileRow t r = i :=
  ⟨⟨i / 1024, by have := i.isLt; show i.val / 1024 < 4; omega⟩, ⟨i % 1024, Nat.mod_lt _ (by decide)⟩, Fin.ext (Nat.div_add_mod' i.val 1024)⟩

theorem emb_state (t : Fin cfg4.N) (i : Fin 1024) (d : Fin 768) : ((cfg4.win 0).blk t).view.emb (ix2 i d) = ix2 (tileRow t i) d := by
  refine Shape.idx_ext₂ ((Pipeline.Window.rect_emb_val (cfg4.win 0) t _ 0).trans ?_) ((Pipeline.Window.rect_emb_val (cfg4.win 0) t _ 1).trans (Nat.zero_add _))
  rcases fin_N4 t with rfl | rfl | rfl | rfl <;> rfl

theorem blk_0 (c : Dev nD) (t : Fin cfg4.N) : rows (n := 1024) (iblk4 V c 0 t) = fun i => rows (n := 4096) (V c main_v14_0) (tileRow t i) :=
  funext fun i => funext fun d => congrArg (V c main_v14_0) (emb_state t i d)

theorem emb_value (t : Fin cfg4.N) (i : Fin 1024) (d : Fin 768) : ((cfg4.win 1).blk t).view.emb (ix2 i d) = ix2 (tileRow t i) d := by
  refine Shape.idx_ext₂ ((Pipeline.Window.rect_emb_val (cfg4.win 1) t _ 0).trans ?_) ((Pipeline.Window.rect_emb_val (cfg4.win 1) t _ 1).trans (Nat.zero_add _))
  rcases fin_N4 t with rfl | rfl | rfl | rfl <;> rfl

theorem blk_1 (c : Dev nD) (t : Fin cfg4.N) : rows (n := 1024) (iblk4 V c 1 t) = fun i => rows (n := 4096) (V c main_v14_1) (tileRow t i) :=
  funext fun i => funext fun d => congrArg (V c main_v14_1) (emb_value t i d)

theorem blk_2 (c : Dev nD) (t : Fin cfg4.N) : iblk4 V c 2 t = V c main_v17_0 :=
  funext fun y => congrArg (V c main_v17_0) (Shape.idx_ext₂ (Pipeline.Window.rect_emb_val_of_index_zero (cfg4.win 2) t 0 rfl y)
    (Pipeline.Window.rect_emb_val_of_index_zero (cfg4.win 2) t 1 rfl y))

theorem blk_3 (c : Dev nD) (t : Fin cfg4.N) : iblk4 V c 3 t = V c main_v17_1 :=
  funext fun y => congrArg (V c main_v17_1) (Shape.idx_ext₂ (Pipeline.Window.rect_emb_val_of_index_zero (cfg4.win 3) t 0 rfl y)
    (Pipeline.Window.rect_emb_val_of_index_zero (cfg4.win 3) t 1 rfl y))

theorem blk_4 (c : Dev nD) (t : Fin cfg4.N) : iblk4 V c 4 t = V c main_v7 :=
  funext fun y => congrArg (V c main_v7) (Shape.idx_ext₂ (Pipeline.Window.rect_emb_val_of_index_zero (cfg4.win 4) t 0 rfl y)
    (Pipeline.Window.rect_emb_val_of_index_zero (cfg4.win 4) t 1 rfl y))

theorem blk_5 (c : Dev nD) (t : Fin cfg4.N) : iblk4 V c 5 t = V c main_v8 :=
  funext fun y => congrArg (V c main_v8) (Shape.idx_ext₂ (Pipeline.Window.rect_emb_val_of_index_zero (cfg4.win 5) t 0 rfl y)
    (Pipeline.Window.rect_emb_val_of_index_zero (cfg4.win 5) t 1 rfl y))

theorem blk_6 (c : Dev nD) (t : Fin cfg4.N) : iblk4 V c 6 t = V c main_v9 :=
  funext fun y => congrArg (V c main_v9) (Shape.idx_ext₂ (Pipeline.Window.rect_emb_val_of_index_zero (cfg4.win 6) t 0 rfl y)
    (Pipeline.Window.rect_emb_val_of_index_zero (cfg4.win 6) t 1 rfl y))

theorem emb_out (t : Fin cfg4.N) (o : Fin 2) (i : Fin 1024) (d : Fin 768) : ((cfg4.win 7).blk t).view.emb (ix3 o i d) = ix3 o (tileRow t i) d := by
  funext a
  refine Fin.ext ((Pipeline.Window.rect_emb_val (cfg4.win 7) t _ a).trans ?_)
  match a with
  | ⟨0, _⟩ => exact Nat.zero_add _
  | ⟨1, _⟩ => rcases fin_N4 t with rfl | rfl | rfl | rfl <;> rfl
  | ⟨2, _⟩ => exact Nat.zero_add _

/-- An index is its three coordinates. -/
theorem exists_ix3 {k l m : Nat} (x : (T3 k l m).Idx) : ∃ o i d, x = ix3 o i d :=
  ⟨x 0, x 1, x 2, funext fun a => match a with
    | ⟨0, _⟩ => rfl
    | ⟨1, _⟩ => rfl
    | ⟨2, _⟩ => rfl⟩

/-- The result's array from its blocks. -/
theorem out_arr (c : Dev nD) (G : Fin 2 → Rows 4096) (hG : ∀ t o i d, ((dat4 V c).after 7 t : A (T3 2 1024 768)) (ix3 o i d) = G o (tileRow t i) d)
    (o : Fin 2) (i : Fin 4096) (d : Fin 768) : ((dat4 V c).arrAt 7 cfg4.N : A (T3 2 4096 768)) (ix3 o i d) = G o i d := by
  have h := (dat4 V c).arrAt_eq_of_cover 7 (fun x => G (x 0) (x 1) (x 2)) (fun t _ => funext fun y => by
    obtain ⟨o, i, d, rfl⟩ := exists_ix3 y
    exact (hG t o i d).trans (congrArg (fun x : (T3 2 4096 768).Idx => G (x 0) (x 1) (x 2)) (emb_out t o i d).symm)) (fun x => by
    obtain ⟨o, i, d, rfl⟩ := exists_ix3 x
    obtain ⟨t, r, rfl⟩ := in_tile i
    exact ⟨t, flush4_7 t, emb_out t o r d ▸ View.emb_mem_set _ _⟩)
  exact congrFun h (ix3 o i d)

/-- The result of the last routes: the state's layer and the value's. -/
def result (s v : Rows 4096) (c g : Rows 256) (w wn bn : Feat) : Fin 2 → Rows 4096 :=
  layer (fun i d => Ideal.tanh (chg 0x3E19999A#32 s (kroute (sc s w c) c) i d)) (lnorm (chg 0x3E19999A#32 v (kroute (sc s w c) g)) wn bn)

/-- The result the call leaves. -/
theorem out_rows (c : Dev nD) (o : Fin 2) (i : Fin 4096) (d : Fin 768) : ((dat4 V c).arrAt 7 cfg4.N : A (T3 2 4096 768)) (ix3 o i d)
    = result (rows (n := 4096) (V c main_v14_0)) (rows (n := 4096) (V c main_v14_1)) (rows (n := 256) (V c main_v17_0)) (rows (n := 256) (V c main_v17_1))
      (row (V c main_v7)) (row (V c main_v8)) (row (V c main_v9)) o i d := by
  refine out_arr V c _ (fun t o i d => ?_) o i d
  rw [after4_7, out_two]
  unfold result
  refine layer_congr ((congrArg Ideal.tanh (congrFun (congrFun (last_rows _ _ _ _ _) i) d)).trans ?_)
    ((congrFun (congrFun ((kNorm_rows ln _ _ _).trans (congrArg (fun s => lnorm s _ _) (last_rows _ _ _ _ _))) i) d).trans ?_) o
  · rw [blk_0, blk_2, blk_4]
    rfl
  · rw [blk_0, blk_1, blk_2, blk_3, blk_4, blk_5, blk_6]
    rfl

end Cert.KernelIdeal.CallB2s

end
-- ==== Proof.KChain.lean ====
/-
  The kernel's result from its arguments: the arrays its five calls leave one after another are the model's levels.
-/
module

public import proofs.«01_k».proof.Proof.HostRef
public import proofs.«01_k».proof.Proof.KRegionWin
public import proofs.«01_k».proof.Proof.KRegionS2b
public import proofs.«01_k».proof.Proof.KRegionE
public import proofs.«01_k».proof.Proof.KRegionC
public import proofs.«01_k».proof.Proof.KRegionB2s

@[expose] public section

set_option maxRecDepth 16384

noncomputable section

namespace Cert.KernelIdeal.Chain

open Idealize.ShloMosaic Idealize.ShloMosaic.TcCoe Idealize.ShloMosaic.StableHlo Cert.KernelIdeal Cert.KernelIdeal.Gen Cert.KStage Cert.Spec Cert.HostStage

/-- The arguments the memory holds at launch. -/
def kArgs (m : (ℓ : Loc nD τ sig) → Buf (Elt Ideal) ℓ) (c : Dev nD) : Args where
  s := m ((c : Thread nD τ).loc main_arg0)
  v := m ((c : Thread nD τ).loc main_arg1)
  wps := m ((c : Thread nD τ).loc main_arg2)
  wpe := m ((c : Thread nD τ).loc main_arg3)
  wpc := m ((c : Thread nD τ).loc main_arg4)
  ws2b := m ((c : Thread nD τ).loc main_arg5)
  we2c := m ((c : Thread nD τ).loc main_arg6)
  wb2s := m ((c : Thread nD τ).loc main_arg7)
  e := m ((c : Thread nD τ).loc main_arg8)
  c := m ((c : Thread nD τ).loc main_arg9)
  lnsw := m ((c : Thread nD τ).loc main_arg10)
  lnsb := m ((c : Thread nD τ).loc main_arg11)
  lnew := m ((c : Thread nD τ).loc main_arg12)
  lneb := m ((c : Thread nD τ).loc main_arg13)
  lncw := m ((c : Thread nD τ).loc main_arg14)
  lncb := m ((c : Thread nD τ).loc main_arg15)

theorem rows_cast (y : A (T3 1 4096 768)) (h : (T3 1 4096 768).ShapeCasts (T2 4096 768)) : rows (shapeCast (T2 4096 768) y h) = rows3 y :=
  funext fun i => funext fun d => (shapeCast_dropUnit_apply ![4096, 768] y h (ix2 i d)).trans (congrArg y (by
    funext a
    match a with
    | ⟨0, _⟩ => rfl
    | ⟨1, _⟩ => rfl
    | ⟨2, _⟩ => rfl))

theorem row_cast (y : A (T1 768)) (h : (T1 768).ShapeCasts (T2 1 768)) : row (shapeCast (T2 1 768) y h) = feat y :=
  funext fun d => (shapeCast_addUnit_apply ![768] y h (ix2 (0 : Fin 1) d)).trans (congrArg y (by
    funext a
    match a with
    | ⟨0, _⟩ => rfl))

variable (m : (ℓ : Loc nD τ sig) → Buf (Elt Ideal) ℓ) (ρ : Dev nD → PrngReg) (c : Dev nD)

/-! ## The host's reshapes -/

theorem at_s0 : rows (n := 4096) (W1 m ρ c (Proc.devRef .tc main_v0)) = (kArgs m c).inp.s0 := rows_cast (m ((c : Thread nD τ).loc main_arg0)) _
theorem at_v0 : rows (n := 4096) (W1 m ρ c (Proc.devRef .tc main_v1)) = (kArgs m c).inp.v0 := rows_cast (m ((c : Thread nD τ).loc main_arg1)) _
theorem at_wps : row (W1 m ρ c (Proc.devRef .tc main_v2)) = (kArgs m c).inp.wps := row_cast (m ((c : Thread nD τ).loc main_arg2)) _
theorem at_wpe : row (W1 m ρ c (Proc.devRef .tc main_v3)) = (kArgs m c).inp.wpe := row_cast (m ((c : Thread nD τ).loc main_arg3)) _
theorem at_wpc : row (W1 m ρ c (Proc.devRef .tc main_v4)) = (kArgs m c).inp.wpc := row_cast (m ((c : Thread nD τ).loc main_arg4)) _
theorem at_ws2b : row (W1 m ρ c (Proc.devRef .tc main_v5)) = (kArgs m c).inp.ws2b := row_cast (m ((c : Thread nD τ).loc main_arg5)) _
theorem at_we2c : row (W1 m ρ c (Proc.devRef .tc main_v6)) = (kArgs m c).inp.we2c := row_cast (m ((c : Thread nD τ).loc main_arg6)) _
theorem at_wb2s : row (W1 m ρ c (Proc.devRef .tc main_v7)) = (kArgs m c).inp.wb2s := row_cast (m ((c : Thread nD τ).loc main_arg7)) _
theorem at_lnsw : row (W1 m ρ c (Proc.devRef .tc main_v8)) = (kArgs m c).inp.lnsw := row_cast (m ((c : Thread nD τ).loc main_arg10)) _
theorem at_lnsb : row (W1 m ρ c (Proc.devRef .tc main_v9)) = (kArgs m c).inp.lnsb := row_cast (m ((c : Thread nD τ).loc main_arg11)) _
theorem at_lnew : row (W1 m ρ c (Proc.devRef .tc main_v10)) = (kArgs m c).inp.lnew := row_cast (m ((c : Thread nD τ).loc main_arg12)) _
theorem at_lneb : row (W1 m ρ c (Proc.devRef .tc main_v11)) = (kArgs m c).inp.lneb := row_cast (m ((c : Thread nD τ).loc main_arg13)) _
theorem at_lncw : row (W1 m ρ c (Proc.devRef .tc main_v12)) = (kArgs m c).inp.lncw := row_cast (m ((c : Thread nD τ).loc main_arg14)) _
theorem at_lncb : row (W1 m ρ c (Proc.devRef .tc main_v13)) = (kArgs m c).inp.lncb := row_cast (m ((c : Thread nD τ).loc main_arg15)) _

/-! ## A buffer no call writes is what the host left -/

theorem keep2 (b : Ref sig .tc) (h : ∀ w : Fin cfg0.W, Pipeline.arrRef spec0 w = b → (cfg0.win w).isOut = false) :
    W2 m ρ c (Proc.devRef .tc b) = W1 m ρ c (Proc.devRef .tc b) := W2_of m ρ c b h
theorem keep3 (b : Ref sig .tc) (h0 : ∀ w : Fin cfg0.W, Pipeline.arrRef spec0 w = b → (cfg0.win w).isOut = false)
    (h1 : ∀ w : Fin cfg1.W, Pipeline.arrRef spec1 w = b → (cfg1.win w).isOut = false) :
    W3 m ρ c (Proc.devRef .tc b) = W1 m ρ c (Proc.devRef .tc b) := (W3_of m ρ c b h1).trans (keep2 m ρ c b h0)
theorem keep4 (b : Ref sig .tc) (h0 : ∀ w : Fin cfg0.W, Pipeline.arrRef spec0 w = b → (cfg0.win w).isOut = false)
    (h1 : ∀ w : Fin cfg1.W, Pipeline.arrRef spec1 w = b → (cfg1.win w).isOut = false)
    (h2 : ∀ w : Fin cfg2.W, Pipeline.arrRef spec2 w = b → (cfg2.win w).isOut = false) :
    W4 m ρ c (Proc.devRef .tc b) = W1 m ρ c (Proc.devRef .tc b) := (W4_of m ρ c b h2).trans (keep3 m ρ c b h0 h1)
theorem keep5 (b : Ref sig .tc) (h0 : ∀ w : Fin cfg0.W, Pipeline.arrRef spec0 w = b → (cfg0.win w).isOut = false)
    (h1 : ∀ w : Fin cfg1.W, Pipeline.arrRef spec1 w = b → (cfg1.win w).isOut = false)
    (h2 : ∀ w : Fin cfg2.W, Pipeline.arrRef spec2 w = b → (cfg2.win w).isOut = false)
    (h3 : ∀ w : Fin cfg3.W, Pipeline.arrRef spec3 w = b → (cfg3.win w).isOut = false) :
    W5 m ρ c (Proc.devRef .tc b) = W1 m ρ c (Proc.devRef .tc b) := (W5_of m ρ c b h3).trans (keep4 m ρ c b h0 h1 h2)

theorem W1_e0 : rows (n := 1024) (W1 m ρ c (Proc.devRef .tc main_arg8)) = (kArgs m c).inp.e0 := congrArg (rows (n := 1024)) (W1_of m ρ c main_arg8 (by decide))
theorem W1_c0 : rows (n := 256) (W1 m ρ c (Proc.devRef .tc main_arg9)) = (kArgs m c).inp.c0 := congrArg (rows (n := 256)) (W1_of m ρ c main_arg9 (by decide))

variable (g : Inputs.Good (kArgs m c).inp)
include g

/-! ## The five calls -/

theorem call0_state : rows (n := 4096) (W2 m ρ c (Proc.devRef .tc main_v14_0)) = (kArgs m c).inp.s1 := by
  have hs : rows (n := 4096) (V1 m ρ c main_v0) = (kArgs m c).inp.s0 := at_s0 m ρ c
  have hv : rows (n := 4096) (V1 m ρ c main_v1) = (kArgs m c).inp.v0 := at_v0 m ρ c
  have hw : row (V1 m ρ c main_v2) = (kArgs m c).inp.wps := at_wps m ρ c
  refine (congrArg (rows (n := 4096)) (W2_arr m ρ c 7)).trans ((CallWin.state_rows (V1 m ρ) c (hw ▸ g.hwps) (hs ▸ g.hs0)).trans ?_)
  rw [hw, hs]
  rfl

theorem call0_value : rows (n := 4096) (W2 m ρ c (Proc.devRef .tc main_v14_1)) = (kArgs m c).inp.v1 := by
  have hs : rows (n := 4096) (V1 m ρ c main_v0) = (kArgs m c).inp.s0 := at_s0 m ρ c
  have hv : rows (n := 4096) (V1 m ρ c main_v1) = (kArgs m c).inp.v0 := at_v0 m ρ c
  have hw : row (V1 m ρ c main_v2) = (kArgs m c).inp.wps := at_wps m ρ c
  refine (congrArg (rows (n := 4096)) (W2_arr m ρ c 8)).trans ((CallWin.value_rows (V1 m ρ) c (hw ▸ g.hwps) (hs ▸ g.hs0)).trans ?_)
  rw [hw, hs, hv]
  rfl

theorem call0_state16 : rows (n := 4096) (W2 m ρ c (Proc.devRef .tc main_v14_2)) = (kArgs m c).inp.s1 := by
  have hs : rows (n := 4096) (V1 m ρ c main_v0) = (kArgs m c).inp.s0 := at_s0 m ρ c
  have hv : rows (n := 4096) (V1 m ρ c main_v1) = (kArgs m c).inp.v0 := at_v0 m ρ c
  have hw : row (V1 m ρ c main_v2) = (kArgs m c).inp.wps := at_wps m ρ c
  refine (congrArg (rows (n := 4096)) (W2_arr m ρ c 9)).trans ((CallWin.state16_rows (V1 m ρ) c (hw ▸ g.hwps) (hs ▸ g.hs0)).trans ?_)
  rw [hw, hs]
  rfl

theorem call0_value16 : rows (n := 4096) (W2 m ρ c (Proc.devRef .tc main_v14_3)) = (kArgs m c).inp.v1 := by
  have hs : rows (n := 4096) (V1 m ρ c main_v0) = (kArgs m c).inp.s0 := at_s0 m ρ c
  have hv : rows (n := 4096) (V1 m ρ c main_v1) = (kArgs m c).inp.v0 := at_v0 m ρ c
  have hw : row (V1 m ρ c main_v2) = (kArgs m c).inp.wps := at_wps m ρ c
  refine (congrArg (rows (n := 4096)) (W2_arr m ρ c 10)).trans ((CallWin.value16_rows (V1 m ρ) c (hw ▸ g.hwps) (hs ▸ g.hs0)).trans ?_)
  rw [hw, hs, hv]
  rfl

theorem call1_state : rows (n := 1024) (W3 m ρ c (Proc.devRef .tc main_v15_0)) = (kArgs m c).inp.e1 := by
  have he : rows (n := 1024) (V2 m ρ c main_arg8) = (kArgs m c).inp.e0 := (congrArg (rows (n := 1024)) (keep2 m ρ c main_arg8 (by decide))).trans (W1_e0 m ρ c)
  have hw : row (V2 m ρ c main_v5) = (kArgs m c).inp.ws2b := (congrArg (row) (keep2 m ρ c main_v5 (by decide))).trans (at_ws2b m ρ c)
  have hs : rows (n := 4096) (V2 m ρ c main_v14_2) = (kArgs m c).inp.s1 := call0_state16 m ρ c g
  have hv : rows (n := 4096) (V2 m ρ c main_v14_0) = (kArgs m c).inp.s1 := call0_state m ρ c g
  refine (congrArg (rows (n := 1024)) (W3_arr m ρ c 5)).trans ((CallS2b.state_rows (V2 m ρ) c).trans ?_)
  rw [he, hw, hs, hv]
  exact congrArg (chg 0x3E19999A#32 _) (kroute_eq Inputs.h4096 g.q1_real g.d1 _)

theorem call1_value : rows (n := 1024) (W3 m ρ c (Proc.devRef .tc main_v15_1)) = (kArgs m c).inp.f1 := by
  have he : rows (n := 1024) (V2 m ρ c main_arg8) = (kArgs m c).inp.e0 := (congrArg (rows (n := 1024)) (keep2 m ρ c main_arg8 (by decide))).trans (W1_e0 m ρ c)
  have hw : row (V2 m ρ c main_v5) = (kArgs m c).inp.ws2b := (congrArg (row) (keep2 m ρ c main_v5 (by decide))).trans (at_ws2b m ρ c)
  have hs : rows (n := 4096) (V2 m ρ c main_v14_2) = (kArgs m c).inp.s1 := call0_state16 m ρ c g
  have hv : rows (n := 4096) (V2 m ρ c main_v14_3) = (kArgs m c).inp.v1 := call0_value16 m ρ c g
  refine (congrArg (rows (n := 1024)) (W3_arr m ρ c 6)).trans ((CallS2b.value_rows (V2 m ρ) c).trans ?_)
  rw [he, hw, hs, hv]
  exact congrArg (chg 0x3E19999A#32 _) (kroute_eq Inputs.h4096 g.q1_real g.d1 _)

theorem call2_state : rows (n := 1024) (W4 m ρ c (Proc.devRef .tc main_v16_0)) = (kArgs m c).inp.e2 := by
  have hw : row (V3 m ρ c main_v3) = (kArgs m c).inp.wpe := (congrArg (row) (keep3 m ρ c main_v3 (by decide) (by decide))).trans (at_wpe m ρ c)
  have he : rows (n := 1024) (V3 m ρ c main_v15_0) = (kArgs m c).inp.e1 := call1_state m ρ c g
  refine (congrArg (rows (n := 1024)) (W4_arr m ρ c 5)).trans ((CallE.state_rows (V3 m ρ) c).trans ?_)
  rw [he, hw]
  exact congrArg (chg 0x3E4CCCCD#32 _) (kroute_eq Inputs.h1024 g.q2_real g.d2 _)

theorem call2_value : rows (n := 1024) (W4 m ρ c (Proc.devRef .tc main_v16_1)) = (kArgs m c).inp.f3 := by
  have hw : row (V3 m ρ c main_v3) = (kArgs m c).inp.wpe := (congrArg (row) (keep3 m ρ c main_v3 (by decide) (by decide))).trans (at_wpe m ρ c)
  have hn : row (V3 m ρ c main_v10) = (kArgs m c).inp.lnew := (congrArg (row) (keep3 m ρ c main_v10 (by decide) (by decide))).trans (at_lnew m ρ c)
  have hb : row (V3 m ρ c main_v11) = (kArgs m c).inp.lneb := (congrArg (row) (keep3 m ρ c main_v11 (by decide) (by decide))).trans (at_lneb m ρ c)
  have he : rows (n := 1024) (V3 m ρ c main_v15_0) = (kArgs m c).inp.e1 := call1_state m ρ c g
  have hf : rows (n := 1024) (V3 m ρ c main_v15_1) = (kArgs m c).inp.f1 := call1_value m ρ c g
  refine (congrArg (rows (n := 1024)) (W4_arr m ρ c 6)).trans ((CallE.value_rows (V3 m ρ) c).trans ?_)
  rw [he, hw, hf, hn, hb]
  rw [kroute_eq Inputs.h1024 (s := sc (kArgs m c).inp.e1 (kArgs m c).inp.wpe (kArgs m c).inp.e1) g.q2_real g.d2]
  rfl

theorem c1_at : (kArgs m c).inp.c1 = chg 0x3E19999A#32 (rows (n := 256) (V4 m ρ c main_arg9))
    (kroute (sc (rows (n := 256) (V4 m ρ c main_arg9)) (row (V4 m ρ c main_v6)) (rows (n := 1024) (V4 m ρ c main_v16_0))) (rows (n := 1024) (V4 m ρ c main_v16_0))) := by
  have hc : rows (n := 256) (V4 m ρ c main_arg9) = (kArgs m c).inp.c0 := (congrArg (rows (n := 256)) (keep4 m ρ c main_arg9 (by decide) (by decide) (by decide))).trans (W1_c0 m ρ c)
  have hw : row (V4 m ρ c main_v6) = (kArgs m c).inp.we2c := (congrArg (row) (keep4 m ρ c main_v6 (by decide) (by decide) (by decide))).trans (at_we2c m ρ c)
  have he : rows (n := 1024) (V4 m ρ c main_v16_0) = (kArgs m c).inp.e2 := call2_state m ρ c g
  rw [hc, hw, he]
  exact congrArg (chg 0x3E19999A#32 _) (kroute_eq Inputs.h1024 g.q3_real g.d3 _).symm

theorem g1_at : (kArgs m c).inp.g1 = chg 0x3E19999A#32 (rows (n := 256) (V4 m ρ c main_arg9))
    (kroute (sc (rows (n := 256) (V4 m ρ c main_arg9)) (row (V4 m ρ c main_v6)) (rows (n := 1024) (V4 m ρ c main_v16_0))) (rows (n := 1024) (V4 m ρ c main_v16_1))) := by
  have hc : rows (n := 256) (V4 m ρ c main_arg9) = (kArgs m c).inp.c0 := (congrArg (rows (n := 256)) (keep4 m ρ c main_arg9 (by decide) (by decide) (by decide))).trans (W1_c0 m ρ c)
  have hw : row (V4 m ρ c main_v6) = (kArgs m c).inp.we2c := (congrArg (row) (keep4 m ρ c main_v6 (by decide) (by decide) (by decide))).trans (at_we2c m ρ c)
  have he : rows (n := 1024) (V4 m ρ c main_v16_0) = (kArgs m c).inp.e2 := call2_state m ρ c g
  have hf : rows (n := 1024) (V4 m ρ c main_v16_1) = (kArgs m c).inp.f3 := call2_value m ρ c g
  rw [hc, hw, he, hf]
  exact congrArg (chg 0x3E19999A#32 _) (kroute_eq Inputs.h1024 g.q3_real g.d3 _).symm

theorem call3_state : rows (n := 256) (W5 m ρ c (Proc.devRef .tc main_v17_0)) = (kArgs m c).inp.c2 := by
  have hw : row (V4 m ρ c main_v4) = (kArgs m c).inp.wpc := (congrArg (row) (keep4 m ρ c main_v4 (by decide) (by decide) (by decide))).trans (at_wpc m ρ c)
  refine (congrArg (rows (n := 256)) (W5_arr m ρ c 7)).trans ((CallC.state_rows (V4 m ρ) c _ (c1_at m ρ c g)).trans ?_)
  rw [hw]
  exact congrArg (chg 0x3E4CCCCD#32 _) (kroute_eq Inputs.h256 g.q4_real g.d4 _)

theorem call3_value : rows (n := 256) (W5 m ρ c (Proc.devRef .tc main_v17_1)) = (kArgs m c).inp.g3 := by
  have hw : row (V4 m ρ c main_v4) = (kArgs m c).inp.wpc := (congrArg (row) (keep4 m ρ c main_v4 (by decide) (by decide) (by decide))).trans (at_wpc m ρ c)
  have hn : row (V4 m ρ c main_v12) = (kArgs m c).inp.lncw := (congrArg (row) (keep4 m ρ c main_v12 (by decide) (by decide) (by decide))).trans (at_lncw m ρ c)
  have hb : row (V4 m ρ c main_v13) = (kArgs m c).inp.lncb := (congrArg (row) (keep4 m ρ c main_v13 (by decide) (by decide) (by decide))).trans (at_lncb m ρ c)
  refine (congrArg (rows (n := 256)) (W5_arr m ρ c 8)).trans ((CallC.value_rows (V4 m ρ) c _ _ (c1_at m ρ c g) (g1_at m ρ c g)).trans ?_)
  rw [hw, hn, hb]
  rw [kroute_eq Inputs.h256 (s := sc (kArgs m c).inp.c1 (kArgs m c).inp.wpc (kArgs m c).inp.c1) g.q4_real g.d4]
  rfl

/-- The last call leaves the state's map in front and the value's behind. -/
theorem call4_apply (o : Fin 2) (i : Fin 4096) (d : Fin 768) : (W6 m ρ c (Proc.devRef .tc main_v18) : A (T3 2 4096 768)) (ix3 o i d)
    = if o = 0 then (kArgs m c).inp.outS i d else (kArgs m c).inp.outV i d := by
  have hw : row (V5 m ρ c main_v7) = (kArgs m c).inp.wb2s := (congrArg (row) (keep5 m ρ c main_v7 (by decide) (by decide) (by decide) (by decide))).trans (at_wb2s m ρ c)
  have hn : row (V5 m ρ c main_v8) = (kArgs m c).inp.lnsw := (congrArg (row) (keep5 m ρ c main_v8 (by decide) (by decide) (by decide) (by decide))).trans (at_lnsw m ρ c)
  have hb : row (V5 m ρ c main_v9) = (kArgs m c).inp.lnsb := (congrArg (row) (keep5 m ρ c main_v9 (by decide) (by decide) (by decide) (by decide))).trans (at_lnsb m ρ c)
  have hs : rows (n := 4096) (V5 m ρ c main_v14_0) = (kArgs m c).inp.s1 := (congrArg (rows (n := 4096)) ((W5_of m ρ c main_v14_0 (by decide)).trans
    ((W4_of m ρ c main_v14_0 (by decide)).trans (W3_of m ρ c main_v14_0 (by decide))))).trans (call0_state m ρ c g)
  have hv : rows (n := 4096) (V5 m ρ c main_v14_1) = (kArgs m c).inp.v1 := (congrArg (rows (n := 4096)) ((W5_of m ρ c main_v14_1 (by decide)).trans
    ((W4_of m ρ c main_v14_1 (by decide)).trans (W3_of m ρ c main_v14_1 (by decide))))).trans (call0_value m ρ c g)
  have hc : rows (n := 256) (V5 m ρ c main_v17_0) = (kArgs m c).inp.c2 := call3_state m ρ c g
  have hg : rows (n := 256) (V5 m ρ c main_v17_1) = (kArgs m c).inp.g3 := call3_value m ρ c g
  refine (congrFun (W6_arr m ρ c 7) (ix3 o i d)).trans ((CallB2s.out_rows (V5 m ρ) c o i d).trans ?_)
  rw [hs, hv, hc, hg, hw, hn, hb]
  unfold CallB2s.result
  rw [kroute_eq Inputs.h256 (s := sc (kArgs m c).inp.s1 (kArgs m c).inp.wb2s (kArgs m c).inp.c2) g.q5_real g.d5,
    kroute_eq Inputs.h256 (s := sc (kArgs m c).inp.s1 (kArgs m c).inp.wb2s (kArgs m c).inp.c2) g.q5_real g.d5]
  unfold CallB2s.layer
  by_cases ho : o = 0
  · rw [if_pos ho, if_pos ho]
    rfl
  · rw [if_neg ho, if_neg ho]
    rfl

/-- The kernel's result is the reference's. -/
theorem result_eq : (W7 m ρ c (Proc.devRef .tc main_v19) : A (T4 2 1 4096 768)) = (kArgs m c).hOut := by
  have e : (W7 m ρ c (Proc.devRef .tc main_v19) : A (T4 2 1 4096 768)) = shapeCast (T4 2 1 4096 768) (W6 m ρ c (Proc.devRef .tc main_v18) : A (T3 2 4096 768))
      shapeCasts_S2x4096x768_S2x1x4096x768 := rfl
  funext x
  obtain ⟨o, i, d, rfl⟩ : ∃ (o : Fin 2) (i : Fin 4096) (d : Fin 768), x = ix4 o (0 : Fin 1) i d := ⟨x 0, x 2, x 3, by
    funext a
    match a with
    | ⟨0, _⟩ => rfl
    | ⟨1, _⟩ => exact Fin.ext (Nat.lt_one_iff.mp (x 1).isLt)
    | ⟨2, _⟩ => rfl
    | ⟨3, _⟩ => rfl⟩
  rw [e, Args.hOut_apply, ← call4_apply m ρ c g]
  refine shapeCast_apply _ _ _ _ ?_
  refine (Shape.rowMajor_val_three (d := ![2, 4096, 768]) (ix3 o i d)).trans
    (Eq.trans ?_ (Shape.rowMajor_val_four (d := ![2, 1, 4096, 768]) (ix4 o (0 : Fin 1) i d)).symm)
  show (o.val * 4096 + i.val) * 768 + d.val = ((o.val * 1 + 0) * 4096 + i.val) * 768 + d.val
  omega

end Cert.KernelIdeal.Chain

end
-- ==== Proof.KRun.lean ====
/-
  The kernel's run: every execution ends with every buffer of the core at the last valuation of the fold over its five calls,
  the arguments as launched.
-/
module

public import proofs.«01_k».proof.Proof.Gen.KernelIdeal.Frame

@[expose] public section

set_option maxRecDepth 16384

noncomputable section

namespace Cert.KernelIdeal.Chain

open Idealize.ShloMosaic Idealize.ShloMosaic.TcCoe Idealize.ShloMosaic.Tactic Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable (m : (ℓ : Loc nD τ sig) → Buf (Elt Ideal) ℓ) (ρ : Dev nD → PrngReg)

/-- The resource model of the machine's memory. -/
abbrev Model : Type := MT nD τ sig Unit (Elt Ideal) ℕ (UR sig nD τ) ℕ

set_option backward.isDefEq.respectTransparency.types false in
/-- Every fair execution of the kernel terminates with the core's buffers at the fold's end. -/
theorem run_all : θ_run defs (onTc (τ := τ) (main (F := Ideal))) ⟨m, fun _ => 0, ρ⟩
    (fun r => ∀ (c : Dev nD) (b : Ref sig .tc), ¬(Proc.devRef .tc b : DevRef τ sig).isScoped →
      r.2.mem ((c.tc : Thread nD τ).loc b) = W7 m ρ c (Proc.devRef .tc b)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp Model)
            ⊢ BI.own (emb₁ (initOf (Pipeline.cells cfgs cellOf_inj) (Pipeline.launchToks cfgs cellOf_inj))) from .rfl)
        iexact Hu
      iapply (show (BI.emp : sProp Model) ⊢ bigSep Finset.univ (fun _ : Dev nD => (BI.emp : sProp Model)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h _ c b hb => h c _ (mem_uc b hb))

end Cert.KernelIdeal.Chain

end
-- ==== Proof.Algebraic.lean ====
/-
  The value claim: under the precondition the kernel at the extended reals ends with the reference's result.
-/
module

public import proofs.«01_k».proof.Defs
public import proofs.«01_k».proof.Proof.PreDecode
public import proofs.«01_k».proof.Proof.RefValue
public import proofs.«01_k».proof.Proof.KChain
public import proofs.«01_k».proof.Proof.KRun

@[expose] public section

set_option maxRecDepth 16384

noncomputable section

namespace Cert.Proof

open Idealize.ShloMosaic Idealize.SL.Sem Cert.HostStage Cert.KernelIdeal.Gen Cert.KernelIdeal.Chain

variable (m : (ℓ : Loc Cert.KernelIdeal.nD Cert.KernelIdeal.τ Cert.KernelIdeal.sig) → Buf (Elt Ideal) ℓ)

/-- Where the precondition holds of the kernel's memory, its inputs are real and its scores distinct. -/
theorem pre_good [Cert.Pre_finite_and_distinct.Facts] (h : Cert.Pre_KernelIdeal_finite_and_distinct m) (c : Dev Cert.KernelIdeal.nD) :
    (kArgs m c).inp.Good := (kArgs m c).good (h c)

/-- From memories agreeing on the arguments, where the precondition holds, the kernel and the reference both run, end with equal
    results and leave the arguments unchanged. -/
theorem algebraic [Cert.Pre_finite_and_distinct.Facts] : Cert.algebraic_KernelIdeal_ReferenceIdeal_pre_finite_and_distinct := by
  intro m ρ m' ρ' hpre hagree
  refine ⟨fun c => (kArgs m c).hOut, (θ_run Cert.KernelIdeal.defs _ _).mono (fun r h c => ?_) (run_all m ρ),
    (θ_run Cert.ReferenceIdeal.defs _ _).mono (fun r h c => ⟨(h c).1.trans ?_, (h c).2⟩) (Cert.ReferenceIdeal.Value.run (F := Ideal) m' ρ')⟩
  · have a : ∀ b : Ref Cert.KernelIdeal.sig .tc, ¬(Proc.devRef .tc b : DevRef Cert.KernelIdeal.τ Cert.KernelIdeal.sig).isScoped → b ∈ argRefs →
        r.2.mem ((c.tc : Thread Cert.KernelIdeal.nD Cert.KernelIdeal.τ).loc b) = m ((c.tc : Thread Cert.KernelIdeal.nD Cert.KernelIdeal.τ).loc b) :=
      fun b hs hb => (h c b hs).trans (W7_args m ρ c b hb)
    exact ⟨(h c Cert.KernelIdeal.main_v19 (by decide)).trans (result_eq m ρ c (pre_good m hpre c)),
      a _ (by decide) (by decide), a _ (by decide) (by decide), a _ (by decide) (by decide), a _ (by decide) (by decide), a _ (by decide) (by decide), a _ (by decide) (by decide), a _ (by decide) (by decide), a _ (by decide) (by decide), a _ (by decide) (by decide), a _ (by decide) (by decide), a _ (by decide) (by decide), a _ (by decide) (by decide), a _ (by decide) (by decide), a _ (by decide) (by decide), a _ (by decide) (by decide), a _ (by decide) (by decide)⟩
  · have e : refArgs (StableHlo.launchContents m' c) = kArgs m c := (Args.mk.injEq ..).mpr (hagree c)
    exact congrArg Args.hOut e

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Algebraic
public import Idealize.ShloMosaic.Adequacy
public import Idealize.ShloMosaic.Init
public import Idealize.ShloMosaic.Lib.Quiescent

@[expose] public section

noncomputable section

namespace Cert.Proof

open Idealize.ShloMosaic Idealize.SL.Sem Cert.HostStage

/-- The kernel runs from any memory, leaves its arguments unchanged and ends with every semaphore at zero. -/
theorem frame_kernel : Cert.quiescent_Kernel := fun m ρ _ => Cert.Kernel.Gen.frame m ρ

/-- The same of the kernel at the extended reals. -/
theorem frame_kernelIdeal : Cert.quiescent_KernelIdeal := fun m ρ _ => Cert.KernelIdeal.Gen.frame m ρ

/-- The same of the reference at the extended reals. -/
theorem frame_referenceIdeal : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- The one rewritten literal: the mask −1e30 is named, and the table gives its name the value −∞. -/
theorem preserves : Cert.preserves_Kernel_KernelIdeal :=
  IdealRules.named_const.statement Cert.KernelIdeal.κ "mask" .f32 0xF149F2CA#32 ⊥ rfl

/-- Every claim: the frames without and with the precondition, the named mask, and the value. -/
theorem claim : Cert.Claim :=
  ⟨Cert.Kernel.Gen.facts, Cert.KernelIdeal.Gen.facts, Cert.ReferenceIdeal.Gen.facts, preFacts,
    frame_kernel, frame_kernelIdeal, fun m ρ _ => frame_kernelIdeal m ρ trivial, frame_referenceIdeal,
    fun m ρ _ => frame_referenceIdeal m ρ trivial, preserves,
    haveI := preFacts
    algebraic⟩

end Cert.Proof

end
